-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v92) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v113) = v0 c
          ∧ r.2.mem ((c.tc : Thread Cert.Reference3Ideal.nD Cert.Reference3Ideal.τ).loc Cert.Reference3Ideal.main_v115) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v142) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S1x16384x2048 : Shape := ⟨3, ![1, 16384, 2048]⟩
abbrev S1x256x2048 : Shape := ⟨3, ![1, 256, 2048]⟩
abbrev S2x2048 : Shape := ⟨2, ![2, 2048]⟩
abbrev S2x2048x2048 : Shape := ⟨3, ![2, 2048, 2048]⟩
abbrev S2x2048x4096 : Shape := ⟨3, ![2, 2048, 4096]⟩
abbrev S2x512 : Shape := ⟨2, ![2, 512]⟩
abbrev S1x512 : Shape := ⟨2, ![1, 512]⟩
abbrev S512 : Shape := ⟨1, ![512]⟩
abbrev S_ : Shape := ⟨0, ![]⟩

class Facts : Prop where
  slices_S2x512_S1x512_1_0 : S2x512.Slices ![1, 0] S1x512
  shapeCasts_S1x512_S512 : S1x512.ShapeCasts S512
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S1x16384x2048 .f32) (main_arg1 : FVec F S1x256x2048 .f32) (main_arg2 : FVec F S2x2048 .f32) (main_arg3 : FVec F S2x2048 .f32) (main_arg4 : FVec F S2x2048x2048 .f32) (main_arg5 : FVec F S2x2048x4096 .f32) (main_arg6 : FVec F S2x2048x2048 .f32) (main_arg7 : FVec F S2x512 .f32) (main_arg8 : FVec F S2x512 .f32) : IVec S_ 1 × IVec S_ 1 :=
  let main_v0 : FVec F S1x512 .f32 := (extractStridedSlice S1x512 ![1, 0] · slices_S2x512_S1x512_1_0) main_arg7
  let main_v1 : FVec F S512 .f32 := shapeCast S512 main_v0 shapeCasts_S1x512_S512
  let main_v2 : FVec F S512 .f32 := Host.absf main_v1
  let main_cst : FVec F S_ .f32 := constant S_ .f32 0x7F800000#32
  let main_v3 : FVec F S512 .f32 := broadcastInDim S512 ![] bcast_S_S512 main_cst
  let main_v4 : IVec S512 1 := cmpf .olt main_v2 main_v3
  let main_c : IVec S_ 1 := constantI S_ 1 1#1
  let main_v5 : IVec S_ 1 := (fun x v => Host.reduce IntOp.andi x v reducesTo_S512_S_d0 h_S_) main_v4 main_c
  let main_v6 : FVec F S1x512 .f32 := (extractStridedSlice S1x512 ![1, 0] · slices_S2x512_S1x512_1_0) main_arg8
  let main_v7 : FVec F S512 .f32 := shapeCast S512 main_v6 shapeCasts_S1x512_S512
  let main_v8 : FVec F S512 .f32 := Host.absf main_v7
  let main_cst_0 : FVec F S_ .f32 := constant S_ .f32 0x7F800000#32
  let main_v9 : FVec F S512 .f32 := broadcastInDim S512 ![] bcast_S_S512 main_cst_0
  let main_v10 : IVec S512 1 := cmpf .olt main_v8 main_v9
  let main_c_1 : IVec S_ 1 := constantI S_ 1 1#1
  let main_v11 : IVec S_ 1 := (fun x v => Host.reduce IntOp.andi x v reducesTo_S512_S_d0 h_S_) main_v10 main_c_1
  (main_v5, main_v11)
-- ==== Pre_finite4.lean ====
abbrev S1x16384x2048 : Shape := ⟨3, ![1, 16384, 2048]⟩
abbrev S16384x5120 : Shape := ⟨2, ![16384, 5120]⟩
abbrev S2x8x513 : Shape := ⟨3, ![2, 8, 513]⟩
abbrev S2x8x128x128 : Shape := ⟨4, ![2, 8, 128, 128]⟩
abbrev S2x8x128 : Shape := ⟨3, ![2, 8, 128]⟩
abbrev S2x1024 : Shape := ⟨2, ![2, 1024]⟩
abbrev S2x2048x2048 : Shape := ⟨3, ![2, 2048, 2048]⟩
abbrev S16384x2048 : Shape := ⟨2, ![16384, 2048]⟩
abbrev S_ : Shape := ⟨0, ![]⟩
abbrev S1x8x513 : Shape := ⟨3, ![1, 8, 513]⟩
abbrev S8x513 : Shape := ⟨2, ![8, 513]⟩

class Facts : Prop where
  slices_S16384x5120_S16384x2048_0_0 : S16384x5120.Slices ![0, 0] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  slices_S2x8x513_S1x8x513_1_0_0 : S2x8x513.Slices ![1, 0, 0] S1x8x513
  shapeCasts_S1x8x513_S8x513 : S1x8x513.ShapeCasts S8x513
  bcast_S_S8x513 : S_.BroadcastsInDim S8x513 (![] : Fin 0 → Fin S8x513.rank)
  reducesTo_S8x513_S_d0_1 : S8x513.ReducesTo [0, 1] S_

variable [Facts]

def fn {F : FTy → Type} [FloatOps F] (main_arg0 : FVec F S1x16384x2048 .f32) (main_arg1 : FVec F S16384x5120 .bf16) (main_arg2 : FVec F S2x8x513 .f32) (main_arg3 : FVec F S2x8x128x128 .f32) (main_arg4 : FVec F S2x8x128 .f32) (main_arg5 : FVec F S2x1024 .f32) (main_arg6 : FVec F S2x1024 .f32) (main_arg7 : FVec F S2x2048x2048 .f32) : IVec S_ 1 × IVec S_ 1 :=
  let main_v0 : FVec F S16384x2048 .bf16 := (extractStridedSlice S16384x2048 ![0, 0] · slices_S16384x5120_S16384x2048_0_0) main_arg1
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_v6 : FVec F S1x8x513 .f32 := (extractStridedSlice S1x8x513 ![1, 0, 0] · slices_S2x8x513_S1x8x513_1_0_0) main_arg2
  let main_v7 : FVec F S8x513 .f32 := shapeCast S8x513 main_v6 shapeCasts_S1x8x513_S8x513
  let main_v8 : FVec F S8x513 .f32 := Host.absf main_v7
  let main_cst_0 : FVec F S_ .f32 := constant S_ .f32 0x7F800000#32
  let main_v9 : FVec F S8x513 .f32 := broadcastInDim S8x513 ![] bcast_S_S8x513 main_cst_0
  let main_v10 : IVec S8x513 1 := cmpf .olt main_v8 main_v9
  let main_c_1 : IVec S_ 1 := constantI S_ 1 1#1
  let main_v11 : IVec S_ 1 := (fun x v => Host.reduce IntOp.andi x v reducesTo_S8x513_S_d0_1 h_S_) main_v10 main_c_1
  (main_v5, main_v11)
-- ==== Kernel.lean ====
abbrev S1x16384x2048 : Shape := ⟨3, ![1, 16384, 2048]⟩
abbrev S2x2048 : Shape := ⟨2, ![2, 2048]⟩
abbrev S2x2048x11008 : Shape := ⟨3, ![2, 2048, 11008]⟩
abbrev S2x5504x2048 : Shape := ⟨3, ![2, 5504, 2048]⟩
abbrev S1x2048x11008 : Shape := ⟨3, ![1, 2048, 11008]⟩
abbrev S16384x2048 : Shape := ⟨2, ![16384, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 12
  | .vmem => 12
  | .smem => 0
  | _ => 0

abbrev bufTy : (tb : Table) → Fin (tcTables nBuf tb) → BufTy
  | .hbm, ⟨0, _⟩ => ⟨S1x16384x2048, .f32⟩
  | .hbm, ⟨1, _⟩ => ⟨S2x2048, .f32⟩
  | .hbm, ⟨2, _⟩ => ⟨S2x2048x11008, .f32⟩
  | .hbm, ⟨3, _⟩ => ⟨S2x5504x2048, .f32⟩
  | .hbm, ⟨4, _⟩ => ⟨S1x2048x11008, .f32⟩
  | .hbm, ⟨5, _⟩ => ⟨S1x2048x11008, .bf16⟩
  | .hbm, ⟨6, _⟩ => ⟨S2x5504x2048, .bf16⟩
  | .hbm, ⟨7, _⟩ => ⟨S16384x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c39_i32 : BitVec 32 := 39#32
  let v1 : BitVec 32 := Scalar.minsi v0 c39_i32
  let c0_i32 : BitVec 32 := 0#32
  let v2 : BitVec 32 := Scalar.addi v1 c0_i32
  let c128_i32 : BitVec 32 := 128#32
  let v3 : BitVec 32 := Scalar.muli v2 c128_i32
  let c0_i32_0 : BitVec 32 := 0#32
  let c0_i32_1 : BitVec 32 := 0#32
  let c0_i32_2 : BitVec 32 := 0#32
  ![c0_i32_0.toNat, c0_i32_1.toNat, v3.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c39_i32 : BitVec 32 := 39#32
  let v1 : BitVec 32 := Scalar.minsi v0 c39_i32
  let c43_i32 : BitVec 32 := 43#32
  let v2 : BitVec 32 := Scalar.addi v1 c43_i32
  let c128_i32 : BitVec 32 := 128#32
  let v3 : BitVec 32 := Scalar.muli v2 c128_i32
  let c0_i32 : BitVec 32 := 0#32
  let c0_i32_0 : BitVec 32 := 0#32
  let c0_i32_1 : BitVec 32 := 0#32
  ![c0_i32.toNat, c0_i32_0.toNat, v3.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c39_i32 : BitVec 32 := 39#32
  let v1 : BitVec 32 := Scalar.minsi v0 c39_i32
  let c0_i32 : BitVec 32 := 0#32
  let v2 : BitVec 32 := Scalar.addi v1 c0_i32
  let c128_i32 : BitVec 32 := 128#32
  let v3 : BitVec 32 := Scalar.muli v2 c128_i32
  let c1_i32 : BitVec 32 := 1#32
  let c0_i32_0 : BitVec 32 := 0#32
  let c0_i32_1 : BitVec 32 := 0#32
  ![c1_i32.toNat, v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S1x16384x2048 : Shape := ⟨3, ![1, 16384, 2048]⟩
abbrev S2x2048 : Shape := ⟨2, ![2, 2048]⟩
abbrev S2x2048x11008 : Shape := ⟨3, ![2, 2048, 11008]⟩
abbrev S2x5504x2048 : Shape := ⟨3, ![2, 5504, 2048]⟩
abbrev S1x2048 : Shape := ⟨2, ![1, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S1x2048x11008 : Shape := ⟨3, ![1, 2048, 11008]⟩
abbrev S2048x11008 : Shape := ⟨2, ![2048, 11008]⟩
abbrev S1x5504x2048 : Shape := ⟨3, ![1, 5504, 2048]⟩
abbrev S5504x2048 : Shape := ⟨2, ![5504, 2048]⟩
abbrev S1x16384x11008 : Shape := ⟨3, ![1, 16384, 11008]⟩
abbrev S1x16384x5504 : Shape := ⟨3, ![1, 16384, 5504]⟩
abbrev S16384x2048 : Shape := ⟨2, ![16384, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2x2048, .f32⟩
  | .hbm, ⟨2, _⟩ => ⟨S2x2048x11008, .f32⟩
  | .hbm, ⟨3, _⟩ => ⟨S2x5504x2048, .f32⟩
  | .hbm, ⟨4, _⟩ => ⟨S1x2048, .f32⟩
  | .hbm, ⟨5, _⟩ => ⟨S2048, .f32⟩
  | .hbm, ⟨6, _⟩ => ⟨S1x16384x2048, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x2048, .f32⟩
  | .hbm, ⟨18, _⟩ => ⟨S1x16384x2048, .f32⟩
  | .hbm, ⟨19, _⟩ => ⟨S1x1x2048, .f32⟩
  | .hbm, ⟨20, _⟩ => ⟨S1x16384x2048, .f32⟩
  | .hbm, ⟨21, _⟩ => ⟨S1x16384x2048, .f32⟩
  | .hbm, ⟨22, _⟩ => ⟨S1x2048x11008, .f32⟩
  | .hbm, ⟨23, _⟩ => ⟨S2048x11008, .f32⟩
  | .hbm, ⟨24, _⟩ => ⟨S1x5504x2048, .f32⟩
  | .hbm, ⟨25, _⟩ => ⟨S5504x2048, .f32⟩
  | .hbm, ⟨26, _⟩ => ⟨S1x16384x11008, .f32⟩
  | .hbm, ⟨27, _⟩ => ⟨S1x16384x5504, .f32⟩
  | .hbm, ⟨28, _⟩ => ⟨S1x16384x5504, .f32⟩
  | .hbm, ⟨29, _⟩ => ⟨S1x16384x5504, .f32⟩
  | .hbm, ⟨30, _⟩ => ⟨S1x16384x5504, .f32⟩
  | .hbm, ⟨31, _⟩ => ⟨S_, .f32⟩
  | .hbm, ⟨32, _⟩ => ⟨S1x16384x5504, .f32⟩
  | .hbm, ⟨33, _⟩ => ⟨S1x16384x5504, .f32⟩
  | .hbm, ⟨34, _⟩ => ⟨S_, .f32⟩
  | .hbm, ⟨35, _⟩ => ⟨S1x16384x5504, .f32⟩
  | .hbm, ⟨36, _⟩ => ⟨S1x16384x5504, .f32⟩
  | .hbm, ⟨37, _⟩ => ⟨S1x16384x5504, .f32⟩
  | .hbm, ⟨38, _⟩ => ⟨S1x16384x5504, .f32⟩
  | .hbm, ⟨39, _⟩ => ⟨S1x16384x2048, .f32⟩
  | .hbm, ⟨40, _⟩ => ⟨S_, .f32⟩
  | .hbm, ⟨41, _⟩ => ⟨S1x16384x2048, .f32⟩
  | .hbm, ⟨42, _⟩ => ⟨S1x16384x2048, .f32⟩
  | .hbm, ⟨43, _⟩ => ⟨S1x16384x2048, .f32⟩
  | .hbm, ⟨44, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel2.lean ====
abbrev S1x16384x2048 : Shape := ⟨3, ![1, 16384, 2048]⟩
abbrev S1x256x2048 : Shape := ⟨3, ![1, 256, 2048]⟩
abbrev S2x2048 : Shape := ⟨2, ![2, 2048]⟩
abbrev S2x2048x2048 : Shape := ⟨3, ![2, 2048, 2048]⟩
abbrev S2x2048x4096 : Shape := ⟨3, ![2, 2048, 4096]⟩
abbrev S2x512 : Shape := ⟨2, ![2, 512]⟩
abbrev S16384x2048 : Shape := ⟨2, ![16384, 2048]⟩
abbrev S256x2048 : Shape := ⟨2, ![256, 2048]⟩
abbrev S1x2048 : Shape := ⟨2, ![1, 2048]⟩
abbrev S2048 : Shape := ⟨1, ![2048]⟩
abbrev S1x512 : Shape := ⟨2, ![1, 512]⟩
abbrev S512 : Shape := ⟨1, ![512]⟩
abbrev S256x4096 : Shape := ⟨2, ![256, 4096]⟩
abbrev S1x2048x1024 : Shape := ⟨3, ![1, 2048, 1024]⟩
abbrev S256x1024 : Shape := ⟨2, ![256, 1024]⟩
abbrev S256 : Shape := ⟨1, ![256]⟩
abbrev S256x1 : Shape := ⟨2, ![256, 1]⟩
abbrev S2048x1024 : Shape := ⟨2, ![2048, 1024]⟩
abbrev S256x512 : Shape := ⟨2, ![256, 512]⟩
abbrev S_ : Shape := ⟨0, ![]⟩
abbrev S512x2048 : Shape := ⟨2, ![512, 2048]⟩
abbrev S1x2048x2048 : Shape := ⟨3, ![1, 2048, 2048]⟩
abbrev S512x1 : Shape := ⟨2, ![512, 1]⟩
abbrev S2048x2048 : Shape := ⟨2, ![2048, 2048]⟩
abbrev S512x512 : Shape := ⟨2, ![512, 512]⟩
abbrev S512x256 : Shape := ⟨2, ![512, 256]⟩

abbrev nBuf : Space → Nat
  | .hbm => 31
  | .vmem => 17
  | .smem => 0
  | _ => 0

abbrev bufTy : (tb : Table) → Fin (tcTables nBuf tb) → BufTy
  | .hbm, ⟨0, _⟩ => ⟨S1x16384x2048, .f32⟩
  | .hbm, ⟨1, _⟩ => ⟨S1x256x2048, .f32⟩
  | .hbm, ⟨2, _⟩ => ⟨S2x2048, .f32⟩
  | .hbm, ⟨3, _⟩ => ⟨S2x2048, .f32⟩
  | .hbm, ⟨4, _⟩ => ⟨S2x2048x2048, .f32⟩
  | .hbm, ⟨5, _⟩ => ⟨S2x2048x4096, .f32⟩
  | .hbm, ⟨6, _⟩ => ⟨S2x2048x2048, .f32⟩
  | .hbm, ⟨7, _⟩ => ⟨S2x512, .f32⟩
  | .hbm, ⟨8, _⟩ => ⟨S2x512, .f32⟩
  | .hbm, ⟨9, _⟩ => ⟨S2x2048x2048, .bf16⟩
  | .hbm, ⟨10, _⟩ => ⟨S2x2048x4096, .bf16⟩
  | .hbm, ⟨11, _⟩ => ⟨S2x2048x2048, .bf16⟩
  | .hbm, ⟨12, _⟩ => ⟨S16384x2048, .f32⟩
  | .hbm, ⟨13, _⟩ => ⟨S256x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S256x4096, .bf16⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S1x512, .f32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S1x512, .f32⟩
  | .hbm, ⟨30, _⟩ => ⟨S16384x2048, .f32⟩
  | .local _ .vmem, ⟨0, _⟩ => ⟨S256x2048, .f32⟩
  | .local _ .vmem, ⟨1, _⟩ => ⟨S1x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x512, .f32⟩
  | .local _ .vmem, ⟨5, _⟩ => ⟨S256x1024, .bf16⟩
  | .local _ .vmem, ⟨6, _⟩ => ⟨S256x1024, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S1x2048x2048, .bf16⟩
  | .local _ .vmem, ⟨11, _⟩ => ⟨S1x512, .f32⟩
  | .local _ .vmem, ⟨12, _⟩ => ⟨S256x4096, .bf16⟩
  | .local _ .vmem, ⟨13, _⟩ => ⟨S1x2048x2048, .bf16⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c2_i32 : BitVec 32 := 2#32
  let v20 : BitVec 1 := Scalar.cmpi .slt arg0 c2_i32
  let v21 : BitVec 32 := Scalar.extui v20
  let c0_i32 : BitVec 32 := 0#32
  let v22 : BitVec 1 := Scalar.cmpi .ne v21 c0_i32
  v22

def k0_cond2 (i : grid0.Coords) : BitVec 1 :=
  let arg0 : BitVec 32 := BitVec.ofNat 32 (i 0).val
  let c2_i32_9 : BitVec 32 := 2#32
  let v23 : BitVec 1 := Scalar.cmpi .sge arg0 c2_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== Reference2Ideal.lean ====
abbrev S1x16384x2048 : Shape := ⟨3, ![1, 16384, 2048]⟩
abbrev S1x256x2048 : Shape := ⟨3, ![1, 256, 2048]⟩
abbrev S2x2048 : Shape := ⟨2, ![2, 2048]⟩
abbrev S2x2048x2048 : Shape := ⟨3, ![2, 2048, 2048]⟩
abbrev S2x2048x4096 : Shape := ⟨3, ![2, 2048, 4096]⟩
abbrev S2x512 : Shape := ⟨2, ![2, 512]⟩
abbrev S1x2048 : Shape := ⟨2, ![1, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S1x256 : Shape := ⟨2, ![1, 256]⟩
abbrev S1x256x1 : Shape := ⟨3, ![1, 256, 1]⟩
abbrev S1x2048x2048 : Shape := ⟨3, ![1, 2048, 2048]⟩
abbrev S2048x2048 : Shape := ⟨2, ![2048, 2048]⟩
abbrev S1x2048x4096 : Shape := ⟨3, ![1, 2048, 4096]⟩
abbrev S2048x4096 : Shape := ⟨2, ![2048, 4096]⟩
abbrev S1x512 : Shape := ⟨2, ![1, 512]⟩
abbrev S512 : Shape := ⟨1, ![512]⟩
abbrev S1x16384x4x512 : Shape := ⟨4, ![1, 16384, 4, 512]⟩
abbrev S1x16384x4 : Shape := ⟨3, ![1, 16384, 4]⟩
abbrev S1x16384x4x1 : Shape := ⟨4, ![1, 16384, 4, 1]⟩
abbrev S1x1x1x512 : Shape := ⟨4, ![1, 1, 1, 512]⟩
abbrev S1x256x4096 : Shape := ⟨3, ![1, 256, 4096]⟩
abbrev S1x256x4x512 : Shape := ⟨4, ![1, 256, 4, 512]⟩
abbrev S1x256x4 : Shape := ⟨3, ![1, 256, 4]⟩
abbrev S1x256x4x1 : Shape := ⟨4, ![1, 256, 4, 1]⟩
abbrev S1x4x16384x256 : Shape := ⟨4, ![1, 4, 16384, 256]⟩
abbrev S1x4x16384 : Shape := ⟨3, ![1, 4, 16384]⟩
abbrev S1x4x16384x1 : Shape := ⟨4, ![1, 4, 16384, 1]⟩
abbrev S1x4x512x16384 : Shape := ⟨4, ![1, 4, 512, 16384]⟩
abbrev S16384x2048 : Shape := ⟨2, ![16384, 2048]⟩

abbrev nBuf : Space → Nat
  | .hbm => 118
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x256x2048, .f32⟩
  | .hbm, ⟨2, _⟩ => ⟨S2x2048, .f32⟩
  | .hbm, ⟨3, _⟩ => ⟨S2x2048, .f32⟩
  | .hbm, ⟨4, _⟩ => ⟨S2x2048x2048, .f32⟩
  | .hbm, ⟨5, _⟩ => ⟨S2x2048x4096, .f32⟩
  | .hbm, ⟨6, _⟩ => ⟨S2x2048x2048, .f32⟩
  | .hbm, ⟨7, _⟩ => ⟨S2x512, .f32⟩
  | .hbm, ⟨8, _⟩ => ⟨S2x512, .f32⟩
  | .hbm, ⟨9, _⟩ => ⟨S1x2048, .f32⟩
  | .hbm, ⟨10, _⟩ => ⟨S2048, .f32⟩
  | .hbm, ⟨11, _⟩ => ⟨S1x16384x2048, .f32⟩
  | .hbm, ⟨12, _⟩ => ⟨S_, .f32⟩
  | .hbm, ⟨13, _⟩ => ⟨S1x16384, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S_, .f32⟩
  | .hbm, ⟨19, _⟩ => ⟨S1x16384x1, .f32⟩
  | .hbm, ⟨20, _⟩ => ⟨S1x16384x1, .f32⟩
  | .hbm, ⟨21, _⟩ => ⟨S1x16384x1, .f32⟩
  | .hbm, ⟨22, _⟩ => ⟨S1x16384x2048, .f32⟩
  | .hbm, ⟨23, _⟩ => ⟨S1x16384x2048, .f32⟩
  | .hbm, ⟨24, _⟩ => ⟨S1x1x2048, .f32⟩
  | .hbm, ⟨25, _⟩ => ⟨S1x16384x2048, .f32⟩
  | .hbm, ⟨26, _⟩ => ⟨S1x16384x2048, .f32⟩
  | .hbm, ⟨27, _⟩ => ⟨S1x2048, .f32⟩
  | .hbm, ⟨28, _⟩ => ⟨S2048, .f32⟩
  | .hbm, ⟨29, _⟩ => ⟨S1x256x2048, .f32⟩
  | .hbm, ⟨30, _⟩ => ⟨S_, .f32⟩
  | .hbm, ⟨31, _⟩ => ⟨S1x256, .f32⟩
  | .hbm, ⟨32, _⟩ => ⟨S1x256x1, .f32⟩
  | .hbm, ⟨33, _⟩ => ⟨S_, .f32⟩
  | .hbm, ⟨34, _⟩ => ⟨S1x256x1, .f32⟩
  | .hbm, ⟨35, _⟩ => ⟨S1x256x1, .f32⟩
  | .hbm, ⟨36, _⟩ => ⟨S_, .f32⟩
  | .hbm, ⟨37, _⟩ => ⟨S1x256x1, .f32⟩
  | .hbm, ⟨38, _⟩ => ⟨S1x256x1, .f32⟩
  | .hbm, ⟨39, _⟩ => ⟨S1x256x1, .f32⟩
  | .hbm, ⟨40, _⟩ => ⟨S1x256x2048, .f32⟩
  | .hbm, ⟨41, _⟩ => ⟨S1x256x2048, .f32⟩
  | .hbm, ⟨42, _⟩ => ⟨S1x1x2048, .f32⟩
  | .hbm, ⟨43, _⟩ => ⟨S1x256x2048, .f32⟩
  | .hbm, ⟨44, _⟩ => ⟨S1x256x2048, .f32⟩
  | .hbm, ⟨45, _⟩ => ⟨S1x2048x2048, .f32⟩
  | .hbm, ⟨46, _⟩ => ⟨S2048x2048, .f32⟩
  | .hbm, ⟨47, _⟩ => ⟨S1x2048x4096, .f32⟩
  | .hbm, ⟨48, _⟩ => ⟨S2048x4096, .f32⟩
  | .hbm, ⟨49, _⟩ => ⟨S1x2048x2048, .f32⟩
  | .hbm, ⟨50, _⟩ => ⟨S2048x2048, .f32⟩
  | .hbm, ⟨51, _⟩ => ⟨S1x512, .f32⟩
  | .hbm, ⟨52, _⟩ => ⟨S512, .f32⟩
  | .hbm, ⟨53, _⟩ => ⟨S1x512, .f32⟩
  | .hbm, ⟨54, _⟩ => ⟨S512, .f32⟩
  | .hbm, ⟨55, _⟩ => ⟨S1x16384x2048, .f32⟩
  | .hbm, ⟨56, _⟩ => ⟨S1x16384x4x512, .f32⟩
  | .hbm, ⟨57, _⟩ => ⟨S1x16384x4x512, .f32⟩
  | .hbm, ⟨58, _⟩ => ⟨S_, .f32⟩
  | .hbm, ⟨59, _⟩ => ⟨S1x16384x4, .f32⟩
  | .hbm, ⟨60, _⟩ => ⟨S1x16384x4x1, .f32⟩
  | .hbm, ⟨61, _⟩ => ⟨S_, .f32⟩
  | .hbm, ⟨62, _⟩ => ⟨S1x16384x4x1, .f32⟩
  | .hbm, ⟨63, _⟩ => ⟨S1x16384x4x1, .f32⟩
  | .hbm, ⟨64, _⟩ => ⟨S_, .f32⟩
  | .hbm, ⟨65, _⟩ => ⟨S1x16384x4x1, .f32⟩
  | .hbm, ⟨66, _⟩ => ⟨S1x16384x4x1, .f32⟩
  | .hbm, ⟨67, _⟩ => ⟨S1x16384x4x1, .f32⟩
  | .hbm, ⟨68, _⟩ => ⟨S1x16384x4x512, .f32⟩
  | .hbm, ⟨69, _⟩ => ⟨S1x16384x4x512, .f32⟩
  | .hbm, ⟨70, _⟩ => ⟨S1x1x1x512, .f32⟩
  | .hbm, ⟨71, _⟩ => ⟨S1x16384x4x512, .f32⟩
  | .hbm, ⟨72, _⟩ => ⟨S1x16384x4x512, .f32⟩
  | .hbm, ⟨73, _⟩ => ⟨S1x256x4096, .f32⟩
  | .hbm, ⟨74, _⟩ => ⟨S1x256x2048, .f32⟩
  | .hbm, ⟨75, _⟩ => ⟨S1x256x2048, .f32⟩
  | .hbm, ⟨76, _⟩ => ⟨S1x256x4x512, .f32⟩
  | .hbm, ⟨77, _⟩ => ⟨S1x256x4x512, .f32⟩
  | .hbm, ⟨78, _⟩ => ⟨S_, .f32⟩
  | .hbm, ⟨79, _⟩ => ⟨S1x256x4, .f32⟩
  | .hbm, ⟨80, _⟩ => ⟨S1x256x4x1, .f32⟩
  | .hbm, ⟨81, _⟩ => ⟨S_, .f32⟩
  | .hbm, ⟨82, _⟩ => ⟨S1x256x4x1, .f32⟩
  | .hbm, ⟨83, _⟩ => ⟨S1x256x4x1, .f32⟩
  | .hbm, ⟨84, _⟩ => ⟨S_, .f32⟩
  | .hbm, ⟨85, _⟩ => ⟨S1x256x4x1, .f32⟩
  | .hbm, ⟨86, _⟩ => ⟨S1x256x4x1, .f32⟩
  | .hbm, ⟨87, _⟩ => ⟨S1x256x4x1, .f32⟩
  | .hbm, ⟨88, _⟩ => ⟨S1x256x4x512, .f32⟩
  | .hbm, ⟨89, _⟩ => ⟨S1x256x4x512, .f32⟩
  | .hbm, ⟨90, _⟩ => ⟨S1x1x1x512, .f32⟩
  | .hbm, ⟨91, _⟩ => ⟨S1x256x4x512, .f32⟩
  | .hbm, ⟨92, _⟩ => ⟨S1x256x4x512, .f32⟩
  | .hbm, ⟨93, _⟩ => ⟨S1x256x4x512, .f32⟩
  | .hbm, ⟨94, _⟩ => ⟨S1x4x16384x256, .f32⟩
  | .hbm, ⟨95, _⟩ => ⟨S_, .f32⟩
  | .hbm, ⟨96, _⟩ => ⟨S1x4x16384x256, .f32⟩
  | .hbm, ⟨97, _⟩ => ⟨S1x4x16384x256, .f32⟩
  | .hbm, ⟨98, _⟩ => ⟨S_, .f32⟩
  | .hbm, ⟨99, _⟩ => ⟨S1x4x16384, .f32⟩
  | .hbm, ⟨100, _⟩ => ⟨S_, .f32⟩
  | .hbm, ⟨101, _⟩ => ⟨S1x4x16384, .f32⟩
  | .hbm, ⟨102, _⟩ => ⟨S1x4x16384, .f32⟩
  | .hbm, ⟨103, _⟩ => ⟨S1x4x16384x1, .f32⟩
  | .hbm, ⟨104, _⟩ => ⟨S1x4x16384x256, .f32⟩
  | .hbm, ⟨105, _⟩ => ⟨S1x4x16384x256, .f32⟩
  | .hbm, ⟨106, _⟩ => ⟨S1x4x16384x256, .f32⟩
  | .hbm, ⟨107, _⟩ => ⟨S_, .f32⟩
  | .hbm, ⟨108, _⟩ => ⟨S1x4x16384, .f32⟩
  | .hbm, ⟨109, _⟩ => ⟨S1x4x16384x1, .f32⟩
  | .hbm, ⟨110, _⟩ => ⟨S1x4x16384x256, .f32⟩
  | .hbm, ⟨111, _⟩ => ⟨S1x4x16384x256, .f32⟩
  | .hbm, ⟨112, _⟩ => ⟨S1x4x512x16384, .f32⟩
  | .hbm, ⟨113, _⟩ => ⟨S1x16384x4x512, .f32⟩
  | .hbm, ⟨114, _⟩ => ⟨S1x16384x2048, .f32⟩
  | .hbm, ⟨115, _⟩ => ⟨S1x16384x2048, .f32⟩
  | .hbm, ⟨116, _⟩ => ⟨S1x16384x2048, .f32⟩
  | .hbm, ⟨117, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_11 : Ref sig .tc := ⟨.hbm, 95, rfl⟩
abbrev main_v74 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]
-- ==== Kernel3.lean ====
abbrev S1x16384x2048 : Shape := ⟨3, ![1, 16384, 2048]⟩
abbrev S2x2048 : Shape := ⟨2, ![2, 2048]⟩
abbrev S2x2048x5120 : Shape := ⟨3, ![2, 2048, 5120]⟩
abbrev S2x128 : Shape := ⟨2, ![2, 128]⟩
abbrev S2x1024 : Shape := ⟨2, ![2, 1024]⟩
abbrev S2x2048x11008 : Shape := ⟨3, ![2, 2048, 11008]⟩
abbrev S16384x2048 : Shape := ⟨2, ![16384, 2048]⟩
abbrev S1x128 : Shape := ⟨2, ![1, 128]⟩
abbrev S128 : Shape := ⟨1, ![128]⟩
abbrev S_ : Shape := ⟨0, ![]⟩
abbrev S8x128 : Shape := ⟨2, ![8, 128]⟩
abbrev S1024 : Shape := ⟨1, ![1024]⟩
abbrev S1x1024 : Shape := ⟨2, ![1, 1024]⟩
abbrev S1x2048 : Shape := ⟨2, ![1, 2048]⟩
abbrev S2048 : Shape := ⟨1, ![2048]⟩
abbrev S16384x5120 : Shape := ⟨2, ![16384, 5120]⟩
abbrev S1x2048x11008 : Shape := ⟨3, ![1, 2048, 11008]⟩
abbrev S512x2048 : Shape := ⟨2, ![512, 2048]⟩
abbrev S1x2048x5120 : Shape := ⟨3, ![1, 2048, 5120]⟩
abbrev S1x64x11008 : Shape := ⟨3, ![1, 64, 11008]⟩
abbrev S512x5120 : Shape := ⟨2, ![512, 5120]⟩
abbrev S64x11008 : Shape := ⟨2, ![64, 11008]⟩
abbrev S512 : Shape := ⟨1, ![512]⟩
abbrev S512x1 : Shape := ⟨2, ![512, 1]⟩
abbrev S1x2048x1024 : Shape := ⟨3, ![1, 2048, 1024]⟩
abbrev S2048x1024 : Shape := ⟨2, ![2048, 1024]⟩
abbrev S512x1024 : Shape := ⟨2, ![512, 1024]⟩
abbrev S512x128 : Shape := ⟨2, ![512, 128]⟩

abbrev nBuf : Space → Nat
  | .hbm => 36
  | .vmem => 14
  | .smem => 0
  | _ => 0

abbrev bufTy : (tb : Table) → Fin (tcTables nBuf tb) → BufTy
  | .hbm, ⟨0, _⟩ => ⟨S1x16384x2048, .f32⟩
  | .hbm, ⟨1, _⟩ => ⟨S2x2048, .f32⟩
  | .hbm, ⟨2, _⟩ => ⟨S2x2048x5120, .f32⟩
  | .hbm, ⟨3, _⟩ => ⟨S2x128, .f32⟩
  | .hbm, ⟨4, _⟩ => ⟨S2x128, .f32⟩
  | .hbm, ⟨5, _⟩ => ⟨S2x1024, .f32⟩
  | .hbm, ⟨6, _⟩ => ⟨S2x1024, .f32⟩
  | .hbm, ⟨7, _⟩ => ⟨S2x2048x11008, .f32⟩
  | .hbm, ⟨8, _⟩ => ⟨S2x2048x5120, .bf16⟩
  | .hbm, ⟨9, _⟩ => ⟨S16384x2048, .f32⟩
  | .hbm, ⟨10, _⟩ => ⟨S1x128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S1x128, .f32⟩
  | .hbm, ⟨16, _⟩ => ⟨S8x128, .f32⟩
  | .hbm, ⟨17, _⟩ => ⟨S1024, .f32⟩
  | .hbm, ⟨18, _⟩ => ⟨S1x1024, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S8x128, .f32⟩
  | .hbm, ⟨23, _⟩ => ⟨S1024, .f32⟩
  | .hbm, ⟨24, _⟩ => ⟨S1x1024, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S16384x5120, .bf16⟩
  | .hbm, ⟨35, _⟩ => ⟨S1x2048x11008, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x5120, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x64x11008, .f32⟩
  | .local _ .vmem, ⟨9, _⟩ => ⟨S1x64x11008, .f32⟩
  | .local _ .vmem, ⟨10, _⟩ => ⟨S512x5120, .bf16⟩
  | .local _ .vmem, ⟨11, _⟩ => ⟨S512x5120, .bf16⟩
  | .local _ .vmem, ⟨12, _⟩ => ⟨S1x64x11008, .bf16⟩
  | .local _ .vmem, ⟨13, _⟩ => ⟨S1x64x11008, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x11008 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x5120 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x11008 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S1x16384x2048 : Shape := ⟨3, ![1, 16384, 2048]⟩
abbrev S2x2048 : Shape := ⟨2, ![2, 2048]⟩
abbrev S2x2048x5120 : Shape := ⟨3, ![2, 2048, 5120]⟩
abbrev S2x128 : Shape := ⟨2, ![2, 128]⟩
abbrev S2x1024 : Shape := ⟨2, ![2, 1024]⟩
abbrev S2x2048x11008 : Shape := ⟨3, ![2, 2048, 11008]⟩
abbrev S1x2048 : Shape := ⟨2, ![1, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S1x2048x5120 : Shape := ⟨3, ![1, 2048, 5120]⟩
abbrev S2048x5120 : Shape := ⟨2, ![2048, 5120]⟩
abbrev S1x16384x5120 : Shape := ⟨3, ![1, 16384, 5120]⟩
abbrev S1x16384x1024 : Shape := ⟨3, ![1, 16384, 1024]⟩
abbrev S1x16384x8x128 : Shape := ⟨4, ![1, 16384, 8, 128]⟩
abbrev S1x128 : Shape := ⟨2, ![1, 128]⟩
abbrev S128 : Shape := ⟨1, ![128]⟩
abbrev S1x16384x8 : Shape := ⟨3, ![1, 16384, 8]⟩
abbrev S1x16384x8x1 : Shape := ⟨4, ![1, 16384, 8, 1]⟩
abbrev S1x1x1x128 : Shape := ⟨4, ![1, 1, 1, 128]⟩
abbrev S1x1024 : Shape := ⟨2, ![1, 1024]⟩
abbrev S1024 : Shape := ⟨1, ![1024]⟩
abbrev S1x1x1024 : Shape := ⟨3, ![1, 1, 1024]⟩
abbrev S16384x5120 : Shape := ⟨2, ![16384, 5120]⟩
abbrev S1x2048x11008 : Shape := ⟨3, ![1, 2048, 11008]⟩

abbrev nBuf : Space → Nat
  | .hbm => 147
  | .vmem => 0
  | .smem => 0
  | _ => 0

abbrev hbmTy0_0 (i : Nat) : BufTy := match i % 128 with
  | 0 => ⟨S1x16384x2048, .f32⟩
  | 1 => ⟨S2x2048, .f32⟩
  | 2 => ⟨S2x2048x5120, .f32⟩
  | 3 => ⟨S2x128, .f32⟩
  | 4 => ⟨S2x128, .f32⟩
  | 5 => ⟨S2x1024, .f32⟩
  | 6 => ⟨S2x1024, .f32⟩
  | 7 => ⟨S2x2048x11008, .f32⟩
  | 8 => ⟨S1x2048, .f32⟩
  | 9 => ⟨S2048, .f32⟩
  | 10 => ⟨S1x16384x2048, .f32⟩
  | 11 => ⟨S_, .f32⟩
  | 12 => ⟨S1x16384, .f32⟩
  | 13 => ⟨S1x16384x1, .f32⟩
  | 14 => ⟨S_, .f32⟩
  | 15 => ⟨S1x16384x1, .f32⟩
  | 16 => ⟨S1x16384x1, .f32⟩
  | 17 => ⟨S_, .f32⟩
  | 18 => ⟨S1x16384x1, .f32⟩
  | 19 => ⟨S1x16384x1, .f32⟩
  | 20 => ⟨S1x16384x1, .f32⟩
  | 21 => ⟨S1x16384x2048, .f32⟩
  | 22 => ⟨S1x16384x2048, .f32⟩
  | 23 => ⟨S1x1x2048, .f32⟩
  | 24 => ⟨S1x16384x2048, .f32⟩
  | 25 => ⟨S1x16384x2048, .f32⟩
  | 26 => ⟨S1x2048x5120, .f32⟩
  | 27 => ⟨S2048x5120, .f32⟩
  | 28 => ⟨S1x16384x5120, .f32⟩
  | 29 => ⟨S1x16384x1024, .f32⟩
  | 30 => ⟨S1x16384x1024, .f32⟩
  | 31 => ⟨S1x16384x1024, .f32⟩
  | 32 => ⟨S1x16384x1024, .f32⟩
  | 33 => ⟨S1x16384x1024, .f32⟩
  | 34 => ⟨S1x16384x8x128, .f32⟩
  | 35 => ⟨S1x128, .f32⟩
  | 36 => ⟨S128, .f32⟩
  | 37 => ⟨S1x16384x8x128, .f32⟩
  | 38 => ⟨S_, .f32⟩
  | 39 => ⟨S1x16384x8, .f32⟩
  | 40 => ⟨S1x16384x8x1, .f32⟩
  | 41 => ⟨S_, .f32⟩
  | 42 => ⟨S1x16384x8x1, .f32⟩
  | 43 => ⟨S1x16384x8x1, .f32⟩
  | 44 => ⟨S_, .f32⟩
  | 45 => ⟨S1x16384x8x1, .f32⟩
  | 46 => ⟨S1x16384x8x1, .f32⟩
  | 47 => ⟨S1x16384x8x1, .f32⟩
  | 48 => ⟨S1x16384x8x128, .f32⟩
  | 49 => ⟨S1x16384x8x128, .f32⟩
  | 50 => ⟨S1x1x1x128, .f32⟩
  | 51 => ⟨S1x16384x8x128, .f32⟩
  | 52 => ⟨S1x16384x8x128, .f32⟩
  | 53 => ⟨S_, .f32⟩
  | 54 => ⟨S1x16384x8x128, .f32⟩
  | 55 => ⟨S1x16384x8x128, .f32⟩
  | 56 => ⟨S1x16384x8x128, .f32⟩
  | 57 => ⟨S1x128, .f32⟩
  | 58 => ⟨S128, .f32⟩
  | 59 => ⟨S1x16384x8x128, .f32⟩
  | 60 => ⟨S_, .f32⟩
  | 61 => ⟨S1x16384x8, .f32⟩
  | 62 => ⟨S1x16384x8x1, .f32⟩
  | 63 => ⟨S_, .f32⟩
  | 64 => ⟨S1x16384x8x1, .f32⟩
  | 65 => ⟨S1x16384x8x1, .f32⟩
  | 66 => ⟨S_, .f32⟩
  | 67 => ⟨S1x16384x8x1, .f32⟩
  | 68 => ⟨S1x16384x8x1, .f32⟩
  | 69 => ⟨S1x16384x8x1, .f32⟩
  | 70 => ⟨S1x16384x8x128, .f32⟩
  | 71 => ⟨S1x16384x8x128, .f32⟩
  | 72 => ⟨S1x1x1x128, .f32⟩
  | 73 => ⟨S1x16384x8x128, .f32⟩
  | 74 => ⟨S1x16384x8x128, .f32⟩
  | 75 => ⟨S1x16384x1024, .f32⟩
  | 76 => ⟨S1x16384x1024, .f32⟩
  | 77 => ⟨S_, .f32⟩
  | 78 => ⟨S1x16384x1024, .f32⟩
  | 79 => ⟨S1x16384x1024, .f32⟩
  | 80 => ⟨S1x16384x1024, .f32⟩
  | 81 => ⟨S_, .f32⟩
  | 82 => ⟨S1x16384x1024, .f32⟩
  | 83 => ⟨S1x16384x1024, .f32⟩
  | 84 => ⟨S1x16384x1024, .f32⟩
  | 85 => ⟨S_, .f32⟩
  | 86 => ⟨S1x16384x1024, .f32⟩
  | 87 => ⟨S1x16384x1024, .f32⟩
  | 88 => ⟨S_, .f32⟩
  | 89 => ⟨S1x16384x1024, .f32⟩
  | 90 => ⟨S1x16384x1024, .f32⟩
  | 91 => ⟨S1x16384x1024, .f32⟩
  | 92 => ⟨S1x16384x1024, .f32⟩
  | 93 => ⟨S1x16384x1024, .f32⟩
  | 94 => ⟨S_, .f32⟩
  | 95 => ⟨S1x16384x1024, .f32⟩
  | 96 => ⟨S1x16384x1024, .f32⟩
  | 97 => ⟨S1x16384x1024, .f32⟩
  | 98 => ⟨S_, .f32⟩
  | 99 => ⟨S1x16384x1024, .f32⟩
  | 100 => ⟨S1x16384x1024, .f32⟩
  | 101 => ⟨S1x16384x1024, .f32⟩
  | 102 => ⟨S_, .f32⟩
  | 103 => ⟨S1x16384x1024, .f32⟩
  | 104 => ⟨S1x16384x1024, .f32⟩
  | 105 => ⟨S_, .f32⟩
  | 106 => ⟨S1x16384x1024, .f32⟩
  | 107 => ⟨S1x16384x1024, .f32⟩
  | 108 => ⟨S1x16384x1024, .f32⟩
  | 109 => ⟨S1x1024, .f32⟩
  | 110 => ⟨S1024, .f32⟩
  | 111 => ⟨S1x1024, .f32⟩
  | 112 => ⟨S1024, .f32⟩
  | 113 => ⟨S_, .f32⟩
  | 114 => ⟨S1x16384, .f32⟩
  | 115 => ⟨S1x16384x1, .f32⟩
  | 116 => ⟨S_, .f32⟩
  | 117 => ⟨S1x16384x1, .f32⟩
  | 118 => ⟨S1x16384x1, .f32⟩
  | 119 => ⟨S1x16384x1024, .f32⟩
  | 120 => ⟨S1x16384x1024, .f32⟩
  | 121 => ⟨S1x16384x1024, .f32⟩
  | 122 => ⟨S_, .f32⟩
  | 123 => ⟨S1x16384, .f32⟩
  | 124 => ⟨S1x16384x1, .f32⟩
  | 125 => ⟨S_, .f32⟩
  | 126 => ⟨S1x16384x1, .f32⟩
  | 127 => ⟨S1x16384x1, .f32⟩
  | _ => ⟨S1x16384x2048, .f32⟩

abbrev hbmTy0_1 (i : Nat) : BufTy := match i % 128 with
  | 0 => ⟨S_, .f32⟩
  | 1 => ⟨S1x16384x1, .f32⟩
  | 2 => ⟨S1x16384x1, .f32⟩
  | 3 => ⟨S1x16384x1, .f32⟩
  | 4 => ⟨S1x16384x1024, .f32⟩
  | 5 => ⟨S1x16384x1024, .f32⟩
  | 6 => ⟨S1x1x1024, .f32⟩
  | 7 => ⟨S1x16384x1024, .f32⟩
  | 8 => ⟨S1x16384x1024, .f32⟩
  | 9 => ⟨S1x1x1024, .f32⟩
  | 10 => ⟨S1x16384x1024, .f32⟩
  | 11 => ⟨S1x16384x1024, .f32⟩
  | 12 => ⟨S1x16384x1024, .f32⟩
  | 13 => ⟨S1x16384x1024, .f32⟩
  | 14 => ⟨S1x16384x5120, .f32⟩
  | 15 => ⟨S16384x5120, .f32⟩
  | 16 => ⟨S16384x5120, .bf16⟩
  | 17 => ⟨S1x2048x11008, .f32⟩
  | 18 => ⟨S1x2048x11008, .bf16⟩
  | _ => ⟨S1x16384x2048, .f32⟩

abbrev hbmTy (i : Nat) : BufTy := match i / 128 with
  | 0 => hbmTy0_0 i
  | 1 => hbmTy0_1 i
  | _ => ⟨S1x16384x2048, .f32⟩

abbrev bufTy : (tb : Table) → Fin (tcTables nBuf tb) → BufTy
  | .hbm, ⟨i, _⟩ => hbmTy i
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_14 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_15 : Ref sig .tc := ⟨.hbm, 102, rfl⟩
abbrev main_v78 : Ref sig .tc := ⟨.hbm, 103, rfl⟩
abbrev main_v79 : Ref sig .tc := ⟨.hbm, 104, rfl⟩
abbrev main_cst_16 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_17 : Ref sig .tc := ⟨.hbm, 113, rfl⟩
abbrev main_v87 : Ref sig .tc := ⟨.hbm, 114, rfl⟩
abbrev main_v88 : Ref sig .tc := ⟨.hbm, 115, rfl⟩
abbrev main_cst_18 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_19 : Ref sig .tc := ⟨.hbm, 122, rfl⟩
abbrev main_v94 : Ref sig .tc := ⟨.hbm, 123, rfl⟩
abbrev main_v95 : Ref sig .tc := ⟨.hbm, 124, rfl⟩
abbrev main_cst_20 : Ref sig .tc := ⟨.hbm, 125, rfl⟩
abbrev main_v96 : Ref sig .tc := ⟨.hbm, 126, rfl⟩
abbrev main_v97 : Ref sig .tc := ⟨.hbm, 127, rfl⟩
abbrev main_cst_21 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩

abbrev nD : Nat := 1
abbrev τ : Topo := Topo.v7x

variable {F : FTy → Type} [FloatOps F]
-- ==== Kernel4.lean ====
abbrev S1x16384x2048 : Shape := ⟨3, ![1, 16384, 2048]⟩
abbrev S16384x5120 : Shape := ⟨2, ![16384, 5120]⟩
abbrev S2x8x513 : Shape := ⟨3, ![2, 8, 513]⟩
abbrev S2x8x128x128 : Shape := ⟨4, ![2, 8, 128, 128]⟩
abbrev S2x8x128 : Shape := ⟨3, ![2, 8, 128]⟩
abbrev S2x1024 : Shape := ⟨2, ![2, 1024]⟩
abbrev S2x2048x2048 : Shape := ⟨3, ![2, 2048, 2048]⟩
abbrev S16384x2048 : Shape := ⟨2, ![16384, 2048]⟩
abbrev S1x8x513 : Shape := ⟨3, ![1, 8, 513]⟩
abbrev S8x513 : Shape := ⟨2, ![8, 513]⟩
abbrev S8x1 : Shape := ⟨2, ![8, 1]⟩
abbrev S8x256 : Shape := ⟨2, ![8, 256]⟩
abbrev S8x255 : Shape := ⟨2, ![8, 255]⟩
abbrev S8x1024 : Shape := ⟨2, ![8, 1024]⟩
abbrev S1x8x128 : Shape := ⟨3, ![1, 8, 128]⟩
abbrev S8x128 : Shape := ⟨2, ![8, 128]⟩
abbrev S128x8 : Shape := ⟨2, ![128, 8]⟩
abbrev S1x1024 : Shape := ⟨2, ![1, 1024]⟩
abbrev S1024 : Shape := ⟨1, ![1024]⟩
abbrev S512x2048 : Shape := ⟨2, ![512, 2048]⟩
abbrev S512x1024 : Shape := ⟨2, ![512, 1024]⟩
abbrev S1x8x128x128 : Shape := ⟨4, ![1, 8, 128, 128]⟩
abbrev S1x2048x2048 : Shape := ⟨3, ![1, 2048, 2048]⟩
abbrev S8x256x768 : Shape := ⟨3, ![8, 256, 768]⟩
abbrev S256x1024 : Shape := ⟨2, ![256, 1024]⟩
abbrev S256x2048 : Shape := ⟨2, ![256, 2048]⟩
abbrev S256x768 : Shape := ⟨2, ![256, 768]⟩
abbrev S1x256x768 : Shape := ⟨3, ![1, 256, 768]⟩
abbrev S128x128 : Shape := ⟨2, ![128, 128]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x1x128x128 : Shape := ⟨4, ![1, 1, 128, 128]⟩
abbrev S128x1 : Shape := ⟨2, ![128, 1]⟩
abbrev S2048x2048 : Shape := ⟨2, ![2048, 2048]⟩

abbrev nBuf : Space → Nat
  | .hbm => 27
  | .vmem => 28
  | .smem => 0
  | _ => 0

abbrev bufTy : (tb : Table) → Fin (tcTables nBuf tb) → BufTy
  | .hbm, ⟨0, _⟩ => ⟨S1x16384x2048, .f32⟩
  | .hbm, ⟨1, _⟩ => ⟨S16384x5120, .bf16⟩
  | .hbm, ⟨2, _⟩ => ⟨S2x8x513, .f32⟩
  | .hbm, ⟨3, _⟩ => ⟨S2x8x128x128, .f32⟩
  | .hbm, ⟨4, _⟩ => ⟨S2x8x128, .f32⟩
  | .hbm, ⟨5, _⟩ => ⟨S2x1024, .f32⟩
  | .hbm, ⟨6, _⟩ => ⟨S2x1024, .f32⟩
  | .hbm, ⟨7, _⟩ => ⟨S2x2048x2048, .f32⟩
  | .hbm, ⟨8, _⟩ => ⟨S2x2048x2048, .bf16⟩
  | .hbm, ⟨9, _⟩ => ⟨S16384x2048, .f32⟩
  | .hbm, ⟨10, _⟩ => ⟨S1x8x513, .f32⟩
  | .hbm, ⟨11, _⟩ => ⟨S8x513, .f32⟩
  | .hbm, ⟨12, _⟩ => ⟨S8x1, .f32⟩
  | .hbm, ⟨13, _⟩ => ⟨S8x256, .f32⟩
  | .hbm, ⟨14, _⟩ => ⟨S8x513, .f32⟩
  | .hbm, ⟨15, _⟩ => ⟨S8x255, .f32⟩
  | .hbm, ⟨16, _⟩ => ⟨S8x1024, .f32⟩
  | .hbm, ⟨17, _⟩ => ⟨S1x8x128, .f32⟩
  | .hbm, ⟨18, _⟩ => ⟨S8x128, .f32⟩
  | .hbm, ⟨19, _⟩ => ⟨S128x8, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | .local _ .vmem, ⟨17, _⟩ => ⟨S1x8x128x128, .f32⟩
  | .local _ .vmem, ⟨18, _⟩ => ⟨S128x8, .f32⟩
  | .local _ .vmem, ⟨19, _⟩ => ⟨S1x1024, .f32⟩
  | .local _ .vmem, ⟨20, _⟩ => ⟨S1x1024, .f32⟩
  | .local _ .vmem, ⟨21, _⟩ => ⟨S1x2048x2048, .bf16⟩
  | .local _ .vmem, ⟨22, _⟩ => ⟨S512x2048, .f32⟩
  | .local _ .vmem, ⟨23, _⟩ => ⟨S512x2048, .f32⟩
  | .local _ .vmem, ⟨24, _⟩ => ⟨S8x256x768, .f32⟩
  | .local _ .vmem, ⟨25, _⟩ => ⟨S256x1024, .f32⟩
  | .local _ .vmem, ⟨26, _⟩ => ⟨S256x1024, .f32⟩
  | .local _ .vmem, ⟨27, _⟩ => ⟨S256x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel4Ideal.lean ====
variable {F : FTy → Type} [FloatOps F] [Named F]
def κ : String → Option EReal := fun
  | "mask" => some ⊥
  | _ => none
-- ==== Reference4Ideal.lean ====
abbrev S1x16384x2048 : Shape := ⟨3, ![1, 16384, 2048]⟩
abbrev S16384x5120 : Shape := ⟨2, ![16384, 5120]⟩
abbrev S2x8x513 : Shape := ⟨3, ![2, 8, 513]⟩
abbrev S2x8x128x128 : Shape := ⟨4, ![2, 8, 128, 128]⟩
abbrev S2x8x128 : Shape := ⟨3, ![2, 8, 128]⟩
abbrev S2x1024 : Shape := ⟨2, ![2, 1024]⟩
abbrev S2x2048x2048 : Shape := ⟨3, ![2, 2048, 2048]⟩
abbrev S1x16384x5120 : Shape := ⟨3, ![1, 16384, 5120]⟩
abbrev S1x16384x1024 : Shape := ⟨3, ![1, 16384, 1024]⟩
abbrev S1x16384x8x128 : Shape := ⟨4, ![1, 16384, 8, 128]⟩
abbrev S1x8x513 : Shape := ⟨3, ![1, 8, 513]⟩
abbrev S8x513 : Shape := ⟨2, ![8, 513]⟩
abbrev S1x256x64x8x128 : Shape := ⟨5, ![1, 256, 64, 8, 128]⟩
abbrev S_ : Shape := ⟨0, ![]⟩
abbrev S1x264x64x8x128 : Shape := ⟨5, ![1, 264, 64, 8, 128]⟩
abbrev S256 : Shape := ⟨1, ![256]⟩
abbrev S256x1 : Shape := ⟨2, ![256, 1]⟩
abbrev S9 : Shape := ⟨1, ![9]⟩
abbrev S1x9 : Shape := ⟨2, ![1, 9]⟩
abbrev S256x9 : Shape := ⟨2, ![256, 9]⟩
abbrev S256x9x1 : Shape := ⟨3, ![256, 9, 1]⟩
abbrev S1x256x9x64x8x128 : Shape := ⟨6, ![1, 256, 9, 64, 8, 128]⟩
abbrev S1x256x576x8x128 : Shape := ⟨5, ![1, 256, 576, 8, 128]⟩
abbrev S1x256x8x64x576 : Shape := ⟨5, ![1, 256, 8, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x1x8x64x576 : Shape := ⟨5, ![1, 1, 8, 64, 576]⟩
abbrev S256x9x64 : Shape := ⟨3, ![256, 9, 64]⟩
abbrev S256x576 : Shape := ⟨2, ![256, 576]⟩
abbrev S1x256x1x1x576 : Shape := ⟨5, ![1, 256, 1, 1, 576]⟩
abbrev S1x256x8x64 : Shape := ⟨4, ![1, 256, 8, 64]⟩
abbrev S1x256x8x64x1 : Shape := ⟨5, ![1, 256, 8, 64, 1]⟩
abbrev S1x256x8x128x64 : Shape := ⟨5, ![1, 256, 8, 128, 64]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S1x128x128x8x128 : Shape := ⟨5, ![1, 128, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x128x128x128 : Shape := ⟨5, ![8, 1, 128, 128, 128]⟩
abbrev S128x8 : Shape := ⟨2, ![128, 8]⟩
abbrev S1x1x128x8x1 : Shape := ⟨5, ![1, 1, 128, 8, 1]⟩
abbrev S1x1024 : Shape := ⟨2, ![1, 1024]⟩
abbrev S1024 : Shape := ⟨1, ![1024]⟩
abbrev S1x16384 : Shape := ⟨2, ![1, 16384]⟩
abbrev S1x16384x1 : Shape := ⟨3, ![1, 16384, 1]⟩
abbrev S1x1x1024 : Shape := ⟨3, ![1, 1, 1024]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 220
  | .vmem => 0
  | .smem => 0
  | _ => 0

abbrev hbmTy0_0 (i : Nat) : BufTy := match i % 128 with
  | 0 => ⟨S1x16384x2048, .f32⟩
  | 1 => ⟨S16384x5120, .bf16⟩
  | 2 => ⟨S2x8x513, .f32⟩
  | 3 => ⟨S2x8x128x128, .f32⟩
  | 4 => ⟨S2x8x128, .f32⟩
  | 5 => ⟨S2x1024, .f32⟩
  | 6 => ⟨S2x1024, .f32⟩
  | 7 => ⟨S2x2048x2048, .f32⟩
  | 8 => ⟨S16384x5120, .f32⟩
  | 9 => ⟨S1x16384x5120, .f32⟩
  | 10 => ⟨S1x16384x1024, .f32⟩
  | 11 => ⟨S1x16384x1024, .f32⟩
  | 12 => ⟨S1x16384x1024, .f32⟩
  | 13 => ⟨S1x16384x1024, .f32⟩
  | 14 => ⟨S1x16384x1024, .f32⟩
  | 15 => ⟨S1x16384x8x128, .f32⟩
  | 16 => ⟨S1x16384x8x128, .f32⟩
  | 17 => ⟨S1x16384x8x128, .f32⟩
  | 18 => ⟨S1x8x513, .f32⟩
  | 19 => ⟨S8x513, .f32⟩
  | 20 => ⟨S1x256x64x8x128, .f32⟩
  | 21 => ⟨S1x256x64x8x128, .f32⟩
  | 22 => ⟨S_, .i32⟩
  | 23 => ⟨S_, .f32⟩
  | 24 => ⟨S1x264x64x8x128, .f32⟩
  | 25 => ⟨S1x256x64x8x128, .f32⟩
  | 26 => ⟨S_, .i32⟩
  | 27 => ⟨S_, .f32⟩
  | 28 => ⟨S1x264x64x8x128, .f32⟩
  | 29 => ⟨S256, .i32⟩
  | 30 => ⟨S256x1, .i32⟩
  | 31 => ⟨S9, .i32⟩
  | 32 => ⟨S1x9, .i32⟩
  | 33 => ⟨S256x9, .i32⟩
  | 34 => ⟨S256x9, .i32⟩
  | 35 => ⟨S256x9, .i32⟩
  | 36 => ⟨S_, .i32⟩
  | 37 => ⟨S256x9, .i32⟩
  | 38 => ⟨S256x9, .i1⟩
  | 39 => ⟨S_, .i32⟩
  | 40 => ⟨S256x9, .i32⟩
  | 41 => ⟨S256x9, .i32⟩
  | 42 => ⟨S256x9, .i32⟩
  | 43 => ⟨S256x9x1, .i32⟩
  | 44 => ⟨S1x256x9x64x8x128, .f32⟩
  | 45 => ⟨S1x256x576x8x128, .f32⟩
  | 46 => ⟨S_, .i32⟩
  | 47 => ⟨S256x9, .i32⟩
  | 48 => ⟨S256x9, .i1⟩
  | 49 => ⟨S_, .i32⟩
  | 50 => ⟨S256x9, .i32⟩
  | 51 => ⟨S256x9, .i32⟩
  | 52 => ⟨S256x9, .i32⟩
  | 53 => ⟨S256x9x1, .i32⟩
  | 54 => ⟨S1x256x9x64x8x128, .f32⟩
  | 55 => ⟨S1x256x576x8x128, .f32⟩
  | 56 => ⟨S1x256x8x64x576, .f32⟩
  | 57 => ⟨S64, .i32⟩
  | 58 => ⟨S64x1, .i32⟩
  | 59 => ⟨S576, .i32⟩
  | 60 => ⟨S1x576, .i32⟩
  | 61 => ⟨S_, .i32⟩
  | 62 => ⟨S64x1, .i32⟩
  | 63 => ⟨S64x1, .i32⟩
  | 64 => ⟨S64x576, .i32⟩
  | 65 => ⟨S64x576, .i32⟩
  | 66 => ⟨S64x576, .i32⟩
  | 67 => ⟨S_, .i32⟩
  | 68 => ⟨S_, .i32⟩
  | 69 => ⟨S_, .i32⟩
  | 70 => ⟨S64x576, .i32⟩
  | 71 => ⟨S64x576, .i32⟩
  | 72 => ⟨S_, .i32⟩
  | 73 => ⟨S64x576, .i32⟩
  | 74 => ⟨S64x576, .i32⟩
  | 75 => ⟨S_, .i32⟩
  | 76 => ⟨S64x576, .i32⟩
  | 77 => ⟨S64x576, .i32⟩
  | 78 => ⟨S_, .i32⟩
  | 79 => ⟨S64x576, .i32⟩
  | 80 => ⟨S64x576, .i1⟩
  | 81 => ⟨S_, .i32⟩
  | 82 => ⟨S64x576, .i32⟩
  | 83 => ⟨S64x576, .i32⟩
  | 84 => ⟨S64x576, .i32⟩
  | 85 => ⟨S64x576x1, .i32⟩
  | 86 => ⟨S8x64x576, .f32⟩
  | 87 => ⟨S1x1x8x64x576, .f32⟩
  | 88 => ⟨S1x256x8x64x576, .f32⟩
  | 89 => ⟨S1x256x8x64x576, .f32⟩
  | 90 => ⟨S_, .i32⟩
  | 91 => ⟨S256x9, .i32⟩
  | 92 => ⟨S256x9, .i1⟩
  | 93 => ⟨S256x9x64, .i1⟩
  | 94 => ⟨S256x576, .i1⟩
  | 95 => ⟨S1x256x1x1x576, .i1⟩
  | 96 => ⟨S_, .f32⟩
  | 97 => ⟨S_, .f32⟩
  | 98 => ⟨S1x256x8x64x576, .i1⟩
  | 99 => ⟨S1x256x8x64x576, .f32⟩
  | 100 => ⟨S1x256x8x64x576, .f32⟩
  | 101 => ⟨S_, .f32⟩
  | 102 => ⟨S1x256x8x64, .f32⟩
  | 103 => ⟨S_, .f32⟩
  | 104 => ⟨S1x256x8x64, .f32⟩
  | 105 => ⟨S1x256x8x64, .f32⟩
  | 106 => ⟨S1x256x8x64x1, .f32⟩
  | 107 => ⟨S1x256x8x64x576, .f32⟩
  | 108 => ⟨S1x256x8x64x576, .f32⟩
  | 109 => ⟨S1x256x8x64x576, .f32⟩
  | 110 => ⟨S_, .f32⟩
  | 111 => ⟨S1x256x8x64, .f32⟩
  | 112 => ⟨S1x256x8x64x1, .f32⟩
  | 113 => ⟨S1x256x8x64x576, .f32⟩
  | 114 => ⟨S1x256x8x64x576, .f32⟩
  | 115 => ⟨S1x256x8x128x64, .f32⟩
  | 116 => ⟨S1x256x64x8x128, .f32⟩
  | 117 => ⟨S1x16384x1024, .f32⟩
  | 118 => ⟨S1x8x128x128, .f32⟩
  | 119 => ⟨S8x128x128, .f32⟩
  | 120 => ⟨S1x8x128, .f32⟩
  | 121 => ⟨S8x128, .f32⟩
  | 122 => ⟨S1x128x128x8x128, .f32⟩
  | 123 => ⟨S128, .i32⟩
  | 124 => ⟨S128x1, .i32⟩
  | 125 => ⟨S_, .i32⟩
  | 126 => ⟨S_, .i32⟩
  | 127 => ⟨S128x1, .i32⟩
  | _ => ⟨S1x16384x2048, .f32⟩

abbrev hbmTy0_1 (i : Nat) : BufTy := match i % 128 with
  | 0 => ⟨S128x1, .i32⟩
  | 1 => ⟨S128x1, .i32⟩
  | 2 => ⟨S_, .i32⟩
  | 3 => ⟨S128x1, .i32⟩
  | 4 => ⟨S128x1, .i1⟩
  | 5 => ⟨S128x1, .i32⟩
  | 6 => ⟨S128x1, .i32⟩
  | 7 => ⟨S_, .i32⟩
  | 8 => ⟨S128x1, .i32⟩
  | 9 => ⟨S128x1, .i1⟩
  | 10 => ⟨S128x1, .i1⟩
  | 11 => ⟨S_, .i32⟩
  | 12 => ⟨S128x1, .i32⟩
  | 13 => ⟨S128x1, .i32⟩
  | 14 => ⟨S128x1, .i32⟩
  | 15 => ⟨S1x128, .i32⟩
  | 16 => ⟨S_, .i32⟩
  | 17 => ⟨S_, .i32⟩
  | 18 => ⟨S1x128, .i32⟩
  | 19 => ⟨S1x128, .i32⟩
  | 20 => ⟨S1x128, .i32⟩
  | 21 => ⟨S_, .i32⟩
  | 22 => ⟨S1x128, .i32⟩
  | 23 => ⟨S1x128, .i1⟩
  | 24 => ⟨S1x128, .i32⟩
  | 25 => ⟨S1x128, .i32⟩
  | 26 => ⟨S_, .i32⟩
  | 27 => ⟨S1x128, .i32⟩
  | 28 => ⟨S1x128, .i1⟩
  | 29 => ⟨S1x128, .i1⟩
  | 30 => ⟨S_, .i32⟩
  | 31 => ⟨S1x128, .i32⟩
  | 32 => ⟨S1x128, .i32⟩
  | 33 => ⟨S1x128, .i32⟩
  | 34 => ⟨S128x128, .i32⟩
  | 35 => ⟨S128x128, .i32⟩
  | 36 => ⟨S128x128, .i1⟩
  | 37 => ⟨S1x128x128, .i1⟩
  | 38 => ⟨S_, .f32⟩
  | 39 => ⟨S8x128x128, .f32⟩
  | 40 => ⟨S8x128x128, .i1⟩
  | 41 => ⟨S8x128x128, .f32⟩
  | 42 => ⟨S8x1x128x128x128, .f32⟩
  | 43 => ⟨S1x128x128x8x128, .f32⟩
  | 44 => ⟨S128x8, .f32⟩
  | 45 => ⟨S1x1x128x8x1, .f32⟩
  | 46 => ⟨S1x128x128x8x128, .f32⟩
  | 47 => ⟨S1x128x128x8x128, .f32⟩
  | 48 => ⟨S1x16384x1024, .f32⟩
  | 49 => ⟨S1x16384x1024, .f32⟩
  | 50 => ⟨S1x1024, .f32⟩
  | 51 => ⟨S1024, .f32⟩
  | 52 => ⟨S1x16384x1024, .f32⟩
  | 53 => ⟨S_, .f32⟩
  | 54 => ⟨S1x16384, .f32⟩
  | 55 => ⟨S1x16384x1, .f32⟩
  | 56 => ⟨S_, .f32⟩
  | 57 => ⟨S1x16384x1, .f32⟩
  | 58 => ⟨S1x16384x1, .f32⟩
  | 59 => ⟨S_, .f32⟩
  | 60 => ⟨S1x16384x1, .f32⟩
  | 61 => ⟨S1x16384x1, .f32⟩
  | 62 => ⟨S1x16384x1, .f32⟩
  | 63 => ⟨S1x16384x1024, .f32⟩
  | 64 => ⟨S1x16384x1024, .f32⟩
  | 65 => ⟨S1x1x1024, .f32⟩
  | 66 => ⟨S1x16384x1024, .f32⟩
  | 67 => ⟨S1x16384x1024, .f32⟩
  | 68 => ⟨S1x1024, .f32⟩
  | 69 => ⟨S1024, .f32⟩
  | 70 => ⟨S1x16384x1024, .f32⟩
  | 71 => ⟨S_, .f32⟩
  | 72 => ⟨S1x16384, .f32⟩
  | 73 => ⟨S1x16384x1, .f32⟩
  | 74 => ⟨S_, .f32⟩
  | 75 => ⟨S1x16384x1, .f32⟩
  | 76 => ⟨S1x16384x1, .f32⟩
  | 77 => ⟨S_, .f32⟩
  | 78 => ⟨S1x16384x1, .f32⟩
  | 79 => ⟨S1x16384x1, .f32⟩
  | 80 => ⟨S1x16384x1, .f32⟩
  | 81 => ⟨S1x16384x1024, .f32⟩
  | 82 => ⟨S1x16384x1024, .f32⟩
  | 83 => ⟨S1x1x1024, .f32⟩
  | 84 => ⟨S1x16384x1024, .f32⟩
  | 85 => ⟨S1x16384x1024, .f32⟩
  | 86 => ⟨S1x16384x2048, .f32⟩
  | 87 => ⟨S1x2048x2048, .f32⟩
  | 88 => ⟨S2048x2048, .f32⟩
  | 89 => ⟨S1x16384x2048, .f32⟩
  | 90 => ⟨S1x16384x2048, .f32⟩
  | 91 => ⟨S16384x2048, .f32⟩
  | _ => ⟨S1x16384x2048, .f32⟩

abbrev hbmTy (i : Nat) : BufTy := match i / 128 with
  | 0 => hbmTy0_0 i
  | 1 => hbmTy0_1 i
  | _ => ⟨S1x16384x2048, .f32⟩

abbrev bufTy : (tb : Table) → Fin (tcTables nBuf tb) → BufTy
  | .hbm, ⟨i, _⟩ => hbmTy i
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_6 : Ref sig .tc := ⟨.hbm, 67, rfl⟩
abbrev main_c_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v50 : Ref sig .tc := ⟨.hbm, 74, rfl⟩
abbrev main_c_8 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_15 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_call4_v5 : Ref sig .tc := ⟨.hbm, 131, rfl⟩
abbrev main_call4_v6 : Ref sig .tc := ⟨.hbm, 132, rfl⟩
abbrev main_call4_v7 : Ref sig .tc := ⟨.hbm, 133, rfl⟩
abbrev main_call4_v8 : Ref sig .tc := ⟨.hbm, 134, rfl⟩
abbrev main_call4_c : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_c_0 : Ref sig .tc := ⟨.hbm, 139, rfl⟩
abbrev main_call4_v12 : Ref sig .tc := ⟨.hbm, 140, rfl⟩
abbrev main_call4_v13 : Ref sig .tc := ⟨.hbm, 141, rfl⟩
abbrev main_v90 : Ref sig .tc := ⟨.hbm, 142, rfl⟩
abbrev main_v91 : Ref sig .tc := ⟨.hbm, 143, rfl⟩
abbrev main_c_16 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_call5_v5 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_c : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_c_0 : Ref sig .tc := ⟨.hbm, 158, rfl⟩
abbrev main_call5_v12 : Ref sig .tc := ⟨.hbm, 159, rfl⟩
abbrev main_call5_v13 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_cst_17 : Ref sig .tc := ⟨.hbm, 166, rfl⟩
abbrev main_v97 : Ref sig .tc := ⟨.hbm, 167, rfl⟩
abbrev main_call6_v0 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_cst_18 : Ref sig .tc := ⟨.hbm, 181, rfl⟩
abbrev main_v110 : Ref sig .tc := ⟨.hbm, 182, rfl⟩
abbrev main_v111 : Ref sig .tc := ⟨.hbm, 183, rfl⟩
abbrev main_cst_19 : Ref sig .tc := ⟨.hbm, 184, rfl⟩
abbrev main_v112 : Ref sig .tc := ⟨.hbm, 185, rfl⟩
abbrev main_v113 : Ref sig .tc := ⟨.hbm, 186, rfl⟩
abbrev main_cst_20 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_cst_21 : Ref sig .tc := ⟨.hbm, 199, rfl⟩
abbrev main_v125 : Ref sig .tc := ⟨.hbm, 200, rfl⟩
abbrev main_v126 : Ref sig .tc := ⟨.hbm, 201, rfl⟩
abbrev main_cst_22 : Ref sig .tc := ⟨.hbm, 202, rfl⟩
abbrev main_v127 : Ref sig .tc := ⟨.hbm, 203, rfl⟩
abbrev main_v128 : Ref sig .tc := ⟨.hbm, 204, rfl⟩
abbrev main_cst_23 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩

abbrev nD : Nat := 1
abbrev τ : Topo := Topo.v7x

variable {F : FTy → Type} [FloatOps F]
-- ==== Proof.Ffn.Step.lean ====
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Ffn

open Cert.KernelIdeal Cert.KernelIdeal.Gen Idealize.ShloMosaic Idealize.ShloMosaic.TcCoe Idealize.SL.Sem

variable (m : (ℓ : Loc nD τ sig) → Buf (Elt Ideal) ℓ)

theorem first_out (c : Dev nD) (t : Fin cfg0.N) (h0 : t.val % 11 = 0) :
    (outsAt0 m c t.val t.isLt).1 = k0_pay3 (grid0.coords t) (k0_pay2 (iblk m c 0 t) (iblk m c 1 t)) (iblk m c 2 t) (iblk m c 3 t) (k0_pay1 (iblk m c 0 t)) (iblk m c 4 t) := by
  rw [outsAt0_A m c t h0]; dsimp only
  frame_out

theorem first_scr (c : Dev nD) (t : Fin cfg0.N) (h0 : t.val % 11 = 0) :
    (outsAt0 m c t.val t.isLt).2 = k0_pay2 (iblk m c 0 t) (iblk m c 1 t) := by
  rw [outsAt0_A m c t h0]; dsimp only
  frame_out

theorem later_out (c : Dev nD) (t : Fin cfg0.N) (h0 : ¬ t.val % 11 = 0) (hp) :
    (outsAt0 m c t.val t.isLt).1 = k0_pay3 (grid0.coords t) (outsAt0 m c (t.val - 1) hp).2 (iblk m c 2 t) (iblk m c 3 t) (outsAt0 m c (t.val - 1) hp).1 (iblk m c 4 t) := by
  rw [outsAt0_B m c t h0]; dsimp only
  frame_out
  simp only [read_unread_whole]

theorem later_scr (c : Dev nD) (t : Fin cfg0.N) (h0 : ¬ t.val % 11 = 0) (hp) :
    (outsAt0 m c t.val t.isLt).2 = (outsAt0 m c (t.val - 1) hp).2 := by
  rw [outsAt0_B m c t h0]; rfl

end Cert.KernelIdeal.Ffn

end
-- ==== Proof.Ffn.Terms.lean ====
module

public import Idealize.ShloMosaic.Lib.Pipeline.ValueKit

/-! A feed-forward layer on one row, in extended reals: what both programs compute, and the two facts about sums that
    bring them together. -/

@[expose] public section

set_option maxRecDepth 16384

noncomputable section

namespace Cert.Ffn

open Idealize.ShloMosaic Finset

/-- A row divided by the root of its mean square and scaled by the gain. -/
def normed (x g : Fin 2048 → EReal) (k : Fin 2048) : EReal :=
  x k * Ideal.rsqrt (Ideal.div (∑ l, x l * x l) (Ideal.ofBits .f32 1157627904#32) + Ideal.ofBits .f32 897988541#32) * g k

/-- One gated hidden unit without the layer's half: `a · logistic a · b` of the row's two projections. -/
def gate (h wa wb : Fin 2048 → EReal) : EReal :=
  (∑ k, h k * wa k) * Ideal.logistic (∑ k, h k * wa k) * ∑ k, h k * wb k

/-- The constant one half. -/
theorem half_eq : Ideal.ofBits .f32 1056964608#32 = ((1 / 2 : ℝ) : EReal) := by
  simp [Ideal.ofBits, Ideal.ieee, -EReal.coe_mul]; norm_num

/-- One half goes into a sum of extended reals. -/
theorem half_mul_sum {ι : Type*} (s : Finset ι) (f : ι → EReal) :
    Ideal.ofBits .f32 1056964608#32 * ∑ i ∈ s, f i = ∑ i ∈ s, Ideal.ofBits .f32 1056964608#32 * f i := by
  rw [half_eq]
  induction s using Finset.cons_induction with
  | empty => simp
  | cons a s ha ih =>
    rw [sum_cons, sum_cons, EReal.left_distrib_of_nonneg_of_ne_top (by exact_mod_cast (by norm_num : (0 : ℝ) ≤ 1 / 2))
      (EReal.coe_ne_top _), ih]

/-- Where the `j`-th tile of 512 hidden units starts: the last one is moved back to end with the layer. -/
def start (j : ℕ) : ℕ := min (j * 512) 4992

/-- How many leading units of the `j`-th tile an earlier tile has counted. -/
def seen (j : ℕ) : ℕ := if j = 10 then 128 else 0

theorem start_lt (j : ℕ) (u : Fin 512) : start j + u.val < 5504 := by unfold start; omega

/-- The eleven tiles, the units seen before left out, count every one of the 5504 hidden units once. -/
theorem sum_tiles {M : Type*} [AddCommMonoid M] (F : Fin 5504 → M) :
    ∑ j : Fin 11, ∑ u : Fin 512, (if seen j.val ≤ u.val then F ⟨start j.val + u.val, start_lt _ u⟩ else 0) = ∑ f, F f := by
  let G : ℕ → M := fun n => if h : n < 5504 then F ⟨n, h⟩ else 0
  have hL : ∀ j : Fin 11, ∑ u : Fin 512, (if seen j.val ≤ u.val then F ⟨start j.val + u.val, start_lt _ u⟩ else 0)
      = ∑ u ∈ range 512, (if seen j.val ≤ u then G (start j.val + u) else 0) := fun j => by
    rw [← Fin.sum_univ_eq_sum_range (fun u => if seen j.val ≤ u then G (start j.val + u) else 0)]
    refine sum_congr rfl fun u _ => ?_
    have := start_lt j.val u
    simp only [G, this, dite_true]
  have hR : ∑ f, F f = ∑ n ∈ range (10 * 512 + 384), G n := by
    rw [← Fin.sum_univ_eq_sum_range G (10 * 512 + 384)]
    exact sum_congr rfl fun f _ => by simp only [G, f.isLt, dite_true, Fin.eta]
  rw [sum_congr rfl fun j _ => hL j, hR,
    Fin.sum_univ_eq_sum_range (fun j => ∑ u ∈ range 512, if seen j ≤ u then G (start j + u) else 0) 11,
    sum_range_succ, sum_range_add, sum_range_mul_split]
  refine congrArg₂ (· + ·) ?_ ?_
  · refine sum_congr rfl fun j hj => sum_congr rfl fun u _ => ?_
    have hj := mem_range.mp hj
    rw [if_pos (by unfold seen; rw [if_neg (by omega)]; omega)]
    congr 1; unfold start; omega
  · have h0 : ∑ u ∈ range 128, (if seen 10 ≤ u then G (start 10 + u) else 0) = 0 := sum_eq_zero fun u hu => by
      have := mem_range.mp hu
      rw [if_neg (by simp only [seen, if_true]; omega)]
    rw [show range 512 = range (128 + 384) from rfl, sum_range_add, h0, zero_add]
    refine sum_congr rfl fun u _ => ?_
    rw [if_pos (by simp [seen])]
    congr 1; simp only [start]; omega

/-- THE LAYER, TILE BY TILE: the half inside the gate and eleven overlapping tiles, against the half outside one sum. -/
theorem half_tiles (P : Fin 5504 → EReal) (w : Fin 5504 → EReal) :
    ∑ j : Fin 11, ∑ u : Fin 512, (if seen j.val ≤ u.val then
        Ideal.ofBits .f32 1056964608#32 * P ⟨start j.val + u.val, start_lt _ u⟩ * w ⟨start j.val + u.val, start_lt _ u⟩ else 0)
      = Ideal.ofBits .f32 1056964608#32 * ∑ f, P f * w f := by
  rw [half_mul_sum, sum_tiles (fun f => Ideal.ofBits .f32 1056964608#32 * P f * w f)]
  exact sum_congr rfl fun f _ => mul_assoc _ _ _

end Cert.Ffn

end
-- ==== Proof.Ffn.Blocks.lean ====
module

public import proofs.«01_k».proof.Proof.Ffn.Step
public import proofs.«01_k».proof.Proof.Ffn.Terms

/-! What a grid point's blocks hold: the argument arrays at the point's rows and hidden units. -/

@[expose] public section

set_option maxRecDepth 16384

noncomputable section

namespace Cert.KernelIdeal.Ffn

open Cert.KernelIdeal Cert.KernelIdeal.Gen Cert.Ffn Idealize.ShloMosaic Idealize.ShloMosaic.TcCoe Idealize.SL.Sem

variable (m : (ℓ : Loc nD τ sig) → Buf (Elt Ideal) ℓ)

/-- Where every window stands at a grid point; the three element-indexed ones by the first element of their block. -/
theorem idx : ∀ t : Fin cfg0.N, win0_0.index t = ![t.val / 11, 0] ∧ win0_1.index t = ![0, 0]
    ∧ win0_2.index t = ![0, 0, start (t.val % 11)]
    ∧ win0_3.index t = ![0, 0, start (t.val % 11) + 5504]
    ∧ win0_4.index t = ![1, start (t.val % 11), 0]
    ∧ win0_5.index t = ![t.val / 11, 0] :=
  (by decide +kernel : ∀ t : Fin grid0.N, _)

/-- The second grid coordinate of a point: its tile of hidden units. -/
theorem tile_of : ∀ t : Fin cfg0.N, ((grid0.coords t) 1).val = t.val % 11 :=
  (by decide +kernel : ∀ t : Fin grid0.N, _)

theorem row_lt (t : Fin cfg0.N) (r : Fin 1024) : t.val / 11 * 1024 + r.val < 16384 := by
  have := t.isLt; have : cfg0.N = 176 := rfl; omega

/-- The array row that a block's row `r` is at the point `t`. -/
def row (t : Fin cfg0.N) (r : Fin 1024) : Fin 16384 := ⟨t.val / 11 * 1024 + r.val, row_lt t r⟩

/-- The hidden unit that is unit `u` of the point's tile. -/
def unit (t : Fin cfg0.N) (u : Fin 512) : Fin 5504 := ⟨start (t.val % 11) + u.val, start_lt _ u⟩

/-- A hidden unit's column in the first half of the input projection. -/
def fst (f : Fin 5504) : Fin 11008 := ⟨f.val, by omega⟩

/-- A hidden unit's column in the second half. -/
def snd (f : Fin 5504) : Fin 11008 := ⟨5504 + f.val, by omega⟩

theorem blk0 (c : Dev nD) (t : Fin cfg0.N) (r : Fin 1024) (k : Fin 2048) :
    iblk m c 0 t (ix2 r k) = m ((c : Thread nD τ).loc main_arg0) (ix3 0 (row t r) k) := by
  blk_simp [iblk, idx t]
  entry_read
  pointwise
  blk_ext [idx t, row]

theorem blk1 (c : Dev nD) (t : Fin cfg0.N) (k : Fin 2048) :
    iblk m c 1 t (ix2 0 k) = m ((c : Thread nD τ).loc main_arg1) (ix2 1 k) := by
  blk_simp [iblk, idx t]
  entry_read
  pointwise
  blk_ext [idx t]

theorem blk2 (c : Dev nD) (t : Fin cfg0.N) (k : Fin 2048) (u : Fin 512) :
    iblk m c 2 t (ix3 0 k u) = m ((c : Thread nD τ).loc main_arg2) (ix3 1 k (fst (unit t u))) := by
  have p := fun a => win0_2.rect_emb_val_off t (ix3 0 k u) a
  blk_simp [iblk, idx t]
  entry_read
  pointwise
  blk_ext [idx t, fst, unit]
  · exact (p 1).trans (by rw [(idx t).2.2.1]; exact Nat.zero_add _)
  · exact (p 2).trans (by rw [(idx t).2.2.1]; rfl)

theorem blk3 (c : Dev nD) (t : Fin cfg0.N) (k : Fin 2048) (u : Fin 512) :
    iblk m c 3 t (ix3 0 k u) = m ((c : Thread nD τ).loc main_arg2) (ix3 1 k (snd (unit t u))) := by
  have p := fun a => win0_3.rect_emb_val_off t (ix3 0 k u) a
  blk_simp [iblk, idx t]
  entry_read
  pointwise
  blk_ext [idx t, snd, unit]
  · exact (p 1).trans (by rw [(idx t).2.2.2.1]; exact Nat.zero_add _)
  · exact (p 2).trans (by
      rw [(idx t).2.2.2.1]; show start (t.val % 11) + 5504 + u.val = _; omega)

theorem blk4 (c : Dev nD) (t : Fin cfg0.N) (u : Fin 512) (k : Fin 2048) :
    iblk m c 4 t (ix3 0 u k) = m ((c : Thread nD τ).loc main_arg3) (ix3 1 (unit t u) k) := by
  have p := fun a => win0_4.rect_emb_val_off t (ix3 0 u k) a
  blk_simp [iblk, idx t]
  entry_read
  pointwise
  blk_ext [idx t, unit]
  · exact (p 0).trans (by rw [(idx t).2.2.2.2.1]; rfl)
  · exact (p 1).trans (by rw [(idx t).2.2.2.2.1]; rfl)
  · exact (p 2).trans (by rw [(idx t).2.2.2.2.1]; exact Nat.zero_add _)

/-- The normalising payload at an element. -/
theorem norm_at (x : Vec Ideal S1024x2048 .f32) (g : Vec Ideal S1x2048 .f32) (r : Fin 1024) (k : Fin 2048) :
    k0_pay2 (F := Ideal) x g (ix2 r k) = normed (fun k => x (ix2 r k)) (fun k => g (ix2 0 k)) k := by
  pointwise [k0_pay2, k0_pay1, normed]

/-- The residual payload at an element. -/
theorem residual_at (x : Vec Ideal S1024x2048 .f32) (r : Fin 1024) (d : Fin 2048) :
    k0_pay1 (F := Ideal) x (ix2 r d) = x (ix2 r d) := by
  pointwise [k0_pay1]

/-- The accumulating payload at an element: what was there, and the tile's units that no earlier tile has counted. -/
theorem acc_at (i : grid0.Coords) (h : Vec Ideal S1024x2048 .bf16) (wa wb : Vec Ideal S1x2048x512 .bf16)
    (acc : Vec Ideal S1024x2048 .f32) (wo : Vec Ideal S1x512x2048 .bf16) (r : Fin 1024) (d : Fin 2048) :
    k0_pay3 (F := Ideal) i h wa wb acc wo (ix2 r d)
      = acc (ix2 r d) + ∑ u : Fin 512, if seen (i 1).val ≤ u.val then
          Ideal.ofBits .f32 1056964608#32
            * gate (fun k => h (ix2 r k)) (fun k => wa (ix3 0 k u)) (fun k => wb (ix3 0 k u)) * wo (ix3 0 u d) else 0 := by
  pointwise [k0_pay3, k0_pay1]
  refine congrArg _ (Finset.sum_congr rfl fun u _ => ?_)
  have hi : (i 1).val < 11 := (i 1).isLt
  have hc : (IntOp.cmpi CmpIPredicate.sge (BitVec.ofNat 32 u.val)
      (Scalar.select (Scalar.cmpi CmpIPredicate.eq (BitVec.ofNat 32 (i 1).val) 10#32) 128#32 0#32)) = if seen (i 1).val ≤ u.val then 1#1 else 0#1 := by
    unfold seen
    word_cmp
    split <;> word_cmp <;> split <;> simp_all [Nat.not_le.mpr]
  rw [hc]
  split <;> simp [Scalar.select, gate, mul_assoc]

end Cert.KernelIdeal.Ffn

end
-- ==== Proof.Ffn.Array.lean ====
module

public import proofs.«01_k».proof.Proof.Ffn.Blocks
public import Idealize.ShloMosaic.Lib.Pipeline.ValueKit.Held

/-! What the feed-forward launch leaves in its result array. -/

@[expose] public section

set_option maxRecDepth 16384

noncomputable section

namespace Cert.KernelIdeal.Ffn

open Cert.KernelIdeal Cert.KernelIdeal.Gen Cert.Ffn Idealize.ShloMosaic Idealize.ShloMosaic.TcCoe Idealize.SL.Sem

variable (m : (ℓ : Loc nD τ sig) → Buf (Elt Ideal) ℓ) (c : Dev nD)

/-- The activations. -/
def act (R : Fin 16384) (k : Fin 2048) : EReal := m ((c : Thread nD τ).loc main_arg0) (ix3 0 R k)

/-- The layer's output projection. -/
def proj (f : Fin 5504) (d : Fin 2048) : EReal := m ((c : Thread nD τ).loc main_arg3) (ix3 1 f d)

/-- The array row `R`, normalised. -/
def rowNorm (R : Fin 16384) : Fin 2048 → EReal :=
  normed (act m c R) (fun k => m ((c : Thread nD τ).loc main_arg1) (ix2 1 k))

/-- The gated hidden unit `f` of the array row `R`, without the layer's half. -/
def rowGate (R : Fin 16384) (f : Fin 5504) : EReal :=
  gate (rowNorm m c R) (fun k => m ((c : Thread nD τ).loc main_arg2) (ix3 1 k (fst f)))
    (fun k => m ((c : Thread nD τ).loc main_arg2) (ix3 1 k (snd f)))

/-- What the tile of hidden units at the point `t` adds to an element. -/
def added (t : Fin cfg0.N) (r : Fin 1024) (d : Fin 2048) : EReal :=
  ∑ u : Fin 512, if seen (t.val % 11) ≤ u.val then
    Ideal.ofBits .f32 1056964608#32 * rowGate m c (row t r) (unit t u)
      * proj m c (unit t u) d else 0

/-- The carried rows are the normalised rows of the point's row block. -/
theorem scr_at (t : Fin cfg0.N) (r : Fin 1024) (k : Fin 2048) :
    (outsAt0 m c t.val t.isLt).2 (ix2 r k) = rowNorm m c (row t r) k := by
  rw [Pipeline.eq_of_write_hold (fun n h => (outsAt0 m c n h).2) 11 (fun t => k0_pay2 (iblk m c 0 t) (iblk m c 1 t))
    (fun t h => first_scr m c t h) (fun t h => later_scr m c t h _) t, norm_at]
  simp only [blk0, blk1, rowNorm, act]
  congr 1
  have : row ⟨11 * (t.val / 11), Pipeline.run_start_lt t⟩ r = row t r := Fin.ext (by simp only [row]; omega)
  rw [this]
  rfl

/-- The first point of a run leaves the residual and its own tile. -/
theorem first_at (t : Fin cfg0.N) (h0 : t.val % 11 = 0) (r : Fin 1024) (d : Fin 2048) :
    (outsAt0 m c t.val t.isLt).1 (ix2 r d)
      = act m c (row t r) d + added m c t r d := by
  have hs := scr_at m c t r
  rw [first_scr m c t h0] at hs
  rw [first_out m c t h0, acc_at]
  simp only [hs, blk2, blk3, blk4, tile_of]
  rw [residual_at, blk0]
  rfl

/-- A later point adds its tile to what the point before left. -/
theorem later_at (t : Fin cfg0.N) (h0 : ¬ t.val % 11 = 0) (hp) (r : Fin 1024) (d : Fin 2048) :
    (outsAt0 m c t.val t.isLt).1 (ix2 r d) = (outsAt0 m c (t.val - 1) hp).1 (ix2 r d) + added m c t r d := by
  have hs := scr_at m c t r
  rw [later_scr m c t h0 hp] at hs
  rw [later_out m c t h0 hp, acc_at]
  simp only [hs, blk2, blk3, blk4, tile_of]
  rfl

/-- At the point that writes a block back, an element is the residual and half the whole output projection. -/
theorem flushed_at (t : Fin cfg0.N) (hf : t.val % 11 = 10) (r : Fin 1024) (d : Fin 2048) :
    (outsAt0 m c t.val t.isLt).1 (ix2 r d)
      = act m c (row t r) d
        + Ideal.ofBits .f32 1056964608#32
          * ∑ f, rowGate m c (row t r) f * proj m c f d := by
  have key := Pipeline.eq_sum_fin_of_reset_step_apply_of_flush
    (fun n h (_ : Unit) => (outsAt0 m c n h).1 (ix2 r d)) 11 (fun _ => 0)
    (fun t _ => (if t.val % 11 = 0 then act m c (row t r) d else 0) + added m c t r d)
    (fun t h _ => by simp only [first_at m c t h, h, if_true, zero_add])
    (fun t h _ => (later_at m c t h (Nat.lt_of_le_of_lt (Nat.sub_le _ _) t.isLt) r d).trans (by simp only [h, if_false, zero_add])) t hf ()
  refine key.trans ?_
  rw [zero_add, Finset.sum_add_distrib, ← half_tiles]
  have hrow : ∀ s : Fin 11, row ⟨11 * (t.val / 11) + s.val, Pipeline.run_point_lt_of_flush t hf s⟩ r = row t r :=
    fun s => Fin.ext (by simp only [row]; omega)
  have htile : ∀ s : Fin 11, (11 * (t.val / 11) + s.val) % 11 = s.val := fun s => by omega
  congr 1
  · rw [Finset.sum_eq_single (0 : Fin 11)]
    · simp only [hrow, htile]; rfl
    · intro s _ hs
      have : s.val ≠ 0 := fun h => hs (Fin.ext h)
      simp only [htile, this, if_false]
    · exact fun h => absurd (Finset.mem_univ _) h
  · refine Finset.sum_congr rfl fun s _ => ?_
    simp only [added, hrow, unit, htile]

/-- The layer's result: the residual and half the output projection of the gated hidden units. -/
def result : Vec Ideal S16384x2048 .f32 := fun i =>
  act m c (i 0) (i 1)
    + Ideal.ofBits .f32 1056964608#32
      * ∑ f, rowGate m c (i 0) f * proj m c f (i 1)

/-- The array after the launch. -/
theorem array_eq : (dats m 0 c).arrAt 5 cfg0.N = (result m c : Vec Ideal S16384x2048 .f32) := by
  refine (dats m 0 c).arrAt_eq_of_covers 5 _ (by decide +kernel) fun t hf y => ?_
  blk_simp
  rw [after0_5]
  idx_vars y
  refine (flushed_at m c t ((flush0_5 t).mp hf) y0 y1).trans ?_
  have e : ((View.whole main_v7).slice (win0_5.rect t)).emb (ix2 y0 y1) = ix2 (row t y0) y1 := by
    blk_ext [idx t, row]
  rw [e]
  rfl

end Cert.KernelIdeal.Ffn

end
-- ==== Proof.Ffn.Reference.lean ====
module

public import proofs.«01_k».proof.Proof.Gen.ReferenceIdeal.Run
public import proofs.«01_k».proof.Proof.Ffn.Terms

/-! The reference's feed-forward layer, stage by stage, each read at an index. -/

@[expose] public section

set_option maxRecDepth 16384

noncomputable section

namespace Cert.ReferenceIdeal.Ffn

open Cert.ReferenceIdeal Cert.ReferenceIdeal.Gen Idealize.ShloMosaic Idealize.ShloMosaic.TcCoe Idealize.SL.Sem

/-- The activations normalised by the root of their mean square and scaled by the layer's gain. -/
def normed (x : FVec Ideal S1x16384x2048 .f32) (g : FVec Ideal S2x2048 .f32) : FVec Ideal S1x16384x2048 .f32 :=
  mulf
    (mulf x
      (broadcastInDim S1x16384x2048 ![0, 1, 2] bcast_S1x16384x1_S1x16384x2048_0_1_2
        (Host.rsqrt
          (addf
            (Host.divf
              (broadcastInDim S1x16384x1 ![0, 1] bcast_S1x16384_S1x16384x1_0_1
                (Host.reduceAdd (mulf x x) (constant S_ .f32 0#32) reducesTo_S1x16384x2048_S1x16384_d2 h_S_))
              (broadcastInDim S1x16384x1 ![] bcast_S_S1x16384x1 (constant S_ .f32 1157627904#32)))
            (broadcastInDim S1x16384x1 ![] bcast_S_S1x16384x1 (constant S_ .f32 897988541#32))))))
    (broadcastInDim S1x16384x2048 ![0, 1, 2] bcast_S1x1x2048_S1x16384x2048_0_1_2
      (broadcastInDim S1x1x2048 ![2] bcast_S2048_S1x1x2048_2
        (shapeCast S2048 (extractStridedSlice S1x2048 ![1, 0] g slices_S2x2048_S1x2048_1_0) shapeCasts_S1x2048_S2048)))

/-- The doubled hidden layer: both halves of the input projection at once. -/
def hidden (h : FVec Ideal S1x16384x2048 .f32) (w : FVec Ideal S2x2048x11008 .f32) : FVec Ideal S1x16384x11008 .f32 :=
  Host.dotGeneral dot_S1x16384x2048_S2048x11008_S1x16384x11008_2_0_01_1_n_n none h
    (shapeCast S2048x11008
      (extractStridedSlice S1x2048x11008 ![1, 0, 0] w slices_S2x2048x11008_S1x2048x11008_1_0_0)
      shapeCasts_S1x2048x11008_S2048x11008)

/-- The gated hidden layer: its first half through `a / (1 + exp (-a))`, times its second half. -/
def gated (y : FVec Ideal S1x16384x11008 .f32) : FVec Ideal S1x16384x5504 .f32 :=
  mulf
    (mulf (extractStridedSlice S1x16384x5504 ![0, 0, 0] y slices_S1x16384x11008_S1x16384x5504_0_0_0)
      (Host.divf (broadcastInDim S1x16384x5504 ![] bcast_S_S1x16384x5504 (constant S_ .f32 1065353216#32))
        (addf (broadcastInDim S1x16384x5504 ![] bcast_S_S1x16384x5504 (constant S_ .f32 1065353216#32))
          (Host.exp (Host.negf
            (extractStridedSlice S1x16384x5504 ![0, 0, 0] y slices_S1x16384x11008_S1x16384x5504_0_0_0))))))
    (extractStridedSlice S1x16384x5504 ![0, 0, 5504] y slices_S1x16384x11008_S1x16384x5504_0_0_5504)

/-- The output projection, halved and added to the residual. -/
def projected (x : FVec Ideal S1x16384x2048 .f32) (t : FVec Ideal S1x16384x5504 .f32)
    (w : FVec Ideal S2x5504x2048 .f32) : FVec Ideal S16384x2048 .f32 :=
  shapeCast S16384x2048
    (addf x
      (mulf (broadcastInDim S1x16384x2048 ![] bcast_S_S1x16384x2048 (constant S_ .f32 1056964608#32))
        (Host.dotGeneral dot_S1x16384x5504_S5504x2048_S1x16384x2048_2_0_01_1_n_n none t
          (shapeCast S5504x2048
            (extractStridedSlice S1x5504x2048 ![1, 0, 0] w slices_S2x5504x2048_S1x5504x2048_1_0_0)
            shapeCasts_S1x5504x2048_S5504x2048))))
    shapeCasts_S1x16384x2048_S16384x2048

/-- The reference's result is the composition of the stages. -/
theorem out_eq (m : (ℓ : Loc nD τ sig) → Buf (Elt Ideal) ℓ) (c : Dev nD) :
    Value.res_out0 m c
      = projected (m ((c : Thread nD τ).loc main_arg0))
          (gated (hidden (normed (m ((c : Thread nD τ).loc main_arg0)) (m ((c : Thread nD τ).loc main_arg1)))
            (m ((c : Thread nD τ).loc main_arg2))))
          (m ((c : Thread nD τ).loc main_arg3)) := rfl

theorem normed_at (x : FVec Ideal S1x16384x2048 .f32) (g : FVec Ideal S2x2048 .f32) (R : Fin 16384) (k : Fin 2048) :
    normed x g (ix3 0 R k) = Cert.Ffn.normed (fun k => x (ix3 0 R k)) (fun k => g (ix2 1 k)) k := by
  pointwise [normed, Cert.Ffn.normed]

theorem hidden_at (h : FVec Ideal S1x16384x2048 .f32) (w : FVec Ideal S2x2048x11008 .f32) (R : Fin 16384) (f : Fin 11008) :
    hidden h w (ix3 0 R f) = ∑ k, h (ix3 0 R k) * w (ix3 1 k f) := by
  pointwise [hidden]

theorem gated_at (y : FVec Ideal S1x16384x11008 .f32) (R : Fin 16384) (f : Fin 5504) :
    gated y (ix3 0 R f) = y (ix3 0 R ⟨f.val, by omega⟩) * Ideal.logistic (y (ix3 0 R ⟨f.val, by omega⟩))
      * y (ix3 0 R ⟨5504 + f.val, by omega⟩) := by
  pointwise [gated]
  rfl

theorem projected_at (x : FVec Ideal S1x16384x2048 .f32) (t : FVec Ideal S1x16384x5504 .f32)
    (w : FVec Ideal S2x5504x2048 .f32) (R : Fin 16384) (d : Fin 2048) :
    projected x t w (ix2 R d)
      = x (ix3 0 R d) + Ideal.ofBits .f32 1056964608#32 * ∑ f, t (ix3 0 R f) * w (ix3 1 f d) := by
  pointwise [projected]

/-- THE REFERENCE AT AN ELEMENT: the residual and half the output projection of the gated hidden units. -/
theorem out_at (x : FVec Ideal S1x16384x2048 .f32) (g : FVec Ideal S2x2048 .f32) (wi : FVec Ideal S2x2048x11008 .f32)
    (wo : FVec Ideal S2x5504x2048 .f32) (R : Fin 16384) (d : Fin 2048) :
    projected x (gated (hidden (normed x g) wi)) wo (ix2 R d)
      = x (ix3 0 R d) + Ideal.ofBits .f32 1056964608#32
          * ∑ f : Fin 5504, Cert.Ffn.gate (Cert.Ffn.normed (fun k => x (ix3 0 R k)) (fun k => g (ix2 1 k)))
              (fun k => wi (ix3 1 k ⟨f.val, by omega⟩)) (fun k => wi (ix3 1 k ⟨5504 + f.val, by omega⟩)) * wo (ix3 1 f d) := by
  simp only [projected_at, gated_at, hidden_at, normed_at, Cert.Ffn.gate]

end Cert.ReferenceIdeal.Ffn

end
-- ==== Proof.Ffn.Run.lean ====
module

public import proofs.«01_k».proof.Proof.Ffn.Array
public import proofs.«01_k».proof.Proof.Ffn.Reference

/-! The feed-forward launch run, and its result against the reference's. -/

@[expose] public section

set_option maxRecDepth 16384

noncomputable section

namespace Cert.KernelIdeal.Ffn

open Cert.KernelIdeal Cert.KernelIdeal.Gen Idealize.ShloMosaic Idealize.ShloMosaic.TcCoe Idealize.SL.Sem

variable (m : (ℓ : Loc nD τ sig) → Buf (Elt Ideal) ℓ)

/-- The program run: its result array holds the layer's result, its arguments are unchanged. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 5).trans (array_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

/-- The layer's result is the reference's, on the same arguments. -/
theorem result_eq (c : Dev nD) : result m c
    = Cert.ReferenceIdeal.Ffn.projected (m ((c : Thread nD τ).loc main_arg0))
        (Cert.ReferenceIdeal.Ffn.gated (Cert.ReferenceIdeal.Ffn.hidden
          (Cert.ReferenceIdeal.Ffn.normed (m ((c : Thread nD τ).loc main_arg0)) (m ((c : Thread nD τ).loc main_arg1)))
          (m ((c : Thread nD τ).loc main_arg2))))
        (m ((c : Thread nD τ).loc main_arg3)) := by
  funext i
  idx_vars i
  exact (Cert.ReferenceIdeal.Ffn.out_at _ _ _ _ i0 i1).symm

end Cert.KernelIdeal.Ffn

end
-- ==== Proof.InProj.Terms.lean ====
module

public import proofs.«01_k».proof.Proof.Ffn.Terms

/-! The mixing layer's input projection on one row, in extended reals: what both programs compute. -/

@[expose] public section

set_option maxRecDepth 16384

noncomputable section

namespace Cert.InProj

open Idealize.ShloMosaic Finset

/-- A head divided by the root of its mean square and scaled by the gain. -/
def headNormed (z g : Fin 128 → EReal) (d : Fin 128) : EReal :=
  z d * Ideal.rsqrt (Ideal.div (∑ l, z l * z l) (Ideal.ofBits .f32 1124073472#32) + Ideal.ofBits .f32 897988541#32) * g d

/-- The tanh form of the Gaussian error linear unit. -/
def gelu (x : EReal) : EReal :=
  x * (Ideal.ofBits .f32 1056964608#32 * (Ideal.ofBits .f32 1065353216#32
    + Ideal.tanh (Ideal.ofBits .f32 1061962282#32 * (x + Ideal.ofBits .f32 1027024659#32 * (x * x * x)))))

/-- The mean of a row of 1024. -/
def mean (v : Fin 1024 → EReal) : EReal := Ideal.div (∑ l, v l) (Ideal.ofBits .f32 1149239296#32)

/-- A row less its mean, divided by the root of its variance, scaled and shifted. -/
def layerNormed (v g b : Fin 1024 → EReal) (d : Fin 1024) : EReal :=
  (v d - mean v) * Ideal.rsqrt (mean (fun l => (v l - mean v) * (v l - mean v)) + Ideal.ofBits .f32 897988541#32) * g d + b d

/-- Lane `d` of the head of lane `x` of a part. -/
def lane (x : Fin 1024) (d : Fin 128) : Fin 1024 := ⟨x.val / 128 * 128 + d.val, by omega⟩

/-- The heads of a part, normalised. -/
def headsNormed (z : Fin 1024 → EReal) (g : Fin 128 → EReal) (x : Fin 1024) : EReal :=
  headNormed (fun d => z (lane x d)) g ⟨x.val % 128, by omega⟩

/-- Part `q` of a projected row. -/
def part (z : Fin 5120 → EReal) (q : Fin 5) (x : Fin 1024) : EReal := z ⟨q.val * 1024 + x.val, by omega⟩

/-- The projected row, its five parts each through its own map: queries (scaled), keys, values, gates, gated values. -/
def mapped (z : Fin 5120 → EReal) (gq gk : Fin 128 → EReal) (lg lb : Fin 1024 → EReal) (j : Fin 5120) : EReal :=
  if h0 : j.val < 1024 then headsNormed (part z 0) (fun d => gq d * Ideal.ofBits .f32 1035273459#32) ⟨j.val, h0⟩
  else if h1 : j.val - 1024 < 1024 then headsNormed (part z 1) gk ⟨j.val - 1024, h1⟩
  else if h2 : j.val - 1024 - 1024 < 1024 then part z 2 ⟨j.val - 1024 - 1024, h2⟩
  else if h3 : j.val - 1024 - 1024 - 1024 < 1024 then gelu (part z 3 ⟨j.val - 1024 - 1024 - 1024, h3⟩)
  else layerNormed (fun l => gelu (part z 4 l)) lg lb ⟨j.val - 1024 - 1024 - 1024 - 1024, by omega⟩

section
variable (z : Fin 5120 → EReal) (gq gk : Fin 128 → EReal) (lg lb : Fin 1024 → EReal) (j : Fin 5120)

theorem mapped_query (n : Fin 8) (d : Fin 128) (h : j.val = n.val * 128 + d.val) :
    mapped z gq gk lg lb j
      = headNormed (fun d => z ⟨n.val * 128 + d.val, by omega⟩) (fun d => gq d * Ideal.ofBits .f32 1035273459#32) d := by
  have h' : j.val < 1024 := by omega
  rw [mapped, dif_pos h', headsNormed]
  have e : (fun e => part z 0 (lane ⟨j.val, h'⟩ e)) = fun e : Fin 128 => z ⟨n.val * 128 + e.val, by omega⟩ :=
    funext fun e => congrArg z (Fin.ext (by show 0 * 1024 + (j.val / 128 * 128 + e.val) = n.val * 128 + e.val; omega))
  rw [e]
  exact congrArg (headNormed _ _) (Fin.ext (by show j.val % 128 = d.val; omega))

theorem mapped_key (n : Fin 8) (d : Fin 128) (h : j.val = 1024 + n.val * 128 + d.val) :
    mapped z gq gk lg lb j = headNormed (fun d => z ⟨1024 + n.val * 128 + d.val, by omega⟩) gk d := by
  have h0 : ¬ j.val < 1024 := by omega
  have h1 : j.val - 1024 < 1024 := by omega
  rw [mapped, dif_neg h0, dif_pos h1, headsNormed]
  have e : (fun e => part z 1 (lane ⟨j.val - 1024, h1⟩ e)) = fun e : Fin 128 => z ⟨1024 + n.val * 128 + e.val, by omega⟩ :=
    funext fun e => congrArg z (Fin.ext (by
      show 1 * 1024 + ((j.val - 1024) / 128 * 128 + e.val) = 1024 + n.val * 128 + e.val; omega))
  rw [e]
  exact congrArg (headNormed _ _) (Fin.ext (by show (j.val - 1024) % 128 = d.val; omega))

theorem mapped_value (x : Fin 1024) (h : j.val = 2048 + x.val) : mapped z gq gk lg lb j = z j := by
  rw [mapped, dif_neg (by omega), dif_neg (by omega), dif_pos (show j.val - 1024 - 1024 < 1024 by omega)]
  exact congrArg z (Fin.ext (by show 2 * 1024 + (j.val - 1024 - 1024) = j.val; omega))

theorem mapped_gate (x : Fin 1024) (h : j.val = 3072 + x.val) : mapped z gq gk lg lb j = gelu (z j) := by
  rw [mapped, dif_neg (by omega), dif_neg (by omega), dif_neg (by omega),
    dif_pos (show j.val - 1024 - 1024 - 1024 < 1024 by omega)]
  exact congrArg (fun i => gelu (z i)) (Fin.ext (by show 3 * 1024 + (j.val - 1024 - 1024 - 1024) = j.val; omega))

theorem mapped_gated (x : Fin 1024) (h : j.val = 4096 + x.val) :
    mapped z gq gk lg lb j = layerNormed (fun l => gelu (z ⟨4096 + l.val, by omega⟩)) lg lb x := by
  rw [mapped, dif_neg (by omega), dif_neg (by omega), dif_neg (by omega), dif_neg (by omega)]
  have e : (fun l => gelu (part z 4 l)) = fun l : Fin 1024 => gelu (z ⟨4096 + l.val, by omega⟩) :=
    funext fun l => congrArg (fun i => gelu (z i)) (Fin.ext (by show 4 * 1024 + l.val = 4096 + l.val; omega))
  rw [e]
  exact congrArg (layerNormed _ lg lb) (Fin.ext (by show j.val - 1024 - 1024 - 1024 - 1024 = x.val; omega))

end

end Cert.InProj

end
-- ==== Proof.InProj.Blocks.lean ====
module

public import proofs.«01_k».proof.Proof.Gen.Kernel3Ideal.Frame
public import proofs.«01_k».proof.Proof.InProj.Terms
public import Idealize.ShloMosaic.Lib.Pipeline.ReadBack

/-! What a grid point's blocks hold, and what the body stores there. -/

@[expose] public section

set_option maxRecDepth 16384

noncomputable section

namespace Cert.Kernel3Ideal.InProj

open Cert.Kernel3Ideal Cert.Kernel3Ideal.Gen Cert.InProj Idealize.ShloMosaic Idealize.ShloMosaic.TcCoe Idealize.SL.Sem

variable (m : (ℓ : Loc nD τ sig) → Buf (Elt Ideal) ℓ)

/-- Where every window stands at a grid point. -/
theorem idx : ∀ t : Fin cfg0.N, win0_0.index t = ![t.val, 0] ∧ win0_1.index t = ![0, 0]
    ∧ win0_2.index t = ![1, 0, 0] ∧ win0_3.index t = ![0, 0] ∧ win0_4.index t = ![0, 0]
    ∧ win0_5.index t = ![0, 0] ∧ win0_6.index t = ![0, 0] ∧ win0_7.index t = ![1, t.val, 0]
    ∧ win0_8.index t = ![t.val, 0] ∧ win0_9.index t = ![0, t.val, 0] :=
  (by decide +kernel : ∀ t : Fin grid0.N, _)

/-- The array row that a block's row `r` is at the point `t`. -/
def row (t : Fin cfg0.N) (r : Fin 512) : Fin 16384 :=
  ⟨t.val * 512 + r.val, by have := t.isLt; have : cfg0.N = 32 := rfl; omega⟩

theorem blk0 (c : Dev nD) (t : Fin cfg0.N) (r : Fin 512) (k : Fin 2048) :
    iblk m c 0 t (ix2 r k) = m ((c : Thread nD τ).loc main_arg0) (ix3 0 (row t r) k) := by
  blk_simp [iblk, idx t]
  entry_read
  pointwise
  blk_ext [idx t, row]

theorem blk1 (c : Dev nD) (t : Fin cfg0.N) (k : Fin 2048) :
    iblk m c 1 t (ix2 0 k) = m ((c : Thread nD τ).loc main_arg1) (ix2 1 k) := by
  blk_simp [iblk, idx t]
  entry_read
  pointwise
  blk_ext [idx t]

theorem blk2 (c : Dev nD) (t : Fin cfg0.N) (k : Fin 2048) (j : Fin 5120) :
    iblk m c 2 t (ix3 0 k j) = m ((c : Thread nD τ).loc main_arg2) (ix3 1 k j) := by
  blk_simp [iblk, idx t]
  entry_read
  pointwise
  blk_ext [idx t]

theorem blk3 (c : Dev nD) (t : Fin cfg0.N) (x : Fin 1024) :
    iblk m c 3 t (ix2 0 x) = (show EReal from m ((c : Thread nD τ).loc main_arg3) (ix2 1 ⟨x.val % 128, by omega⟩))
      * Ideal.ofBits .f32 1035273459#32 := by
  blk_simp [iblk, idx t]
  entry_read
  pointwise
  blk_ext [idx t]

theorem blk4 (c : Dev nD) (t : Fin cfg0.N) (x : Fin 1024) :
    iblk m c 4 t (ix2 0 x) = m ((c : Thread nD τ).loc main_arg4) (ix2 1 ⟨x.val % 128, by omega⟩) := by
  blk_simp [iblk, idx t]
  entry_read
  pointwise
  blk_ext [idx t]

theorem blk5 (c : Dev nD) (t : Fin cfg0.N) (x : Fin 1024) :
    iblk m c 5 t (ix2 0 x) = m ((c : Thread nD τ).loc main_arg5) (ix2 1 x) := by
  blk_simp [iblk, idx t]
  entry_read
  pointwise
  blk_ext [idx t]

theorem blk6 (c : Dev nD) (t : Fin cfg0.N) (x : Fin 1024) :
    iblk m c 6 t (ix2 0 x) = m ((c : Thread nD τ).loc main_arg6) (ix2 1 x) := by
  blk_simp [iblk, idx t]
  entry_read
  pointwise
  blk_ext [idx t]

/-- The array row of the cast weight that a block's row `r` is at the point `t`. -/
def wrow (t : Fin cfg0.N) (r : Fin 64) : Fin 2048 :=
  ⟨t.val * 64 + r.val, by have := t.isLt; have : cfg0.N = 32 := rfl; omega⟩

theorem blk7 (c : Dev nD) (t : Fin cfg0.N) (r : Fin 64) (j : Fin 11008) :
    iblk m c 7 t (ix3 0 r j) = m ((c : Thread nD τ).loc main_arg7) (ix3 1 (wrow t r) j) := by
  blk_simp [iblk, idx t]
  entry_read
  pointwise
  blk_ext [idx t, wrow]

/-- The normalising payload at an element. -/
theorem norm_at (x : Vec Ideal S512x2048 .f32) (g : Vec Ideal S1x2048 .f32) (r : Fin 512) (k : Fin 2048) :
    k0_pay3 (F := Ideal) x g (ix2 r k) = Cert.Ffn.normed (fun k => x (ix2 r k)) (fun k => g (ix2 0 k)) k := by
  pointwise [k0_pay3, Cert.Ffn.normed]

/-- A product with a group of columns at an element. -/
theorem group_at (h : FVec Ideal S512x2048 .bf16) (w : Vec Ideal S1x2048x1024 .bf16) (r : Fin 512) (x : Fin 1024) :
    k0_pay20 (F := Ideal) h w (ix2 r x) = ∑ k, h (ix2 r k) * w (ix3 0 k x) := by
  pointwise [k0_pay20]

/-- A head's payload: each of the sixteen stored heads is this map of its slice. -/
def headMap (s : FVec Ideal S512x128 .f32) (g : Vec Ideal S1x128 .f32) : FVec Ideal S512x128 .bf16 :=
  k0_pay8 s (k0_pay6 g)
    (addf (divf (shapeCast S512x1 (multiReduction .add [1] S512 (mulf s s) 0x00000000#32 reduces_S512x128_S512 (.inl rfl) rfl)
      shapeCasts_S512_S512x1) (broadcast S512x1 (Scalar.ofBits .f32 0x43000000#32)))
      (broadcast S512x1 (Scalar.ofBits .f32 0x358637BD#32)))

theorem headMap_at (s : FVec Ideal S512x128 .f32) (g : Vec Ideal S1x128 .f32) (r : Fin 512) (d : Fin 128) :
    headMap s g (ix2 r d) = headNormed (fun d => s (ix2 r d)) (fun d => g (ix2 0 d)) d := by
  pointwise [headMap, k0_pay8, k0_pay6, headNormed]

/-- The gate's payload at an element. -/
theorem gate_at (h : FVec Ideal S512x2048 .bf16) (w : Vec Ideal S1x2048x1024 .bf16) (r : Fin 512) (x : Fin 1024) :
    k0_pay38 (F := Ideal) (k0_pay36 h w) (k0_pay37 h w) (ix2 r x) = gelu (∑ k, h (ix2 r k) * w (ix3 0 k x)) := by
  have e : k0_pay35 (F := Ideal) h w = k0_pay20 h w := rfl
  pointwise [k0_pay38, k0_pay36, k0_pay37, e, group_at, gelu]
  exact (mul_assoc _ _ _).trans (mul_left_comm _ _ _)

/-- The gated values' payload at an element. -/
theorem gated_at (h : FVec Ideal S512x2048 .bf16) (w : Vec Ideal S1x2048x1024 .bf16) (g b : Vec Ideal S1x1024 .f32)
    (r : Fin 512) (x : Fin 1024) :
    k0_pay1 (F := Ideal) (k0_pay39 h w) g b (ix2 r x)
      = layerNormed (fun l => gelu (∑ k, h (ix2 r k) * w (ix3 0 k l))) (fun l => g (ix2 0 l)) (fun l => b (ix2 0 l)) x := by
  have e : ∀ x, gelu x = Ideal.ofBits .f32 1056964608#32 * x * (Ideal.ofBits .f32 1065353216#32
    + Ideal.tanh (Ideal.ofBits .f32 1061962282#32 * (x + Ideal.ofBits .f32 1027024659#32 * (x * x * x)))) := fun x => by
    rw [gelu, ← mul_assoc, mul_comm _ (Ideal.ofBits .f32 1056964608#32)]
  pointwise [k0_pay1, k0_pay39, layerNormed, mean, e]

/-- The cast weight's payload at an element. -/
theorem cast_at (w : Vec Ideal S1x64x11008 .f32) (r : Fin 64) (j : Fin 11008) :
    k0_pay2 (F := Ideal) w (ix3 0 r j) = w (ix3 0 r j) := by
  pointwise [k0_pay2]

end Cert.Kernel3Ideal.InProj

end
-- ==== Proof.InProj.Point.lean ====
module

public import proofs.«01_k».proof.Proof.InProj.Blocks

/-! What the input projection's launch leaves in its two result arrays. -/

@[expose] public section

set_option maxRecDepth 16384

noncomputable section

namespace Cert.Kernel3Ideal.InProj

open Cert.Kernel3Ideal Cert.Kernel3Ideal.Gen Cert.InProj Idealize.ShloMosaic Idealize.ShloMosaic.TcCoe Idealize.SL.Sem

variable (m : (ℓ : Loc nD τ sig) → Buf (Elt Ideal) ℓ) (c : Dev nD)

/-- The layer's input projection. -/
def weight (k : Fin 2048) (j : Fin 5120) : EReal := m ((c : Thread nD τ).loc main_arg2) (ix3 1 k j)

/-- The array row `R`, normalised. -/
def rowNorm (R : Fin 16384) : Fin 2048 → EReal :=
  Cert.Ffn.normed (fun k => m ((c : Thread nD τ).loc main_arg0) (ix3 0 R k))
    (fun k => m ((c : Thread nD τ).loc main_arg1) (ix2 1 k))

/-- The array row `R`, projected. -/
def rowProj (R : Fin 16384) (j : Fin 5120) : EReal := ∑ k, rowNorm m c R k * weight m c k j

/-- The array row `R`, projected, each part through its own map. -/
def rowMapped (R : Fin 16384) (j : Fin 5120) : EReal :=
  mapped (rowProj m c R) (fun d => m ((c : Thread nD τ).loc main_arg3) (ix2 1 d))
    (fun d => m ((c : Thread nD τ).loc main_arg4) (ix2 1 d)) (fun x => m ((c : Thread nD τ).loc main_arg5) (ix2 1 x))
    (fun x => m ((c : Thread nD τ).loc main_arg6) (ix2 1 x)) j

/-- The normalised block of rows at a point. -/
theorem rows_at (t : Fin cfg0.N) (r : Fin 512) (k : Fin 2048) :
    k0_pay3 (F := Ideal) (iblk m c 0 t) (iblk m c 1 t) (ix2 r k) = rowNorm m c (row t r) k := by
  rw [norm_at]
  simp only [blk0, blk1]
  rfl

/-- A group of 1024 columns of the projection, as the body loads it. -/
theorem cols_at (t : Fin cfg0.N) (off : ℕ) (h) (hb : off + 1024 ≤ 5120) (k : Fin 2048) (x : Fin 1024) :
    View.ld (iblk m c 2 t) (Rect.unit (s := S1x2048x5120) ![0, 0, off] ![1, 2048, 1024] h) (ix3 0 k x)
      = weight m c k ⟨off + x.val, by omega⟩ :=
  (View.ld_unit_apply_of (iblk m c 2 t) ![0, 0, off] ![1, 2048, 1024] h (ix3 0 k x) (ix3 0 k ⟨off + x.val, by omega⟩) fun a => by
    match a with
    | 0 => rfl
    | 1 => exact (Nat.zero_add _).symm
    | 2 => rfl).trans (blk2 m c t k _)

/-- A group of 1024 projected columns at a point. -/
theorem proj_at (t : Fin cfg0.N) (off : ℕ) (h) (hb : off + 1024 ≤ 5120) (r : Fin 512) (x : Fin 1024) :
    k0_pay20 (F := Ideal) (k0_pay3 (iblk m c 0 t) (iblk m c 1 t))
      (View.ld (iblk m c 2 t) (Rect.unit (s := S1x2048x5120) ![0, 0, off] ![1, 2048, 1024] h)) (ix2 r x)
      = rowProj m c (row t r) ⟨off + x.val, by omega⟩ := by
  rw [group_at]
  simp only [rows_at]
  exact Finset.sum_congr rfl fun k _ => congrArg (_ * ·) (cols_at m c t off h hb k x)

/-- A head's slice of a group. -/
theorem slice_at (T : FVec Ideal S512x1024 .f32) (off : ℕ) (h : S512x1024.Slices ![0, off] S512x128) (hb : off + 128 ≤ 1024)
    (r : Fin 512) (d : Fin 128) :
    extractStridedSlice S512x128 ![0, off] T h (ix2 r d) = T (ix2 r ⟨off + d.val, by omega⟩) := by
  pointwise
  blk_ext []

theorem gain_q (t : Fin cfg0.N) (n : Fin 8) (off : ℕ) (ho : off = n.val * 128) (h) (d : Fin 128) :
    View.ld (iblk m c 3 t) (Rect.unit (s := S1x1024) ![0, off] ![1, 128] h) (ix2 0 d)
      = (show EReal from m ((c : Thread nD τ).loc main_arg3) (ix2 1 d)) * Ideal.ofBits .f32 1035273459#32 := by
  have e := blk3 m c t ⟨off + d.val, by omega⟩
  have hd : (⟨(off + d.val) % 128, by omega⟩ : Fin 128) = d := Fin.ext (by show (off + d.val) % 128 = d.val; omega)
  rw [hd] at e
  exact (View.ld_unit_apply_of (iblk m c 3 t) ![0, off] ![1, 128] h (ix2 0 d) (ix2 0 ⟨off + d.val, by omega⟩) fun a => by
    match a with
    | 0 => rfl
    | 1 => rfl).trans e

theorem gain_k (t : Fin cfg0.N) (n : Fin 8) (off : ℕ) (ho : off = n.val * 128) (h) (d : Fin 128) :
    View.ld (iblk m c 4 t) (Rect.unit (s := S1x1024) ![0, off] ![1, 128] h) (ix2 0 d)
      = m ((c : Thread nD τ).loc main_arg4) (ix2 1 d) := by
  have e := blk4 m c t ⟨off + d.val, by omega⟩
  have hd : (⟨(off + d.val) % 128, by omega⟩ : Fin 128) = d := Fin.ext (by show (off + d.val) % 128 = d.val; omega)
  rw [hd] at e
  exact (View.ld_unit_apply_of (iblk m c 4 t) ![0, off] ![1, 128] h (ix2 0 d) (ix2 0 ⟨off + d.val, by omega⟩) fun a => by
    match a with
    | 0 => rfl
    | 1 => rfl).trans e

/-- What is stored for head `n` of the queries. -/
theorem query_piece (t : Fin cfg0.N) (y : S512x5120.Idx) (x : S512x128.Idx) (n : Fin 8) (off : ℕ) (ho : off = n.val * 128)
    (h0 : (y 0).val = (x 0).val) (h1 : (y 1).val = off + (x 1).val) (hs : S512x1024.Slices ![0, off] S512x128) (h) :
    headMap (extractStridedSlice S512x128 ![0, off] (k0_pay20 (F := Ideal) (k0_pay3 (iblk m c 0 t) (iblk m c 1 t))
      (View.ld (iblk m c 2 t) (Rect.unit ![0, 0, 0] ![1, 2048, 1024] inb_S1x2048x5120_S1x2048x1024_0_0_0))) hs)
      (View.ld (iblk m c 3 t) (Rect.unit ![0, off] ![1, 128] h)) x = rowMapped m c (row t (y 0)) (y 1) := by
  subst ho
  idx_vars x
  have e0 : y 0 = x0 := Fin.ext h0
  rw [e0]
  refine Eq.trans ?_ (mapped_query (rowProj m c (row t x0)) _ _ _ _ (y 1) n x1 h1).symm
  rw [headMap_at]
  have hb : n.val * 128 + 128 ≤ 1024 := by omega
  simp only [slice_at _ _ hs hb, gain_q m c t n _ rfl, proj_at m c t 0 _ (by omega), zero_add]

/-- What is stored for head `n` of the keys. -/
theorem key_piece (t : Fin cfg0.N) (y : S512x5120.Idx) (x : S512x128.Idx) (n : Fin 8) (off : ℕ) (ho : off = n.val * 128)
    (h0 : (y 0).val = (x 0).val) (h1 : (y 1).val = 1024 + off + (x 1).val) (hs : S512x1024.Slices ![0, off] S512x128) (h) :
    headMap (extractStridedSlice S512x128 ![0, off] (k0_pay20 (F := Ideal) (k0_pay3 (iblk m c 0 t) (iblk m c 1 t))
      (View.ld (iblk m c 2 t) (Rect.unit ![0, 0, 1024] ![1, 2048, 1024] inb_S1x2048x5120_S1x2048x1024_0_0_1024))) hs)
      (View.ld (iblk m c 4 t) (Rect.unit ![0, off] ![1, 128] h)) x = rowMapped m c (row t (y 0)) (y 1) := by
  subst ho
  idx_vars x
  have e0 : y 0 = x0 := Fin.ext h0
  rw [e0]
  refine Eq.trans ?_ (mapped_key (rowProj m c (row t x0)) _ _ _ _ (y 1) n x1 h1).symm
  rw [headMap_at]
  have hb : n.val * 128 + 128 ≤ 1024 := by omega
  simp only [slice_at _ _ hs hb, gain_k m c t n _ rfl, proj_at m c t 1024 _ (by omega), ← add_assoc]

/-- What is stored for the values. -/
theorem value_piece (t : Fin cfg0.N) (y : S512x5120.Idx) (x : S512x1024.Idx)
    (h0 : (y 0).val = (x 0).val) (h1 : (y 1).val = 2048 + (x 1).val) :
    k0_pay20 (F := Ideal) (k0_pay3 (iblk m c 0 t) (iblk m c 1 t))
      (View.ld (iblk m c 2 t) (Rect.unit ![0, 0, 2048] ![1, 2048, 1024] inb_S1x2048x5120_S1x2048x1024_0_0_2048)) x
      = rowMapped m c (row t (y 0)) (y 1) := by
  idx_vars x
  have e0 : y 0 = x0 := Fin.ext h0
  rw [e0]
  refine Eq.trans ?_ (mapped_value (rowProj m c (row t x0)) _ _ _ _ (y 1) x1 h1).symm
  rw [proj_at m c t 2048 _ (by omega)]
  exact congrArg (rowProj m c (row t x0)) (Fin.ext h1.symm)

/-- What is stored for the gates. -/
theorem gate_piece (t : Fin cfg0.N) (y : S512x5120.Idx) (x : S512x1024.Idx)
    (h0 : (y 0).val = (x 0).val) (h1 : (y 1).val = 3072 + (x 1).val) :
    k0_pay38 (F := Ideal)
      (k0_pay36 (k0_pay3 (iblk m c 0 t) (iblk m c 1 t)) (View.ld (iblk m c 2 t)
        (Rect.unit ![0, 0, 3072] ![1, 2048, 1024] inb_S1x2048x5120_S1x2048x1024_0_0_3072)))
      (k0_pay37 (k0_pay3 (iblk m c 0 t) (iblk m c 1 t)) (View.ld (iblk m c 2 t)
        (Rect.unit ![0, 0, 3072] ![1, 2048, 1024] inb_S1x2048x5120_S1x2048x1024_0_0_3072))) x
      = rowMapped m c (row t (y 0)) (y 1) := by
  idx_vars x
  have e0 : y 0 = x0 := Fin.ext h0
  rw [e0]
  refine Eq.trans ?_ (mapped_gate (rowProj m c (row t x0)) _ _ _ _ (y 1) x1 h1).symm
  rw [gate_at, ← group_at, proj_at m c t 3072 _ (by omega)]
  exact congrArg (fun i => gelu (rowProj m c (row t x0) i)) (Fin.ext h1.symm)

/-- What is stored for the gated values. -/
theorem gated_piece (t : Fin cfg0.N) (y : S512x5120.Idx) (x : S512x1024.Idx)
    (h0 : (y 0).val = (x 0).val) (h1 : (y 1).val = 4096 + (x 1).val) :
    k0_pay1 (F := Ideal) (k0_pay39 (k0_pay3 (iblk m c 0 t) (iblk m c 1 t)) (View.ld (iblk m c 2 t)
        (Rect.unit ![0, 0, 4096] ![1, 2048, 1024] inb_S1x2048x5120_S1x2048x1024_0_0_4096)))
      (iblk m c 5 t) (iblk m c 6 t) x = rowMapped m c (row t (y 0)) (y 1) := by
  idx_vars x
  have e0 : y 0 = x0 := Fin.ext h0
  rw [e0]
  refine Eq.trans ?_ (mapped_gated (rowProj m c (row t x0)) _ _ _ _ (y 1) x1 h1).symm
  rw [gated_at]
  simp only [← group_at, proj_at m c t 4096 _ (by omega), blk5, blk6]

/-- A POINT'S BLOCK: the rows of the point, projected and mapped. -/
theorem point (t : Fin cfg0.N) (y : S512x5120.Idx) :
    (outsAt0 m c t).1 y = rowMapped m c (row t (y 0)) (y 1) := by
  unfold outsAt0
  frame_out
  canon_tiles x h using View.cover_of_tiledBy _ ![512, 128] (by sl_kernel_rfl) y
  case piece0 => exact gated_piece m c t y x h0 h1
  case piece1 => exact gate_piece m c t y x h0 h1
  case piece2 => exact value_piece m c t y x h0 h1
  case piece3 => exact key_piece m c t y x 7 896 rfl h0 (by omega) slices_S512x1024_o0_896_S512x128 inb_S1x1024_S1x128_0_896
  case piece4 => exact key_piece m c t y x 6 768 rfl h0 (by omega) slices_S512x1024_o0_768_S512x128 inb_S1x1024_S1x128_0_768
  case piece5 => exact key_piece m c t y x 5 640 rfl h0 (by omega) slices_S512x1024_o0_640_S512x128 inb_S1x1024_S1x128_0_640
  case piece6 => exact key_piece m c t y x 4 512 rfl h0 (by omega) slices_S512x1024_o0_512_S512x128 inb_S1x1024_S1x128_0_512
  case piece7 => exact key_piece m c t y x 3 384 rfl h0 (by omega) slices_S512x1024_o0_384_S512x128 inb_S1x1024_S1x128_0_384
  case piece8 => exact key_piece m c t y x 2 256 rfl h0 (by omega) slices_S512x1024_o0_256_S512x128 inb_S1x1024_S1x128_0_256
  case piece9 => exact key_piece m c t y x 1 128 rfl h0 (by omega) slices_S512x1024_o0_128_S512x128 inb_S1x1024_S1x128_0_128
  case piece10 => exact key_piece m c t y x 0 0 rfl h0 (by omega) slices_S512x1024_o0_0_S512x128 inb_S1x1024_S1x128_0_0
  case piece11 => exact query_piece m c t y x 7 896 rfl h0 (by omega) slices_S512x1024_o0_896_S512x128 inb_S1x1024_S1x128_0_896
  case piece12 => exact query_piece m c t y x 6 768 rfl h0 (by omega) slices_S512x1024_o0_768_S512x128 inb_S1x1024_S1x128_0_768
  case piece13 => exact query_piece m c t y x 5 640 rfl h0 (by omega) slices_S512x1024_o0_640_S512x128 inb_S1x1024_S1x128_0_640
  case piece14 => exact query_piece m c t y x 4 512 rfl h0 (by omega) slices_S512x1024_o0_512_S512x128 inb_S1x1024_S1x128_0_512
  case piece15 => exact query_piece m c t y x 3 384 rfl h0 (by omega) slices_S512x1024_o0_384_S512x128 inb_S1x1024_S1x128_0_384
  case piece16 => exact query_piece m c t y x 2 256 rfl h0 (by omega) slices_S512x1024_o0_256_S512x128 inb_S1x1024_S1x128_0_256
  case piece17 => exact query_piece m c t y x 1 128 rfl h0 (by omega) slices_S512x1024_o0_128_S512x128 inb_S1x1024_S1x128_0_128
  case piece18 => exact query_piece m c t y x 0 0 rfl h0 (by omega) slices_S512x1024_o0_0_S512x128 inb_S1x1024_S1x128_0_0

/-- The first result: every row projected and mapped. -/
def result : Vec Ideal S16384x5120 .bf16 := fun i => rowMapped m c (i 0) (i 1)

/-- The first array after the launch. -/
theorem array_eq : (dats m 0 c).arrAt 8 cfg0.N = (result m c : Vec Ideal S16384x5120 .bf16) := by
  refine (dats m 0 c).arrAt_eq_of_covers 8 _ (by decide +kernel) fun t hf y => ?_
  blk_simp
  rw [after0_8]
  idx_vars y
  refine (point m c t (ix2 y0 y1)).trans ?_
  have e : ((View.whole main_v25_0).slice (win0_8.rect t)).emb (ix2 y0 y1) = ix2 (row t y0) y1 := by
    blk_ext [idx t, row]
  rw [e]
  rfl

/-- The second result: the layer's slab of the cast weight. -/
def cast : Vec Ideal S1x2048x11008 .bf16 := fun i => m ((c : Thread nD τ).loc main_arg7) (ix3 1 (i 1) (i 2))

/-- The second array after the launch. -/
theorem cast_eq : (dats m 0 c).arrAt 9 cfg0.N = (cast m c : Vec Ideal S1x2048x11008 .bf16) := by
  refine (dats m 0 c).arrAt_eq_of_covers 9 _ (by decide +kernel) fun t hf y => ?_
  blk_simp
  rw [after0_9]
  idx_vars y
  have h : (outsAt0 m c t).2 = k0_pay2 (F := Ideal) (iblk m c 7 t) := by
    unfold outsAt0
    frame_out
  have y00 : y0 = 0 := Subsingleton.elim _ _
  subst y00
  rw [h]
  refine (cast_at _ y1 y2).trans ((blk7 m c t y1 y2).trans ?_)
  have e : ((View.whole main_v25_1).slice (win0_9.rect t)).emb (ix3 0 y1 y2) = ix3 0 (wrow t y1) y2 := by
    blk_ext [idx t, wrow]
  rw [e]
  rfl

end Cert.Kernel3Ideal.InProj

end
-- ==== Proof.InProj.Reference.lean ====
module

public import proofs.«01_k».proof.Proof.Gen.Reference3Ideal.Run
public import proofs.«01_k».proof.Proof.InProj.Terms

/-! The reference's input projection, stage by stage, each read at an index. -/

@[expose] public section

set_option maxRecDepth 16384

noncomputable section

namespace Cert.Reference3Ideal.InProj

open Cert.Reference3Ideal Cert.Reference3Ideal.Gen Idealize.ShloMosaic Idealize.ShloMosaic.TcCoe Idealize.SL.Sem

/-- The activations normalised by the root of their mean square and scaled by the layer's gain. -/
def normed (x : FVec Ideal S1x16384x2048 .f32) (g : FVec Ideal S2x2048 .f32) : FVec Ideal S1x16384x2048 .f32 :=
    mulf (mulf x (broadcastInDim S1x16384x2048 ![0, 1, 2] bcast_S1x16384x1_S1x16384x2048_0_1_2 (Host.rsqrt
      (addf (Host.divf (broadcastInDim S1x16384x1 ![0, 1] bcast_S1x16384_S1x16384x1_0_1 (Host.reduceAdd (mulf x
      x) (constant S_ .f32 0#32) reducesTo_S1x16384x2048_S1x16384_d2 h_S_)) (broadcastInDim S1x16384x1 ![]
      bcast_S_S1x16384x1 (constant S_ .f32 1157627904#32))) (broadcastInDim S1x16384x1 ![] bcast_S_S1x16384x1
      (constant S_ .f32 897988541#32)))))) (broadcastInDim S1x16384x2048 ![0, 1, 2]
      bcast_S1x1x2048_S1x16384x2048_0_1_2 (broadcastInDim S1x1x2048 ![2] bcast_S2048_S1x1x2048_2 (shapeCast
      S2048 (extractStridedSlice S1x2048 ![1, 0] g slices_S2x2048_S1x2048_1_0) shapeCasts_S1x2048_S2048)))

/-- The five parts of the input projection at once. -/
def projected (h : FVec Ideal S1x16384x2048 .f32) (w : FVec Ideal S2x2048x5120 .f32) : FVec Ideal S1x16384x5120 .f32 :=
    Host.dotGeneral dot_S1x16384x2048_S2048x5120_S1x16384x5120_2_0_01_1_n_n none h (shapeCast S2048x5120
      (extractStridedSlice S1x2048x5120 ![1, 0, 0] w slices_S2x2048x5120_S1x2048x5120_1_0_0)
      shapeCasts_S1x2048x5120_S2048x5120)

/-- The eight heads of a part, each normalised and scaled by the layer's gain. -/
def heads (z : FVec Ideal S1x16384x1024 .f32) (g : FVec Ideal S2x128 .f32) : FVec Ideal S1x16384x8x128 .f32 :=
    mulf (mulf (shapeCast S1x16384x8x128 z shapeCasts_S1x16384x1024_S1x16384x8x128) (broadcastInDim
      S1x16384x8x128 ![0, 1, 2, 3] bcast_S1x16384x8x1_S1x16384x8x128_0_1_2_3 (Host.rsqrt (addf (Host.divf
      (broadcastInDim S1x16384x8x1 ![0, 1, 2] bcast_S1x16384x8_S1x16384x8x1_0_1_2 (Host.reduceAdd (mulf
      (shapeCast S1x16384x8x128 z shapeCasts_S1x16384x1024_S1x16384x8x128) (shapeCast S1x16384x8x128 z
      shapeCasts_S1x16384x1024_S1x16384x8x128)) (constant S_ .f32 0#32) reducesTo_S1x16384x8x128_S1x16384x8_d3
      h_S_)) (broadcastInDim S1x16384x8x1 ![] bcast_S_S1x16384x8x1 (constant S_ .f32 1124073472#32)))
      (broadcastInDim S1x16384x8x1 ![] bcast_S_S1x16384x8x1 (constant S_ .f32 897988541#32))))))
      (broadcastInDim S1x16384x8x128 ![0, 1, 2, 3] bcast_S1x1x1x128_S1x16384x8x128_0_1_2_3 (broadcastInDim
      S1x1x1x128 ![3] bcast_S128_S1x1x1x128_3 (shapeCast S128 (extractStridedSlice S1x128 ![1, 0] g
      slices_S2x128_S1x128_1_0) shapeCasts_S1x128_S128)))

/-- The queries: normalised heads, scaled. -/
def queries (z : FVec Ideal S1x16384x1024 .f32) (g : FVec Ideal S2x128 .f32) : FVec Ideal S1x16384x1024 .f32 :=
    shapeCast S1x16384x1024 (mulf (heads z g) (broadcastInDim S1x16384x8x128 ![] bcast_S_S1x16384x8x128
      (constant S_ .f32 1035273459#32))) shapeCasts_S1x16384x8x128_S1x16384x1024

/-- The keys: normalised heads. -/
def keys (z : FVec Ideal S1x16384x1024 .f32) (g : FVec Ideal S2x128 .f32) : FVec Ideal S1x16384x1024 .f32 :=
    shapeCast S1x16384x1024 (heads z g) shapeCasts_S1x16384x8x128_S1x16384x1024

/-- A part through the tanh form of the Gaussian error linear unit. -/
def activated (z : FVec Ideal S1x16384x1024 .f32) : FVec Ideal S1x16384x1024 .f32 :=
    mulf z (mulf (broadcastInDim S1x16384x1024 ![] bcast_S_S1x16384x1024 (constant S_ .f32 1056964608#32))
      (addf (broadcastInDim S1x16384x1024 ![] bcast_S_S1x16384x1024 (constant S_ .f32 1065353216#32))
      (Host.tanh (mulf (broadcastInDim S1x16384x1024 ![] bcast_S_S1x16384x1024 (constant S_ .f32
      1061962282#32)) (addf z (mulf (broadcastInDim S1x16384x1024 ![] bcast_S_S1x16384x1024 (constant S_ .f32
      1027024659#32)) (mulf (mulf z z) z)))))))

/-- The mean of every row. -/
def means (v : FVec Ideal S1x16384x1024 .f32) : FVec Ideal S1x16384x1 .f32 :=
    Host.divf (broadcastInDim S1x16384x1 ![0, 1] bcast_S1x16384_S1x16384x1_0_1 (Host.reduceAdd v (constant S_
      .f32 0#32) reducesTo_S1x16384x1024_S1x16384_d2 h_S_)) (broadcastInDim S1x16384x1 ![] bcast_S_S1x16384x1
      (constant S_ .f32 1149239296#32))

/-- Every row less its mean. -/
def centred (v : FVec Ideal S1x16384x1024 .f32) : FVec Ideal S1x16384x1024 .f32 :=
    subf v (broadcastInDim S1x16384x1024 ![0, 1, 2] bcast_S1x16384x1_S1x16384x1024_0_1_2 (means v))

/-- Centred rows divided by the root of their variance, scaled and shifted. -/
def layered (v : FVec Ideal S1x16384x1024 .f32) (g b : FVec Ideal S2x1024 .f32) : FVec Ideal S1x16384x1024 .f32 :=
    addf (mulf (mulf v (broadcastInDim S1x16384x1024 ![0, 1, 2] bcast_S1x16384x1_S1x16384x1024_0_1_2
      (Host.rsqrt (addf (means (mulf v v)) (broadcastInDim S1x16384x1 ![] bcast_S_S1x16384x1 (constant S_ .f32
      897988541#32)))))) (broadcastInDim S1x16384x1024 ![0, 1, 2] bcast_S1x1x1024_S1x16384x1024_0_1_2
      (broadcastInDim S1x1x1024 ![2] bcast_S1024_S1x1x1024_2 (shapeCast S1024 (extractStridedSlice S1x1024 ![1,
      0] g slices_S2x1024_S1x1024_1_0) shapeCasts_S1x1024_S1024)))) (broadcastInDim S1x16384x1024 ![0, 1, 2]
      bcast_S1x1x1024_S1x16384x1024_0_1_2 (broadcastInDim S1x1x1024 ![2] bcast_S1024_S1x1x1024_2 (shapeCast
      S1024 (extractStridedSlice S1x1024 ![1, 0] b slices_S2x1024_S1x1024_1_0) shapeCasts_S1x1024_S1024)))

/-- The five parts side by side. -/
def joined (p0 p1 p2 p3 p4 : FVec Ideal S1x16384x1024 .f32) : FVec Ideal S16384x5120 .bf16 :=
    truncf .bf16 (shapeCast S16384x5120 ((concatenate S1x16384x5120 2 [⟨S1x16384x1024, p0⟩, ⟨S1x16384x1024, p1⟩,
      ⟨S1x16384x1024, p2⟩, ⟨S1x16384x1024, p3⟩, ⟨S1x16384x1024, p4⟩]
      concatenates_S1x16384x1024_S1x16384x1024_S1x16384x1024_S1x16384x1024_S1x16384x1024_S1x16384x5120_d2))
      shapeCasts_S1x16384x5120_S16384x5120) bitsLt_bf16_f32

/-- The projected activations, each part through its own map. -/
def result (z : FVec Ideal S1x16384x5120 .f32) (gq gk : FVec Ideal S2x128 .f32) (lg lb : FVec Ideal S2x1024 .f32) :
    FVec Ideal S16384x5120 .bf16 :=
  joined (queries (extractStridedSlice S1x16384x1024 ![0, 0, 0] z slices_S1x16384x5120_S1x16384x1024_0_0_0) gq)
    (keys (extractStridedSlice S1x16384x1024 ![0, 0, 1024] z slices_S1x16384x5120_S1x16384x1024_0_0_1024) gk)
    (extractStridedSlice S1x16384x1024 ![0, 0, 2048] z slices_S1x16384x5120_S1x16384x1024_0_0_2048)
    (activated (extractStridedSlice S1x16384x1024 ![0, 0, 3072] z slices_S1x16384x5120_S1x16384x1024_0_0_3072))
    (layered (centred (activated
      (extractStridedSlice S1x16384x1024 ![0, 0, 4096] z slices_S1x16384x5120_S1x16384x1024_0_0_4096))) lg lb)

/-- The reference's first result is the composition of the stages. -/
theorem out_eq (m : (ℓ : Loc nD τ sig) → Buf (Elt Ideal) ℓ) (c : Dev nD) :
    Value.res_out0 m c
      = result (projected (normed (m ((c : Thread nD τ).loc main_arg0)) (m ((c : Thread nD τ).loc main_arg1)))
          (m ((c : Thread nD τ).loc main_arg2))) (m ((c : Thread nD τ).loc main_arg3)) (m ((c : Thread nD τ).loc main_arg4))
          (m ((c : Thread nD τ).loc main_arg5)) (m ((c : Thread nD τ).loc main_arg6)) := rfl

theorem normed_at (x : FVec Ideal S1x16384x2048 .f32) (g : FVec Ideal S2x2048 .f32) (R : Fin 16384) (k : Fin 2048) :
    normed x g (ix3 0 R k) = Cert.Ffn.normed (fun k => x (ix3 0 R k)) (fun k => g (ix2 1 k)) k := by
  pointwise [normed, Cert.Ffn.normed]

theorem projected_at (h : FVec Ideal S1x16384x2048 .f32) (w : FVec Ideal S2x2048x5120 .f32) (R : Fin 16384) (f : Fin 5120) :
    projected h w (ix3 0 R f) = ∑ k, h (ix3 0 R k) * w (ix3 1 k f) := by
  pointwise [projected]

theorem heads_at (z : FVec Ideal S1x16384x1024 .f32) (g : FVec Ideal S2x128 .f32) (R : Fin 16384) (n : Fin 8) (d : Fin 128) :
    heads z g (ix4 0 R n d) = Cert.InProj.headNormed (fun d => z (ix3 0 R ⟨n.val * 128 + d.val, by omega⟩)) (fun d => g (ix2 1 d)) d := by
  pointwise [heads, Cert.InProj.headNormed]

theorem queries_at (z : FVec Ideal S1x16384x1024 .f32) (g : FVec Ideal S2x128 .f32) (R : Fin 16384) (x : Fin 1024) :
    queries z g (ix3 0 R x) = Cert.InProj.headsNormed (fun x => z (ix3 0 R x))
      (fun d => g (ix2 1 d) * Ideal.ofBits .f32 1035273459#32) x := by
  pointwise [queries]
  rw [heads_at]
  simp only [Cert.InProj.headsNormed, Cert.InProj.headNormed, Cert.InProj.lane, mul_assoc]

theorem keys_at (z : FVec Ideal S1x16384x1024 .f32) (g : FVec Ideal S2x128 .f32) (R : Fin 16384) (x : Fin 1024) :
    keys z g (ix3 0 R x) = Cert.InProj.headsNormed (fun x => z (ix3 0 R x)) (fun d => g (ix2 1 d)) x := by
  pointwise [keys]
  rw [heads_at]
  rfl

theorem activated_at (z : FVec Ideal S1x16384x1024 .f32) (R : Fin 16384) (x : Fin 1024) :
    activated z (ix3 0 R x) = Cert.InProj.gelu (z (ix3 0 R x)) := by
  pointwise [activated, Cert.InProj.gelu]

theorem means_at (v : FVec Ideal S1x16384x1024 .f32) (R : Fin 16384) :
    means v (ix3 0 R 0) = Cert.InProj.mean fun x => v (ix3 0 R x) := by
  pointwise [means, Cert.InProj.mean]

theorem centred_at (v : FVec Ideal S1x16384x1024 .f32) (R : Fin 16384) (x : Fin 1024) :
    centred v (ix3 0 R x) = v (ix3 0 R x) - Cert.InProj.mean fun x => v (ix3 0 R x) := by
  pointwise [centred, means_at]

theorem layered_at (v : FVec Ideal S1x16384x1024 .f32) (g b : FVec Ideal S2x1024 .f32) (R : Fin 16384) (x : Fin 1024) :
    layered (centred v) g b (ix3 0 R x)
      = Cert.InProj.layerNormed (fun x => v (ix3 0 R x)) (fun x => g (ix2 1 x)) (fun x => b (ix2 1 x)) x := by
  pointwise [layered, means_at, centred_at, Cert.InProj.layerNormed]

theorem joined_at (p0 p1 p2 p3 p4 : FVec Ideal S1x16384x1024 .f32) (R : Fin 16384) (j : Fin 5120) :
    joined p0 p1 p2 p3 p4 (ix2 R j)
      = if h0 : j.val < 1024 then p0 (ix3 0 R ⟨j.val, h0⟩)
        else if h1 : j.val - 1024 < 1024 then p1 (ix3 0 R ⟨j.val - 1024, h1⟩)
        else if h2 : j.val - 1024 - 1024 < 1024 then p2 (ix3 0 R ⟨j.val - 1024 - 1024, h2⟩)
        else if h3 : j.val - 1024 - 1024 - 1024 < 1024 then p3 (ix3 0 R ⟨j.val - 1024 - 1024 - 1024, h3⟩)
        else p4 (ix3 0 R ⟨j.val - 1024 - 1024 - 1024 - 1024, by omega⟩) := by
  pointwise [joined]

theorem cols_at (z : FVec Ideal S1x16384x5120 .f32) (R : Fin 16384) (x : Fin 1024) :
    extractStridedSlice S1x16384x1024 ![0, 0, 0] z slices_S1x16384x5120_S1x16384x1024_0_0_0 (ix3 0 R x)
        = Cert.InProj.part (fun j => z (ix3 0 R j)) 0 x
    ∧ extractStridedSlice S1x16384x1024 ![0, 0, 1024] z slices_S1x16384x5120_S1x16384x1024_0_0_1024 (ix3 0 R x)
        = Cert.InProj.part (fun j => z (ix3 0 R j)) 1 x
    ∧ extractStridedSlice S1x16384x1024 ![0, 0, 2048] z slices_S1x16384x5120_S1x16384x1024_0_0_2048 (ix3 0 R x)
        = Cert.InProj.part (fun j => z (ix3 0 R j)) 2 x
    ∧ extractStridedSlice S1x16384x1024 ![0, 0, 3072] z slices_S1x16384x5120_S1x16384x1024_0_0_3072 (ix3 0 R x)
        = Cert.InProj.part (fun j => z (ix3 0 R j)) 3 x
    ∧ extractStridedSlice S1x16384x1024 ![0, 0, 4096] z slices_S1x16384x5120_S1x16384x1024_0_0_4096 (ix3 0 R x)
        = Cert.InProj.part (fun j => z (ix3 0 R j)) 4 x := by
  refine ⟨?_, ?_, ?_, ?_, ?_⟩ <;> pointwise [Cert.InProj.part] <;> blk_ext []

/-- THE REFERENCE AT AN ELEMENT: the projected row, each part through its own map. -/
theorem result_at (z : FVec Ideal S1x16384x5120 .f32) (gq gk : FVec Ideal S2x128 .f32) (lg lb : FVec Ideal S2x1024 .f32)
    (R : Fin 16384) (j : Fin 5120) :
    result z gq gk lg lb (ix2 R j)
      = Cert.InProj.mapped (fun j => z (ix3 0 R j)) (fun d => gq (ix2 1 d)) (fun d => gk (ix2 1 d))
          (fun x => lg (ix2 1 x)) (fun x => lb (ix2 1 x)) j := by
  simp only [result, joined_at, queries_at, keys_at, layered_at, activated_at, (cols_at z R _).1, (cols_at z R _).2.1,
    (cols_at z R _).2.2.1, (cols_at z R _).2.2.2.1, (cols_at z R _).2.2.2.2, Cert.InProj.mapped]

end Cert.Reference3Ideal.InProj

end
-- ==== Proof.InProj.Run.lean ====
module

public import proofs.«01_k».proof.Proof.InProj.Point
public import proofs.«01_k».proof.Proof.InProj.Reference

/-! The input projection's launch run, and its results against the reference's. -/

@[expose] public section

set_option maxRecDepth 16384

noncomputable section

namespace Cert.Kernel3Ideal.InProj

open Cert.Kernel3Ideal Cert.Kernel3Ideal.Gen Idealize.ShloMosaic Idealize.ShloMosaic.TcCoe Idealize.SL.Sem

variable (m : (ℓ : Loc nD τ sig) → Buf (Elt Ideal) ℓ)

/-- The program run: its result arrays hold the mapped rows and the cast weight, its arguments are unchanged. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v25_0) = result m c
      ∧ r.2.mem ((c : Thread nD τ).loc main_v25_1) = cast m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 8).trans (array_eq m c), ((h c).1 9).trans (cast_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c)))⟩)
    (run_main m ρ)

/-- The mapped rows are the reference's, on the same arguments. -/
theorem result_eq (c : Dev nD) : result m c
    = Cert.Reference3Ideal.InProj.result (Cert.Reference3Ideal.InProj.projected
          (Cert.Reference3Ideal.InProj.normed (m ((c : Thread nD τ).loc main_arg0)) (m ((c : Thread nD τ).loc main_arg1)))
          (m ((c : Thread nD τ).loc main_arg2)))
        (m ((c : Thread nD τ).loc main_arg3)) (m ((c : Thread nD τ).loc main_arg4))
        (m ((c : Thread nD τ).loc main_arg5)) (m ((c : Thread nD τ).loc main_arg6)) := by
  funext i
  idx_vars i
  refine Eq.trans ?_ (Cert.Reference3Ideal.InProj.result_at _ _ _ _ _ i0 i1).symm
  simp only [Cert.Reference3Ideal.InProj.projected_at, Cert.Reference3Ideal.InProj.normed_at]
  rfl

/-- The cast weight is the reference's slice of it. -/
theorem cast_slab (c : Dev nD) : cast m c
    = truncf (F := Ideal) .bf16 (extractStridedSlice S1x2048x11008 ![1, 0, 0]
        (m ((c : Thread nD τ).loc main_arg7) : FVec Ideal Cert.Reference3Ideal.S2x2048x11008 .f32)
        Cert.Reference3Ideal.Facts₀.slices_S2x2048x11008_S1x2048x11008_1_0_0) Cert.Reference3Ideal.Facts₀.bitsLt_bf16_f32 := by
  funext i
  idx_vars i
  pointwise [cast]

end Cert.Kernel3Ideal.InProj

end
-- ==== Proof.Mem.Terms.lean ====
module

public import proofs.«01_k».proof.Proof.Ffn.Terms

/-! ONE ROW OF THE MEMORY CROSS-ATTENTION, in extended reals: the kernel's and the reference's arrangement of each
    head, and the facts that bring them together where the scores are real. -/

@[expose] public section

set_option maxRecDepth 16384

noncomputable section

namespace Cert.Mem

open Idealize.ShloMosaic Finset

/-- One head of 512 lanes divided by the root of its mean square and scaled lane by lane. -/
def headNormed (z g : Fin 512 → EReal) (d : Fin 512) : EReal :=
  z d * Ideal.rsqrt (Ideal.div (∑ k, z k * z k) (Ideal.ofBits .f32 1140850688#32) + Ideal.ofBits .f32 897988541#32) * g d

/-- Head `n` of a row of four heads. -/
def head {M : Type*} (z : Fin 2048 → M) (n : Fin 4) (d : Fin 512) : M := z ⟨n.val * 512 + d.val, by omega⟩

/-- The largest of 256 scores. -/
def top (s : Fin 256 → EReal) : EReal := univ.fold max ⊥ s

/-- The reductions' initial value is the least extended real. -/
theorem bot_eq : Ideal.ofBits .f32 4286578688#32 = ⊥ := by
  simp [Ideal.ofBits, Ideal.ieee]

/-- The exponential of a score less the largest one. -/
def weight (s : Fin 256 → EReal) (i : Fin 256) : EReal := Ideal.exp (s i - top s)

/-- The weighted sum of the values, then divided by the sum of the weights. -/
def attended (s v : Fin 256 → EReal) : EReal :=
  Ideal.div (∑ i, weight s i * v i) (∑ i, weight s i)

/-- The sum of the values against weights already divided by their sum. -/
def mixed (s v : Fin 256 → EReal) : EReal :=
  ∑ i, v i * Ideal.div (weight s i) (∑ i, weight s i)

/-- The scale `1 / √512` of the scores. -/
def scale : EReal := Ideal.ofBits .f32 1026884851#32

/-- A head of scores, the scale in the query's gain. -/
def scoresIn (z g : Fin 512 → EReal) (k : Fin 256 → Fin 512 → EReal) (i : Fin 256) : EReal :=
  ∑ d, headNormed z (fun d => g d * scale) d * k i d

/-- A head of scores, the scale outside the product. -/
def scoresOut (z g : Fin 512 → EReal) (k : Fin 256 → Fin 512 → EReal) (i : Fin 256) : EReal :=
  (∑ d, headNormed z g d * k i d) * scale

/-- The scale is a nonnegative real. -/
theorem scale_eq : ∃ r : ℝ, 0 ≤ r ∧ scale = (r : EReal) :=
  ⟨1 / 2 ^ 28 * 11863283, by norm_num, by
    unfold scale; simp [Ideal.ofBits, Ideal.ieee, -EReal.coe_mul]; norm_num⟩

/-- A nonnegative real goes into a sum of extended reals. -/
theorem sum_mul_coe {ι : Type*} (s : Finset ι) (f : ι → EReal) {r : ℝ} (hr : 0 ≤ r) :
    (∑ i ∈ s, f i) * (r : EReal) = ∑ i ∈ s, f i * (r : EReal) := by
  induction s using Finset.cons_induction with
  | empty => simp
  | cons a s ha ih =>
    rw [sum_cons, sum_cons, EReal.right_distrib_of_nonneg_of_ne_top (by exact_mod_cast hr) (EReal.coe_ne_top _), ih]

/-- The scale may stand in the gain or outside the product. -/
theorem scores_eq (z g : Fin 512 → EReal) (k : Fin 256 → Fin 512 → EReal) : scoresIn z g k = scoresOut z g k := by
  obtain ⟨r, hr, e⟩ := scale_eq
  funext i
  unfold scoresIn scoresOut
  rw [e, sum_mul_coe _ _ hr]
  refine sum_congr rfl fun d _ => ?_
  simp only [headNormed, ← mul_assoc]
  rw [mul_assoc _ (r : EReal), mul_comm (r : EReal), mul_assoc _ (k i d)]

/-! ### Reals among the extended reals -/

/-- Neither of the infinities. -/
def IsReal (x : EReal) : Prop := ∃ r : ℝ, x = (r : EReal)

theorem IsReal.add {x y : EReal} (hx : IsReal x) (hy : IsReal y) : IsReal (x + y) := by
  obtain ⟨r, rfl⟩ := hx; obtain ⟨q, rfl⟩ := hy; exact ⟨r + q, (EReal.coe_add r q).symm⟩

theorem IsReal.mul {x y : EReal} (hx : IsReal x) (hy : IsReal y) : IsReal (x * y) := by
  obtain ⟨r, rfl⟩ := hx; obtain ⟨q, rfl⟩ := hy; exact ⟨r * q, (EReal.coe_mul r q).symm⟩

theorem IsReal.sum {ι : Type*} (s : Finset ι) {f : ι → EReal} (h : ∀ i, IsReal (f i)) : IsReal (∑ i ∈ s, f i) := by
  induction s using Finset.cons_induction with
  | empty => exact ⟨0, by simp⟩
  | cons a s ha ih => rw [sum_cons]; exact (h a).add ih

/-- A sum of squares is infinite, or all its terms are real and it is a nonnegative real. -/
theorem sum_sq {ι : Type*} (s : Finset ι) (f : ι → EReal) :
    ∑ i ∈ s, f i * f i = ⊤ ∨ (∀ i ∈ s, IsReal (f i)) ∧ ∃ r : ℝ, 0 ≤ r ∧ ∑ i ∈ s, f i * f i = (r : EReal) := by
  induction s using Finset.cons_induction with
  | empty => exact .inr ⟨by simp, 0, le_refl _, by simp⟩
  | cons a s ha ih =>
    rw [sum_cons]
    have hsq : f a * f a = ⊤ ∨ ∃ q : ℝ, f a = (q : EReal) := by
      induction hv : f a with
      | bot => exact .inl EReal.bot_mul_bot
      | top => exact .inl EReal.top_mul_top
      | coe q => exact .inr ⟨q, rfl⟩
    rcases ih with e | ⟨hr, r, hr0, e⟩
    · rw [e]
      refine .inl (EReal.add_top_of_ne_bot ?_)
      rcases hsq with h | ⟨q, h⟩
      · rw [h]; exact top_ne_bot
      · rw [h, ← EReal.coe_mul]; exact EReal.coe_ne_bot _
    · rcases hsq with h | ⟨q, h⟩
      · rw [h, e]; exact .inl (EReal.top_add_coe r)
      · refine .inr ⟨fun i hi => ?_, q * q + r, add_nonneg (mul_self_nonneg q) hr0, by rw [h, e, EReal.coe_add, EReal.coe_mul]⟩
        rcases mem_cons.1 hi with rfl | hi
        · exact ⟨q, h⟩
        · exact hr i hi

theorem eps_eq : ∃ r : ℝ, 0 < r ∧ Ideal.ofBits .f32 897988541#32 = (r : EReal) :=
  ⟨1 / 2 ^ 43 * 8796093, by norm_num, by simp [Ideal.ofBits, Ideal.ieee, -EReal.coe_mul]; norm_num⟩

theorem w512_eq : Ideal.ofBits .f32 1140850688#32 = ((512 : ℝ) : EReal) := by
  simp [Ideal.ofBits, Ideal.ieee, -EReal.coe_mul]; norm_num

/-- The inverse root of a mean of squares with the small constant added is a real. -/
theorem rsqrt_real {r w : ℝ} (hr : 0 ≤ r) (hw : 0 < w) :
    IsReal (Ideal.rsqrt (Ideal.div (r : EReal) (w : EReal) + Ideal.ofBits .f32 897988541#32)) := by
  obtain ⟨q, hq, e⟩ := eps_eq
  have hw' : (w : EReal) ≠ 0 := by exact_mod_cast hw.ne'
  have hp : 0 < r * w⁻¹ + q := by positivity
  refine ⟨(Real.sqrt (r * w⁻¹ + q))⁻¹, ?_⟩
  rw [e, Ideal.div, if_neg hw', ← EReal.coe_inv, ← EReal.coe_mul, ← EReal.coe_add, Ideal.rsqrt_coe, if_neg hp.le.not_gt,
    if_neg hp.ne']

/-- A normalised head is real with a real gain, whatever its entries: an infinite one makes the inverse root zero. -/
theorem headNormed_real (z : Fin 512 → EReal) {g : Fin 512 → EReal} (hg : ∀ d, IsReal (g d)) (d : Fin 512) :
    IsReal (headNormed z g d) := by
  unfold headNormed
  rcases sum_sq univ z with e | ⟨hz, r, hr, e⟩
  · obtain ⟨q, -, eq⟩ := eps_eq
    have h512 : ((512 : ℝ) : EReal) ≠ 0 := by norm_num
    rw [e, w512_eq, eq, Ideal.div, if_neg h512, ← EReal.coe_inv, EReal.top_mul_coe_of_pos (by norm_num), EReal.top_add_coe,
      Ideal.rsqrt_top, mul_zero, zero_mul]
    exact ⟨0, EReal.coe_zero.symm⟩
  · rw [e, w512_eq]
    exact ((hz d (mem_univ d)).mul (rsqrt_real hr (by norm_num))).mul (hg d)

theorem scoresOut_real (z : Fin 512 → EReal) {g : Fin 512 → EReal} {k : Fin 256 → Fin 512 → EReal}
    (hg : ∀ d, IsReal (g d)) (hk : ∀ i d, IsReal (k i d)) (i : Fin 256) : IsReal (scoresOut z g k i) := by
  obtain ⟨r, _, e⟩ := scale_eq
  exact (IsReal.sum _ fun d => (headNormed_real z hg d).mul (hk i d)).mul ⟨r, e⟩

/-- Where every score is real, the weights' sum may divide before or after the values are summed. -/
theorem attended_eq {s : Fin 256 → EReal} (hs : ∀ i, IsReal (s i)) (v : Fin 256 → EReal) : attended s v = mixed s v := by
  choose r hr using hs
  obtain ⟨j, -, hj⟩ := exists_mem_eq_sup (univ : Finset (Fin 256)) ⟨0, mem_univ _⟩ s
  have ht : top s = (r j : EReal) := (show top s = univ.sup s from rfl).trans (hj.trans (hr j))
  have hw : ∀ i, weight s i = ((Real.exp (r i - r j) : ℝ) : EReal) := fun i => by
    rw [weight, ht, hr i, ← EReal.coe_sub, Ideal.exp_coe]
  have hden : ∑ i, weight s i = ((∑ i, Real.exp (r i - r j) : ℝ) : EReal) := by
    simp only [hw]; exact (map_sum (⟨⟨((↑) : ℝ → EReal), rfl⟩, EReal.coe_add⟩ : ℝ →+ EReal) _ _).symm
  have hpos : 0 < ∑ i, Real.exp (r i - r j) := sum_pos (fun i _ => Real.exp_pos _) ⟨0, mem_univ _⟩
  have hne : ((∑ i, Real.exp (r i - r j) : ℝ) : EReal) ≠ 0 := by exact_mod_cast hpos.ne'
  unfold attended mixed
  rw [hden]
  simp only [Ideal.div, if_neg hne, ← EReal.coe_inv]
  rw [sum_mul_coe _ _ (inv_nonneg.mpr hpos.le)]
  exact sum_congr rfl fun i _ => by rw [mul_comm (weight s i), mul_assoc]

end Cert.Mem

end
-- ==== Proof.Mem.Kv.lean ====
module

public import proofs.«01_k».proof.Proof.Gen.Kernel2Ideal.Frame
public import proofs.«01_k».proof.Proof.Mem.Terms
public import Idealize.ShloMosaic.Lib.Pipeline.ReadBack

/-! What the first launch leaves: the memory's normalised keys and its values, side by side. -/

@[expose] public section

set_option maxRecDepth 16384

noncomputable section

namespace Cert.Kernel2Ideal.Mem

open Cert.Kernel2Ideal Cert.Kernel2Ideal.Gen Cert.Mem Idealize.ShloMosaic Idealize.ShloMosaic.TcCoe Idealize.SL.Sem

variable (m : (ℓ : Loc nD τ sig) → Buf (Elt Ideal) ℓ) (ρ : Dev nD → PrngReg) (c : Dev nD)

/-- Where every window of the first launch stands at a grid point. -/
theorem idx0 : ∀ t : Fin cfg0.N, win0_0.index t = ![0, 0] ∧ win0_1.index t = ![0, 0]
    ∧ win0_2.index t = ![1, 0, t.val] ∧ win0_3.index t = ![0, 0] ∧ win0_4.index t = ![0, t.val] :=
  (by decide +kernel : ∀ t : Fin grid0.N, _)

/-- The array column that a block's column `j` is at the point `t`. -/
def col (t : Fin cfg0.N) (j : Fin 1024) : Fin 4096 :=
  ⟨t.val * 1024 + j.val, by have := t.isLt; have : cfg0.N = 4 := rfl; omega⟩

theorem kblk0 (t : Fin cfg0.N) (i : Fin 256) (k : Fin 2048) :
    iblk0 (V1 m ρ) c 0 t (ix2 i k) = m ((c : Thread nD τ).loc main_arg1) (ix3 0 i k) := by
  blk_simp [iblk0, V1, W1, idx0 t]
  entry_read
  pointwise
  blk_ext [idx0 t]

theorem kblk1 (t : Fin cfg0.N) (k : Fin 2048) :
    iblk0 (V1 m ρ) c 1 t (ix2 0 k) = m ((c : Thread nD τ).loc main_arg3) (ix2 1 k) := by
  blk_simp [iblk0, V1, W1, idx0 t]
  entry_read
  pointwise
  blk_ext [idx0 t]

theorem kblk2 (t : Fin cfg0.N) (k : Fin 2048) (j : Fin 1024) :
    iblk0 (V1 m ρ) c 2 t (ix3 0 k j) = m ((c : Thread nD τ).loc main_arg5) (ix3 1 k (col t j)) := by
  blk_simp [iblk0, V1, W1, idx0 t]
  entry_read
  pointwise
  blk_ext [idx0 t, col]

theorem kblk3 (t : Fin cfg0.N) (d : Fin 512) :
    iblk0 (V1 m ρ) c 3 t (ix2 0 d) = m ((c : Thread nD τ).loc main_arg8) (ix2 1 d) := by
  blk_simp [iblk0, V1, W1, idx0 t]
  entry_read
  pointwise
  blk_ext [idx0 t]

/-- The projecting payload at an element. -/
theorem project_at (x : Vec Ideal S256x2048 .f32) (g : Vec Ideal S1x2048 .f32) (w : Vec Ideal S1x2048x1024 .bf16)
    (i : Fin 256) (j : Fin 1024) :
    k0_pay1 (F := Ideal) x g w (ix2 i j)
      = ∑ k, Cert.Ffn.normed (fun k => x (ix2 i k)) (fun k => g (ix2 0 k)) k * w (ix3 0 k j) := by
  pointwise [k0_pay1, Cert.Ffn.normed]

theorem keyLow_at (x : Vec Ideal S256x2048 .f32) (g : Vec Ideal S1x2048 .f32) (w : Vec Ideal S1x2048x1024 .bf16)
    (gk : Vec Ideal S1x512 .f32) (i : Fin 256) (d : Fin 512) :
    k0_pay2 (F := Ideal) x g w gk (ix2 i d)
      = headNormed (fun d => k0_pay1 (F := Ideal) x g w (ix2 i ⟨d.val, by omega⟩)) (fun d => gk (ix2 0 d)) d := by
  pointwise [k0_pay2, headNormed]

theorem keyHigh_at (x : Vec Ideal S256x2048 .f32) (g : Vec Ideal S1x2048 .f32) (w : Vec Ideal S1x2048x1024 .bf16)
    (gk : Vec Ideal S1x512 .f32) (i : Fin 256) (d : Fin 512) :
    k0_pay3 (F := Ideal) x g w gk (ix2 i d)
      = headNormed (fun d => k0_pay1 (F := Ideal) x g w (ix2 i ⟨512 + d.val, by omega⟩)) (fun d => gk (ix2 0 d)) d := by
  pointwise [k0_pay3, headNormed]

theorem value_at (x : Vec Ideal S256x2048 .f32) (g : Vec Ideal S1x2048 .f32) (w : Vec Ideal S1x2048x1024 .bf16)
    (i : Fin 256) (j : Fin 1024) :
    k0_pay4 (F := Ideal) x g w (ix2 i j) = k0_pay1 (F := Ideal) x g w (ix2 i j) := by
  pointwise [k0_pay4]

/-- The memory's row `i`, normalised. -/
def memNorm (i : Fin 256) : Fin 2048 → EReal :=
  Cert.Ffn.normed (fun k => m ((c : Thread nD τ).loc main_arg1) (ix3 0 i k)) (fun k => m ((c : Thread nD τ).loc main_arg3) (ix2 1 k))

/-- The layer's key and value projection. -/
def kvWeight (k : Fin 2048) (f : Fin 4096) : EReal := m ((c : Thread nD τ).loc main_arg5) (ix3 1 k f)

/-- The keys' gain. -/
def keyGain (d : Fin 512) : EReal := m ((c : Thread nD τ).loc main_arg8) (ix2 1 d)

/-- The memory's row `i`, projected. -/
def kvProj (i : Fin 256) (f : Fin 4096) : EReal := ∑ k, memNorm m c i k * kvWeight m c k f

/-- The memory's row `i`, projected, the keys' heads normalised. -/
def kvRow (i : Fin 256) (f : Fin 4096) : EReal :=
  if f.val < 2048 then
    headNormed (fun d => kvProj m c i ⟨f.val / 512 * 512 + d.val, by omega⟩) (keyGain m c) ⟨f.val % 512, by omega⟩
  else kvProj m c i f

theorem proj0_at (t : Fin cfg0.N) (i : Fin 256) (j : Fin 1024) :
    k0_pay1 (F := Ideal) (iblk0 (V1 m ρ) c 0 t) (iblk0 (V1 m ρ) c 1 t) (iblk0 (V1 m ρ) c 2 t) (ix2 i j)
      = kvProj m c i (col t j) := by
  rw [project_at]
  simp only [kblk0, kblk1, kblk2]
  rfl

/-- A key's head that starts at lane `512 n`, among the array's columns. -/
theorem kvRow_key (i : Fin 256) (n : Fin 4) (d : Fin 512) (f : Fin 4096) (hf : f.val = n.val * 512 + d.val) :
    kvRow m c i f = headNormed (fun d => kvProj m c i ⟨n.val * 512 + d.val, by omega⟩) (keyGain m c) d := by
  have e1 : f.val / 512 = n.val := by omega
  have e2 : (⟨f.val % 512, by omega⟩ : Fin 512) = d := Fin.ext (by show f.val % 512 = d.val; omega)
  unfold kvRow
  rw [if_pos (by omega), e2]
  simp only [e1]

theorem kvRow_value (i : Fin 256) (f : Fin 4096) (hf : 2048 ≤ f.val) : kvRow m c i f = kvProj m c i f :=
  if_neg (by omega)

theorem key_high (t : Fin cfg0.N) (ht : t.val < 2) (i i' : Fin 256) (j : Fin 1024) (d : Fin 512) (hi : i.val = i'.val)
    (hj : j.val = 512 + d.val) :
    k0_pay3 (F := Ideal) (iblk0 (V1 m ρ) c 0 t) (iblk0 (V1 m ρ) c 1 t) (iblk0 (V1 m ρ) c 2 t) (iblk0 (V1 m ρ) c 3 t) (ix2 i' d)
      = kvRow m c i (col t j) := by
  obtain rfl : i = i' := Fin.ext hi
  rw [keyHigh_at, kvRow_key m c i ⟨2 * t.val + 1, by omega⟩ d _ (by show t.val * 1024 + j.val = (2 * t.val + 1) * 512 + d.val; omega)]
  simp only [proj0_at, kblk3]
  refine congrArg (fun z => headNormed z (keyGain m c) d) (funext fun d => congrArg (kvProj m c i) (Fin.ext ?_))
  show t.val * 1024 + (512 + d.val) = (2 * t.val + 1) * 512 + d.val
  omega

theorem key_low (t : Fin cfg0.N) (ht : t.val < 2) (i i' : Fin 256) (j : Fin 1024) (d : Fin 512) (hi : i.val = i'.val)
    (hj : j.val = d.val) :
    k0_pay2 (F := Ideal) (iblk0 (V1 m ρ) c 0 t) (iblk0 (V1 m ρ) c 1 t) (iblk0 (V1 m ρ) c 2 t) (iblk0 (V1 m ρ) c 3 t) (ix2 i' d)
      = kvRow m c i (col t j) := by
  obtain rfl : i = i' := Fin.ext hi
  rw [keyLow_at, kvRow_key m c i ⟨2 * t.val, by omega⟩ d _ (by show t.val * 1024 + j.val = 2 * t.val * 512 + d.val; omega)]
  simp only [proj0_at, kblk3]
  refine congrArg (fun z => headNormed z (keyGain m c) d) (funext fun d => congrArg (kvProj m c i) (Fin.ext ?_))
  show t.val * 1024 + d.val = 2 * t.val * 512 + d.val
  omega

/-- A point of the keys stores two heads, normalised. -/
theorem point_keys (t : Fin cfg0.N) (ht : t.val < 2) (i : Fin 256) (j : Fin 1024) :
    outsAt0 (V1 m ρ) c t.val t.isLt (ix2 i j) = kvRow m c i (col t j) := by
  rw [outsAt0_A (V1 m ρ) c t ht (by omega)]
  frame_out
  canon_tiles x h using View.cover_of_tiledBy _ ![256, 512] (by sl_kernel_rfl) (ix2 i j)
  case piece0 =>
    idx_vars x
    exact key_high m ρ c t ht i x0 j x1 h0 h1
  case piece1 =>
    idx_vars x
    exact key_low m ρ c t ht i x0 j x1 h0 h1

/-- A point of the values stores its projected columns. -/
theorem point_values (t : Fin cfg0.N) (h0 : ¬t.val < 2) (i : Fin 256) (j : Fin 1024) :
    outsAt0 (V1 m ρ) c t.val t.isLt (ix2 i j) = kvRow m c i (col t j) := by
  rw [outsAt0_B (V1 m ρ) c t h0 (by omega)]
  frame_out
  rw [value_at, proj0_at, kvRow_value m c i (col t j) (by show 2048 ≤ t.val * 1024 + j.val; omega)]

/-- The keys and values, whole. -/
def kvs : FVec Ideal S256x4096 .bf16 := fun y => kvRow m c (y 0) (y 1)

theorem kv_eq : (dat0 (V1 m ρ) c).arrAt 4 cfg0.N = kvs m c := by
  refine (dat0 (V1 m ρ) c).arrAt_eq_of_covers 4 _ (by decide +kernel) fun t hf y => ?_
  blk_simp
  rw [after0_4]
  idx_vars y
  have e : ((View.whole main_v11).slice (win0_4.rect t)).emb (ix2 y0 y1) = ix2 y0 (col t y1) := by
    blk_ext [idx0 t, col]
  rw [e]
  by_cases h0 : t.val < 2
  · exact point_keys m ρ c t h0 y0 y1
  · exact point_values m ρ c t h0 y0 y1

end Cert.Kernel2Ideal.Mem

end
-- ==== Proof.Mem.Blocks.lean ====
module

public import proofs.«01_k».proof.Proof.Mem.Kv

/-! What the second launch's blocks hold at a grid point, and its payloads at an element. -/

@[expose] public section

set_option maxRecDepth 16384

noncomputable section

namespace Cert.Kernel2Ideal.Mem

open Cert.Kernel2Ideal Cert.Kernel2Ideal.Gen Cert.Mem Idealize.ShloMosaic Idealize.ShloMosaic.TcCoe Idealize.SL.Sem

variable (m : (ℓ : Loc nD τ sig) → Buf (Elt Ideal) ℓ) (ρ : Dev nD → PrngReg) (c : Dev nD)

/-- Where every window of the second launch stands at a grid point. -/
theorem idx1 : ∀ t : Fin cfg1.N, win1_0.index t = ![t.val, 0] ∧ win1_1.index t = ![0, 0]
    ∧ win1_2.index t = ![1, 0, 0] ∧ win1_3.index t = ![0, 0] ∧ win1_4.index t = ![0, 0]
    ∧ win1_5.index t = ![1, 0, 0] ∧ win1_6.index t = ![t.val, 0] :=
  (by decide +kernel : ∀ t : Fin grid1.N, _)

/-- The array row that a block's row `r` is at the point `t`. -/
def row (t : Fin cfg1.N) (r : Fin 512) : Fin 16384 :=
  ⟨t.val * 512 + r.val, by have := t.isLt; have : cfg1.N = 32 := rfl; omega⟩

/-- What neither the second stretch of host operations nor the first launch writes is as before that launch. -/
theorem V3_of (b : Ref sig .tc) (h1 : b ∉ hostOps1_W) (h0 : ∀ w, Pipeline.arrRef spec0 w ≠ b) : V3 m ρ c b = V1 m ρ c b :=
  (W3_of m ρ c b h1).trans (W2_of_ne m ρ c b h0)

theorem V3_kv : V3 m ρ c main_v11 = kvs m c :=
  (W3_of m ρ c main_v11 (by decide)).trans ((W2_arr m ρ c 4).trans (kv_eq m ρ c))

theorem ablk0 (t : Fin cfg1.N) (r : Fin 512) (k : Fin 2048) :
    iblk1 (V3 m ρ) c 0 t (ix2 r k) = m ((c : Thread nD τ).loc main_arg0) (ix3 0 (row t r) k) := by
  blk_simp [iblk1, idx1 t]
  rw [V3_of m ρ c main_v3 (by decide) (by decide)]
  simp only [V1, W1]
  entry_read
  pointwise
  blk_ext [idx1 t, row]

theorem ablk1 (t : Fin cfg1.N) (k : Fin 2048) :
    iblk1 (V3 m ρ) c 1 t (ix2 0 k) = m ((c : Thread nD τ).loc main_arg2) (ix2 1 k) := by
  blk_simp [iblk1, V3, W3, idx1 t]
  entry_read
  rw [W2_args m ρ c main_arg2 (by decide)]
  pointwise
  blk_ext [idx1 t]

theorem ablk2 (t : Fin cfg1.N) (k f : Fin 2048) :
    iblk1 (V3 m ρ) c 2 t (ix3 0 k f) = m ((c : Thread nD τ).loc main_arg4) (ix3 1 k f) := by
  blk_simp [iblk1, idx1 t]
  rw [V3_of m ρ c main_v0 (by decide) (by decide)]
  simp only [V1, W1]
  entry_read
  pointwise
  blk_ext [idx1 t]

theorem ablk3 (t : Fin cfg1.N) (d : Fin 512) :
    iblk1 (V3 m ρ) c 3 t (ix2 0 d) = (show EReal from m ((c : Thread nD τ).loc main_arg7) (ix2 1 d)) * scale := by
  blk_simp [iblk1, V3, W3, idx1 t]
  entry_read
  rw [W2_args m ρ c main_arg7 (by decide)]
  pointwise
  have e : (win1_3.blk t).view.emb (ix2 0 d) = ix2 0 d := by blk_ext [idx1 t]
  rw [e]
  rfl

theorem ablk4 (t : Fin cfg1.N) (i : Fin 256) (f : Fin 4096) :
    iblk1 (V3 m ρ) c 4 t (ix2 i f) = kvRow m c i f := by
  blk_simp [iblk1, idx1 t]
  rw [V3_kv]
  have e : (win1_4.blk t).view.emb (ix2 i f) = ix2 i f := by blk_ext [idx1 t]
  rw [e]
  rfl

theorem ablk5 (t : Fin cfg1.N) (k f : Fin 2048) :
    iblk1 (V3 m ρ) c 5 t (ix3 0 k f) = m ((c : Thread nD τ).loc main_arg6) (ix3 1 k f) := by
  blk_simp [iblk1, idx1 t]
  rw [V3_of m ρ c main_v2 (by decide) (by decide)]
  simp only [V1, W1]
  entry_read
  pointwise
  blk_ext [idx1 t]

/-- A head of scores. -/
def scoreRow (z g : Fin 512 → EReal) (k : Fin 256 → Fin 512 → EReal) (i : Fin 256) : EReal :=
  ∑ d, headNormed z g d * k i d

/-- The reduction from the least extended real is the largest score. -/
theorem fold_top (f : Fin 256 → EReal) : Finset.univ.fold max (Ideal.ofBits .f32 4286578688#32) f = top f := by
  rw [bot_eq]
  rfl

theorem query_at (x : Vec Ideal S512x2048 .f32) (g : Vec Ideal S1x2048 .f32) (w : Vec Ideal S1x2048x2048 .bf16)
    (r : Fin 512) (f : Fin 2048) :
    k1_pay3 (F := Ideal) x g w (ix2 r f)
      = ∑ k, Cert.Ffn.normed (fun k => x (ix2 r k)) (fun k => g (ix2 0 k)) k * w (ix3 0 k f) := by
  pointwise [k1_pay3, k1_pay2, Cert.Ffn.normed]

theorem scores0_at (x : Vec Ideal S512x2048 .f32) (g : Vec Ideal S1x2048 .f32) (w : Vec Ideal S1x2048x2048 .bf16)
    (gq : Vec Ideal S1x512 .f32) (k : Vec Ideal S256x512 .bf16) (r : Fin 512) (i : Fin 256) :
    k1_pay4 (F := Ideal) x g w gq k (ix2 r i)
      = scoreRow (fun d => k1_pay3 (F := Ideal) x g w (ix2 r ⟨d.val, by omega⟩)) (fun d => gq (ix2 0 d)) (fun i d => k (ix2 i d)) i := by
  pointwise [k1_pay4, scoreRow, headNormed]

theorem head0_at (s : FVec Ideal S512x256 .f32) (v : Vec Ideal S256x512 .bf16) (r d : Fin 512) :
    k1_pay5 (F := Ideal) s v (ix2 r d) = attended (fun i => s (ix2 r i)) (fun i => v (ix2 i d)) := by
  pointwise [k1_pay5, fold_top, attended, weight]

theorem exp1_at (q : FVec Ideal S512x2048 .f32) (g : Vec Ideal S1x512 .f32) (k : Vec Ideal S256x512 .bf16) (r : Fin 512) (i : Fin 256) :
    k1_pay6 (F := Ideal) q g k (ix2 r i)
      = weight (scoreRow (fun d => q (ix2 r ⟨512 + d.val, by omega⟩)) (fun d => g (ix2 0 d)) (fun i d => k (ix2 i d))) i := by
  pointwise [k1_pay6, fold_top, scoreRow, headNormed, weight]
  rfl

theorem head1_at (q : FVec Ideal S512x2048 .f32) (g : Vec Ideal S1x512 .f32) (k v : Vec Ideal S256x512 .bf16) (r d : Fin 512) :
    k1_pay8 (F := Ideal) (k1_pay6 q g k) (k1_pay7 q g k) v (ix2 r d)
      = attended (scoreRow (fun d => q (ix2 r ⟨512 + d.val, by omega⟩)) (fun d => g (ix2 0 d)) (fun i d => k (ix2 i d)))
          (fun i => v (ix2 i d)) := by
  pointwise [k1_pay8, k1_pay7, exp1_at, attended]

theorem exp2_at (q : FVec Ideal S512x2048 .f32) (g : Vec Ideal S1x512 .f32) (k : Vec Ideal S256x512 .bf16) (r : Fin 512) (i : Fin 256) :
    k1_pay9 (F := Ideal) q g k (ix2 r i)
      = weight (scoreRow (fun d => q (ix2 r ⟨1024 + d.val, by omega⟩)) (fun d => g (ix2 0 d)) (fun i d => k (ix2 i d))) i := by
  pointwise [k1_pay9, fold_top, scoreRow, headNormed, weight]
  rfl

theorem head2_at (q : FVec Ideal S512x2048 .f32) (g : Vec Ideal S1x512 .f32) (k v : Vec Ideal S256x512 .bf16) (r d : Fin 512) :
    k1_pay12 (F := Ideal) (k1_pay10 q g k v) (k1_pay11 q g k) (ix2 r d)
      = attended (scoreRow (fun d => q (ix2 r ⟨1024 + d.val, by omega⟩)) (fun d => g (ix2 0 d)) (fun i d => k (ix2 i d)))
          (fun i => v (ix2 i d)) := by
  pointwise [k1_pay12, k1_pay10, k1_pay11, exp2_at, attended]

theorem head3_at (q : FVec Ideal S512x2048 .f32) (g : Vec Ideal S1x512 .f32) (k v : Vec Ideal S256x512 .bf16) (r d : Fin 512) :
    k1_pay13 (F := Ideal) q g k v (ix2 r d)
      = attended (scoreRow (fun d => q (ix2 r ⟨1536 + d.val, by omega⟩)) (fun d => g (ix2 0 d)) (fun i d => k (ix2 i d)))
          (fun i => v (ix2 i d)) := by
  pointwise [k1_pay13, fold_top, scoreRow, headNormed, weight, attended]
  rfl

theorem out_at (x : FVec Ideal S512x2048 .f32) (a : Vec Ideal S512x2048 .bf16) (w : Vec Ideal S1x2048x2048 .bf16) (r : Fin 512) (f : Fin 2048) :
    k1_pay1 (F := Ideal) x a w (ix2 r f) = x (ix2 r f) + ∑ k, a (ix2 r k) * w (ix3 0 k f) := by
  pointwise [k1_pay1]

end Cert.Kernel2Ideal.Mem

end
-- ==== Proof.Mem.Point.lean ====
module

public import proofs.«01_k».proof.Proof.Mem.Blocks

/-! What the second launch leaves: the rows with their attended memory added. -/

@[expose] public section

set_option maxRecDepth 16384

noncomputable section

namespace Cert.Kernel2Ideal.Mem

open Cert.Kernel2Ideal Cert.Kernel2Ideal.Gen Cert.Mem Idealize.ShloMosaic Idealize.ShloMosaic.TcCoe Idealize.SL.Sem

variable (m : (ℓ : Loc nD τ sig) → Buf (Elt Ideal) ℓ) (ρ : Dev nD → PrngReg) (c : Dev nD)

/-- The layer's query projection, its output projection and the queries' gain. -/
def queryWeight (k f : Fin 2048) : EReal := m ((c : Thread nD τ).loc main_arg4) (ix3 1 k f)

def outWeight (k f : Fin 2048) : EReal := m ((c : Thread nD τ).loc main_arg6) (ix3 1 k f)

def queryGain (d : Fin 512) : EReal := m ((c : Thread nD τ).loc main_arg7) (ix2 1 d)

/-- The array row `R`, and the same normalised and projected. -/
def rowIn (R : Fin 16384) (k : Fin 2048) : EReal := m ((c : Thread nD τ).loc main_arg0) (ix3 0 R k)

def rowNorm (R : Fin 16384) : Fin 2048 → EReal :=
  Cert.Ffn.normed (rowIn m c R) (fun k => m ((c : Thread nD τ).loc main_arg2) (ix2 1 k))

def rowProj (R : Fin 16384) (f : Fin 2048) : EReal := ∑ k, rowNorm m c R k * queryWeight m c k f

/-- The scores of row `R` in head `n`. -/
def rowScores (R : Fin 16384) (n : Fin 4) : Fin 256 → EReal :=
  scoresIn (head (rowProj m c R) n) (queryGain m c) fun i d => kvRow m c i ⟨n.val * 512 + d.val, by omega⟩

/-- Row `R`'s heads of attended values, side by side. -/
def rowAtt (R : Fin 16384) (f : Fin 2048) : EReal :=
  attended (rowScores m c R ⟨f.val / 512, by omega⟩) fun i => kvRow m c i ⟨2048 + f.val, by omega⟩

/-- Row `R` with its attended values, projected, added. -/
def rowOut (R : Fin 16384) (f : Fin 2048) : EReal := rowIn m c R f + ∑ k, rowAtt m c R k * outWeight m c k f

theorem projected_at (t : Fin cfg1.N) (r : Fin 512) (f : Fin 2048) :
    k1_pay3 (F := Ideal) (iblk1 (V3 m ρ) c 0 t) (iblk1 (V3 m ρ) c 1 t) (iblk1 (V3 m ρ) c 2 t) (ix2 r f)
      = rowProj m c (row t r) f := by
  rw [query_at]
  simp only [ablk0, ablk1, ablk2]
  rfl

/-- 512 columns of the keys and values, as the body loads them. -/
theorem lanes_at (t : Fin cfg1.N) (off : ℕ) (h) (hb : off + 512 ≤ 4096) (i : Fin 256) (d : Fin 512) :
    View.ld (iblk1 (V3 m ρ) c 4 t) (Rect.unit (s := S256x4096) ![0, off] ![256, 512] h) (ix2 i d)
      = kvRow m c i ⟨off + d.val, by omega⟩ :=
  (View.ld_unit_apply_of (iblk1 (V3 m ρ) c 4 t) ![0, off] ![256, 512] h (ix2 i d) (ix2 i ⟨off + d.val, by omega⟩) fun a => by
    match a with
    | 0 => exact (Nat.zero_add _).symm
    | 1 => rfl).trans (ablk4 m ρ c t i _)

/-- One head of a block's row, from the loads of its keys and values. -/
theorem piece_at (t : Fin cfg1.N) (n : Fin 4) (off voff : ℕ) (hn : off = n.val * 512) (hvo : voff = 2048 + off) (hk) (hv)
    (z : Fin 512 → EReal) (r r' : Fin 512) (hz : ∀ d : Fin 512, z d = rowProj m c (row t r') ⟨off + d.val, by omega⟩)
    (f : Fin 2048) (d : Fin 512) (hr : r.val = r'.val) (hf : f.val = off + d.val) :
    attended (scoreRow z (fun d => iblk1 (V3 m ρ) c 3 t (ix2 0 d))
        (fun i d => View.ld (iblk1 (V3 m ρ) c 4 t) (Rect.unit (s := S256x4096) ![0, off] ![256, 512] hk) (ix2 i d)))
      (fun i => View.ld (iblk1 (V3 m ρ) c 4 t) (Rect.unit (s := S256x4096) ![0, voff] ![256, 512] hv) (ix2 i d))
      = rowAtt m c (row t r) f := by
  obtain rfl : r = r' := Fin.ext hr
  have e : (⟨f.val / 512, by omega⟩ : Fin 4) = n := Fin.ext (by show f.val / 512 = n.val; omega)
  have ef : (⟨voff + d.val, by omega⟩ : Fin 4096) = ⟨2048 + f.val, by omega⟩ := Fin.ext (by show voff + d.val = 2048 + f.val; omega)
  unfold rowAtt
  rw [e]
  subst hn
  simp only [lanes_at m ρ c t voff hv (by omega), ef]
  refine congrArg (fun s => attended s _) (funext fun i => ?_)
  unfold scoreRow rowScores scoresIn
  refine Finset.sum_congr rfl fun d _ => congrArg₂ (· * ·) ?_ (lanes_at m ρ c t (n.val * 512) hk (by omega) i d)
  refine (congrArg₂ (fun z g => headNormed z g d) (funext hz) (funext fun d => ablk3 m ρ c t d)).trans rfl

/-- A load of the whole scratch reads what the stores left. -/
theorem reload {κ : Kind} {sp : Space} (v : View sig κ sp S512x2048 .bf16) (L : List (View.Piece (Elt Ideal) S512x2048 .bf16)) (h)
    (y : S512x2048.Idx) :
    v.readCov L (Rect.unit (s := S512x2048) ![0, 0] ![512, 2048] h).toLoadRect y = View.canon L y := by
  rw [View.readCov_eq_canon']
  refine congrArg (View.canon L) (funext fun a => Fin.ext ?_)
  match a with
  | 0 => exact (Nat.zero_add _).trans (Nat.one_mul _)
  | 1 => exact (Nat.zero_add _).trans (Nat.one_mul _)

/-- THE POINT: the block's rows, each with its attended values projected and added. -/
theorem point (t : Fin cfg1.N) (r : Fin 512) (f : Fin 2048) :
    outsAt1 (V3 m ρ) c t (ix2 r f) = rowOut m c (row t r) f := by
  unfold outsAt1
  frame_out
  rw [out_at]
  have e : k1_pay2 (F := Ideal) (iblk1 (V3 m ρ) c 0 t) (ix2 r f) = rowIn m c (row t r) f := by
    refine Eq.trans ?_ (ablk0 m ρ c t r f)
    pointwise [k1_pay2]
  simp only [e, ablk5, reload]
  unfold rowOut
  refine congrArg (rowIn m c (row t r) f + ·) (Finset.sum_congr rfl fun k _ => congrArg (· * outWeight m c k f) ?_)
  canon_tiles x h using View.cover_of_tiledBy _ ![512, 512] (by sl_kernel_rfl) (ix2 r k)
  case piece0 =>
    idx_vars x
    exact (head3_at _ _ _ _ x0 x1).trans (piece_at m ρ c t 3 1536 3584 rfl rfl inb_S256x4096_S256x512_0_1536
      inb_S256x4096_S256x512_0_3584 _ r x0 (fun d => projected_at m ρ c t x0 _) k x1 h0 h1)
  case piece1 =>
    idx_vars x
    exact (head2_at _ _ _ _ x0 x1).trans (piece_at m ρ c t 2 1024 3072 rfl rfl inb_S256x4096_S256x512_0_1024
      inb_S256x4096_S256x512_0_3072 _ r x0 (fun d => projected_at m ρ c t x0 _) k x1 h0 h1)
  case piece2 =>
    idx_vars x
    exact (head1_at _ _ _ _ x0 x1).trans (piece_at m ρ c t 1 512 2560 rfl rfl inb_S256x4096_S256x512_0_512
      inb_S256x4096_S256x512_0_2560 _ r x0 (fun d => projected_at m ρ c t x0 _) k x1 h0 h1)
  case piece3 =>
    idx_vars x
    refine (head0_at _ _ x0 x1).trans ?_
    simp only [scores0_at]
    exact piece_at m ρ c t 0 0 2048 rfl rfl inb_S256x4096_S256x512_0_0 inb_S256x4096_S256x512_0_2048 _ r x0
      (fun d => (projected_at m ρ c t x0 _).trans (congrArg (rowProj m c (row t x0)) (Fin.ext (Nat.zero_add _).symm))) k x1 h0
      (h1.trans (Nat.zero_add _).symm)

/-- The launch's result: every row. -/
def result : FVec Ideal S16384x2048 .f32 := fun y => rowOut m c (y 0) (y 1)

theorem result_arr : (dat1 (V3 m ρ) c).arrAt 6 cfg1.N = result m c := by
  refine (dat1 (V3 m ρ) c).arrAt_eq_of_covers 6 _ (by decide +kernel) fun t hf y => ?_
  blk_simp
  rw [after1_6]
  idx_vars y
  have e : ((View.whole main_v20).slice (win1_6.rect t)).emb (ix2 y0 y1) = ix2 (row t y0) y1 := by
    blk_ext [idx1 t, row]
  rw [e]
  exact point m ρ c t y0 y1

end Cert.Kernel2Ideal.Mem

end
-- ==== Proof.Mem.Finite.lean ====
module

public import proofs.«01_k».proof.Defs
public import proofs.«01_k».proof.Proof.Gen.Pre_finite
public import proofs.«01_k».proof.Proof.Mem.Point
public import Idealize.ShloMosaic.Lib.ReduceAll

/-! What the precondition gives: with real gains every score is real. -/

@[expose] public section

set_option maxRecDepth 16384

noncomputable section

namespace Cert.Kernel2Ideal.Mem

open Cert.Kernel2Ideal Cert.Mem Idealize.ShloMosaic Idealize.ShloMosaic.TcCoe Idealize.SL.Sem

/-- An extended real whose absolute value is below infinity is real. -/
theorem isReal_of_abs {x : EReal} (h : max x (-x) < ⊤) : IsReal x := by
  obtain ⟨h1, h2⟩ := max_lt_iff.1 h
  refine ⟨x.toReal, (EReal.coe_toReal h1.ne fun e => ?_).symm⟩
  rw [e] at h2
  exact absurd h2 (by simp)

/-- The precondition's test of a row of gains: every element's absolute value is below infinity. -/
def below {s : Shape} {axes : List (Fin s.rank)} (x : FVec Ideal s .f32)
    (hb : Cert.Pre_finite.S_.BroadcastsInDim s (![] : Fin 0 → Fin s.rank)) (hr : s.ReducesTo axes Cert.Pre_finite.S_)
    (hu : 0 < Cert.Pre_finite.S_.numel) : IVec Cert.Pre_finite.S_ 1 :=
  Host.reduce IntOp.andi (cmpf .olt (Host.absf x)
      (broadcastInDim s ![] hb (constant (F := Ideal) Cert.Pre_finite.S_ .f32 0x7F800000#32)))
    (constantI Cert.Pre_finite.S_ 1 1#1) hr hu

/-- An array that passes holds reals only. -/
theorem real_of {s : Shape} {axes : List (Fin s.rank)} {x : FVec Ideal s .f32}
    {hb : Cert.Pre_finite.S_.BroadcastsInDim s (![] : Fin 0 → Fin s.rank)} {hr : s.ReducesTo axes Cert.Pre_finite.S_}
    {hu : 0 < Cert.Pre_finite.S_.numel} (e : below x hb hr hu = fun _ => 1#1) (i : s.Idx) : IsReal (x i) := by
  have h := Host.reduce_andi_all _ _ hr hu (Shape.Idx.first hu) (congrFun e _) i
  have h2 : max (x i : EReal) (-(x i : EReal)) < Ideal.ofBits .f32 0x7F800000#32 := (Ideal.cmp_olt_eq_one _ _).1 h
  rw [show Ideal.ofBits .f32 0x7F800000#32 = (⊤ : EReal) by simp [Ideal.ofBits, Ideal.ieee]] at h2
  exact isReal_of_abs h2

/-- The layer's row of gains, as the precondition takes it. -/
def gains (g : FVec Ideal S2x512 .f32) : FVec Ideal Cert.Pre_finite.S512 .f32 :=
  shapeCast Cert.Pre_finite.S512 (extractStridedSlice S1x512 ![1, 0] g Cert.Pre_finite.Facts.slices_S2x512_S1x512_1_0)
    Cert.Pre_finite.Facts.shapeCasts_S1x512_S512

theorem gains_at (g : FVec Ideal S2x512 .f32) (d : Fin 512) : gains g (ix1 d) = g (ix2 1 d) := by
  pointwise [gains]

variable (m : (ℓ : Loc nD τ sig) → Buf (Elt Ideal) ℓ) (c : Dev nD) (h : Cert.Pre_Kernel2Ideal_finite m)

include h

/-- The layer's gains of the queries' heads are real. -/
theorem queryGain_real (d : Fin 512) : IsReal (queryGain m c d) := by
  have e := real_of (hr := Cert.Pre_finite.Facts.reducesTo_S512_S_d0) (x := gains (m ((c : Thread nD τ).loc main_arg7))) (h c).1 (ix1 d)
  rwa [gains_at] at e

/-- So are those of the keys' heads. -/
theorem keyGain_real (d : Fin 512) : IsReal (keyGain m c d) := by
  have e := real_of (hr := Cert.Pre_finite.Facts.reducesTo_S512_S_d0) (x := gains (m ((c : Thread nD τ).loc main_arg8))) (h c).2 (ix1 d)
  rwa [gains_at] at e

/-- So are the scores: both heads are normalised. -/
theorem rowScores_real (R : Fin 16384) (n : Fin 4) (i : Fin 256) : IsReal (rowScores m c R n i) := by
  unfold rowScores
  rw [scores_eq]
  refine scoresOut_real _ (queryGain_real m c h) (fun i d => ?_) i
  rw [kvRow_key m c i n d _ rfl]
  exact headNormed_real _ (keyGain_real m c h) d

end Cert.Kernel2Ideal.Mem

end
-- ==== Proof.Mem.Reference.lean ====
module

public import proofs.«01_k».proof.Proof.Gen.Reference2Ideal.Run
public import proofs.«01_k».proof.Proof.Mem.Terms

/-! The reference's memory cross-attention, stage by stage, each read at an index. -/

@[expose] public section

set_option maxRecDepth 16384

noncomputable section

namespace Cert.Reference2Ideal.Mem

open Cert.Reference2Ideal Cert.Reference2Ideal.Gen Idealize.ShloMosaic Idealize.ShloMosaic.TcCoe Idealize.SL.Sem

/-- Every row of the activations normalised by the root of its mean square and scaled by the layer's gain. -/
def normed (x : FVec Ideal S1x16384x2048 .f32) (g : FVec Ideal S2x2048 .f32) :
    FVec Ideal S1x16384x2048 .f32 :=
  mulf (mulf x (broadcastInDim S1x16384x2048 ![0, 1, 2] bcast_S1x16384x1_S1x16384x2048_0_1_2 (Host.rsqrt (addf
    (Host.divf (broadcastInDim S1x16384x1 ![0, 1] bcast_S1x16384_S1x16384x1_0_1 (Host.reduceAdd (mulf x x)
    (constant S_ .f32 0#32) reducesTo_S1x16384x2048_S1x16384_d2 h_S_)) (broadcastInDim S1x16384x1 ![]
    bcast_S_S1x16384x1 (constant S_ .f32 1157627904#32))) (broadcastInDim S1x16384x1 ![] bcast_S_S1x16384x1
    (constant S_ .f32 897988541#32)))))) (broadcastInDim S1x16384x2048 ![0, 1, 2]
    bcast_S1x1x2048_S1x16384x2048_0_1_2 (broadcastInDim S1x1x2048 ![2] bcast_S2048_S1x1x2048_2 (shapeCast S2048
    (extractStridedSlice S1x2048 ![1, 0] g slices_S2x2048_S1x2048_1_0) shapeCasts_S1x2048_S2048)))

/-- Every memory row normalised the same way. -/
def normedMem (x : FVec Ideal S1x256x2048 .f32) (g : FVec Ideal S2x2048 .f32) :
    FVec Ideal S1x256x2048 .f32 :=
  mulf (mulf x (broadcastInDim S1x256x2048 ![0, 1, 2] bcast_S1x256x1_S1x256x2048_0_1_2 (Host.rsqrt (addf
    (Host.divf (broadcastInDim S1x256x1 ![0, 1] bcast_S1x256_S1x256x1_0_1 (Host.reduceAdd (mulf x x) (constant
    S_ .f32 0#32) reducesTo_S1x256x2048_S1x256_d2 h_S_)) (broadcastInDim S1x256x1 ![] bcast_S_S1x256x1
    (constant S_ .f32 1157627904#32))) (broadcastInDim S1x256x1 ![] bcast_S_S1x256x1 (constant S_ .f32
    897988541#32)))))) (broadcastInDim S1x256x2048 ![0, 1, 2] bcast_S1x1x2048_S1x256x2048_0_1_2 (broadcastInDim
    S1x1x2048 ![2] bcast_S2048_S1x1x2048_2 (shapeCast S2048 (extractStridedSlice S1x2048 ![1, 0] g
    slices_S2x2048_S1x2048_1_0) shapeCasts_S1x2048_S2048)))

/-- The query projection. -/
def queries (h : FVec Ideal S1x16384x2048 .f32) (w : FVec Ideal S2x2048x2048 .f32) :
    FVec Ideal S1x16384x2048 .f32 :=
  Host.dotGeneral dot_S1x16384x2048_S2048x2048_S1x16384x2048_2_0_01_1_n_n none h (shapeCast S2048x2048
    (extractStridedSlice S1x2048x2048 ![1, 0, 0] w slices_S2x2048x2048_S1x2048x2048_1_0_0)
    shapeCasts_S1x2048x2048_S2048x2048)

/-- The key and value projection of the memory. -/
def keysValues (h : FVec Ideal S1x256x2048 .f32) (w : FVec Ideal S2x2048x4096 .f32) :
    FVec Ideal S1x256x4096 .f32 :=
  Host.dotGeneral dot_S1x256x2048_S2048x4096_S1x256x4096_2_0_01_1_n_n none h (shapeCast S2048x4096
    (extractStridedSlice S1x2048x4096 ![1, 0, 0] w slices_S2x2048x4096_S1x2048x4096_1_0_0)
    shapeCasts_S1x2048x4096_S2048x4096)

/-- The queries' four heads, normalised. -/
def headsQ (z : FVec Ideal S1x16384x2048 .f32) (g : FVec Ideal S2x512 .f32) :
    FVec Ideal S1x16384x4x512 .f32 :=
  mulf (mulf (shapeCast S1x16384x4x512 z shapeCasts_S1x16384x2048_S1x16384x4x512) (broadcastInDim S1x16384x4x512
    ![0, 1, 2, 3] bcast_S1x16384x4x1_S1x16384x4x512_0_1_2_3 (Host.rsqrt (addf (Host.divf (broadcastInDim
    S1x16384x4x1 ![0, 1, 2] bcast_S1x16384x4_S1x16384x4x1_0_1_2 (Host.reduceAdd (mulf (shapeCast S1x16384x4x512
    z shapeCasts_S1x16384x2048_S1x16384x4x512) (shapeCast S1x16384x4x512 z
    shapeCasts_S1x16384x2048_S1x16384x4x512)) (constant S_ .f32 0#32)
    reducesTo_S1x16384x4x512_S1x16384x4_d3 h_S_)) (broadcastInDim S1x16384x4x1 ![] bcast_S_S1x16384x4x1
    (constant S_ .f32 1140850688#32))) (broadcastInDim S1x16384x4x1 ![] bcast_S_S1x16384x4x1 (constant S_ .f32
    897988541#32)))))) (broadcastInDim S1x16384x4x512 ![0, 1, 2, 3] bcast_S1x1x1x512_S1x16384x4x512_0_1_2_3
    (broadcastInDim S1x1x1x512 ![3] bcast_S512_S1x1x1x512_3 (shapeCast S512 (extractStridedSlice S1x512 ![1, 0]
    g slices_S2x512_S1x512_1_0) shapeCasts_S1x512_S512)))

/-- The keys' four heads, normalised. -/
def headsK (z : FVec Ideal S1x256x4096 .f32) (g : FVec Ideal S2x512 .f32) :
    FVec Ideal S1x256x4x512 .f32 :=
  mulf (mulf (shapeCast S1x256x4x512 (extractStridedSlice S1x256x2048 ![0, 0, 0] z
    slices_S1x256x4096_S1x256x2048_0_0_0) shapeCasts_S1x256x2048_S1x256x4x512) (broadcastInDim S1x256x4x512 ![0,
    1, 2, 3] bcast_S1x256x4x1_S1x256x4x512_0_1_2_3 (Host.rsqrt (addf (Host.divf (broadcastInDim S1x256x4x1 ![0,
    1, 2] bcast_S1x256x4_S1x256x4x1_0_1_2 (Host.reduceAdd (mulf (shapeCast S1x256x4x512 (extractStridedSlice
    S1x256x2048 ![0, 0, 0] z slices_S1x256x4096_S1x256x2048_0_0_0) shapeCasts_S1x256x2048_S1x256x4x512)
    (shapeCast S1x256x4x512 (extractStridedSlice S1x256x2048 ![0, 0, 0] z slices_S1x256x4096_S1x256x2048_0_0_0)
    shapeCasts_S1x256x2048_S1x256x4x512)) (constant S_ .f32 0#32) reducesTo_S1x256x4x512_S1x256x4_d3
    h_S_)) (broadcastInDim S1x256x4x1 ![] bcast_S_S1x256x4x1 (constant S_ .f32 1140850688#32))) (broadcastInDim
    S1x256x4x1 ![] bcast_S_S1x256x4x1 (constant S_ .f32 897988541#32)))))) (broadcastInDim S1x256x4x512 ![0, 1,
    2, 3] bcast_S1x1x1x512_S1x256x4x512_0_1_2_3 (broadcastInDim S1x1x1x512 ![3] bcast_S512_S1x1x1x512_3
    (shapeCast S512 (extractStridedSlice S1x512 ![1, 0] g slices_S2x512_S1x512_1_0) shapeCasts_S1x512_S512)))

/-- The values' four heads. -/
def headsV (z : FVec Ideal S1x256x4096 .f32) :
    FVec Ideal S1x256x4x512 .f32 :=
  shapeCast S1x256x4x512 (extractStridedSlice S1x256x2048 ![0, 0, 2048] z
    slices_S1x256x4096_S1x256x2048_0_0_2048) shapeCasts_S1x256x2048_S1x256x4x512

/-- The scaled scores. -/
def scores (q : FVec Ideal S1x16384x4x512 .f32) (k : FVec Ideal S1x256x4x512 .f32) :
    FVec Ideal S1x4x16384x256 .f32 :=
  mulf (Host.dotGeneral dot_S1x16384x4x512_S1x256x4x512_S1x4x16384x256_3_3_1_1_02_02 none q k) (broadcastInDim
    S1x4x16384x256 ![] bcast_S_S1x4x16384x256 (constant S_ .f32 1026884851#32))

/-- The largest score of every row. -/
def tops (s : FVec Ideal S1x4x16384x256 .f32) :
    FVec Ideal S1x4x16384 .f32 :=
  maximumf (broadcastInDim S1x4x16384 ![] bcast_S_S1x4x16384 (constant S_ .f32 4286578688#32)) (Host.reduce
    FloatOps.maximumf s (constant S_ .f32 4286578688#32) reducesTo_S1x4x16384x256_S1x4x16384_d3 h_S_)

/-- The exponentials of the scores less the largest. -/
def exps (s : FVec Ideal S1x4x16384x256 .f32) :
    FVec Ideal S1x4x16384x256 .f32 :=
  Host.exp (subf s (broadcastInDim S1x4x16384x256 ![0, 1, 2, 3] bcast_S1x4x16384x1_S1x4x16384x256_0_1_2_3
    (broadcastInDim S1x4x16384x1 ![0, 1, 2] bcast_S1x4x16384_S1x4x16384x1_0_1_2 (tops s))))

/-- The exponentials divided by their sum. -/
def weights (e : FVec Ideal S1x4x16384x256 .f32) :
    FVec Ideal S1x4x16384x256 .f32 :=
  Host.divf e (broadcastInDim S1x4x16384x256 ![0, 1, 2, 3] bcast_S1x4x16384x1_S1x4x16384x256_0_1_2_3
    (broadcastInDim S1x4x16384x1 ![0, 1, 2] bcast_S1x4x16384_S1x4x16384x1_0_1_2 (Host.reduceAdd e (constant S_
    .f32 0#32) reducesTo_S1x4x16384x256_S1x4x16384_d3 h_S_)))

/-- The weighted values, heads side by side. -/
def mixed (v : FVec Ideal S1x256x4x512 .f32) (p : FVec Ideal S1x4x16384x256 .f32) :
    FVec Ideal S1x16384x2048 .f32 :=
  shapeCast S1x16384x2048 (transpose S1x16384x4x512 [0, 3, 1, 2] (Host.dotGeneral
    dot_S1x256x4x512_S1x4x16384x256_S1x4x512x16384_1_3_3_2_02_01 none v p)
    transposes_S1x4x512x16384_S1x16384x4x512_0_3_1_2) shapeCasts_S1x16384x4x512_S1x16384x2048

/-- The output projection, added to the activations. -/
def added (x : FVec Ideal S1x16384x2048 .f32) (a : FVec Ideal S1x16384x2048 .f32) (w : FVec Ideal S2x2048x2048 .f32) :
    FVec Ideal S16384x2048 .f32 :=
  shapeCast S16384x2048 (addf x (Host.dotGeneral dot_S1x16384x2048_S2048x2048_S1x16384x2048_2_0_01_1_n_n none a
    (shapeCast S2048x2048 (extractStridedSlice S1x2048x2048 ![1, 0, 0] w slices_S2x2048x2048_S1x2048x2048_1_0_0)
    shapeCasts_S1x2048x2048_S2048x2048))) shapeCasts_S1x16384x2048_S16384x2048

/-- The queries' heads of the layer's arguments. -/
def qHeads (x : FVec Ideal S1x16384x2048 .f32) (g : FVec Ideal S2x2048 .f32) (w : FVec Ideal S2x2048x2048 .f32)
    (gq : FVec Ideal S2x512 .f32) : FVec Ideal S1x16384x4x512 .f32 :=
  headsQ (queries (normed x g) w) gq

/-- The keys and values of the layer's arguments. -/
def kvs (x : FVec Ideal S1x256x2048 .f32) (g : FVec Ideal S2x2048 .f32) (w : FVec Ideal S2x2048x4096 .f32) :
    FVec Ideal S1x256x4096 .f32 :=
  keysValues (normedMem x g) w

/-- The whole layer. -/
def layer (x : FVec Ideal S1x16384x2048 .f32) (q : FVec Ideal S1x16384x4x512 .f32) (z : FVec Ideal S1x256x4096 .f32)
    (gk : FVec Ideal S2x512 .f32) (wo : FVec Ideal S2x2048x2048 .f32) : FVec Ideal S16384x2048 .f32 :=
  added x (mixed (headsV z) (weights (exps (scores q (headsK z gk))))) wo

theorem out_eq (m : (ℓ : Loc nD τ sig) → Buf (Elt Ideal) ℓ) (c : Dev nD) :
    Value.res_out0 m c
      = layer (m ((c : Thread nD τ).loc main_arg0))
          (qHeads (m ((c : Thread nD τ).loc main_arg0)) (m ((c : Thread nD τ).loc main_arg2))
            (m ((c : Thread nD τ).loc main_arg4)) (m ((c : Thread nD τ).loc main_arg7)))
          (kvs (m ((c : Thread nD τ).loc main_arg1)) (m ((c : Thread nD τ).loc main_arg3)) (m ((c : Thread nD τ).loc main_arg5)))
          (m ((c : Thread nD τ).loc main_arg8)) (m ((c : Thread nD τ).loc main_arg6)) := rfl

theorem normed_at (x : FVec Ideal S1x16384x2048 .f32) (g : FVec Ideal S2x2048 .f32) (R : Fin 16384) (k : Fin 2048) :
    normed x g (ix3 0 R k) = Cert.Ffn.normed (fun k => x (ix3 0 R k)) (fun k => g (ix2 1 k)) k := by
  pointwise [normed, Cert.Ffn.normed]

theorem normedMem_at (x : FVec Ideal S1x256x2048 .f32) (g : FVec Ideal S2x2048 .f32) (i : Fin 256) (k : Fin 2048) :
    normedMem x g (ix3 0 i k) = Cert.Ffn.normed (fun k => x (ix3 0 i k)) (fun k => g (ix2 1 k)) k := by
  pointwise [normedMem, Cert.Ffn.normed]

theorem queries_at (h : FVec Ideal S1x16384x2048 .f32) (w : FVec Ideal S2x2048x2048 .f32) (R : Fin 16384) (f : Fin 2048) :
    queries h w (ix3 0 R f) = ∑ k, h (ix3 0 R k) * w (ix3 1 k f) := by
  pointwise [queries]

theorem keysValues_at (h : FVec Ideal S1x256x2048 .f32) (w : FVec Ideal S2x2048x4096 .f32) (i : Fin 256) (f : Fin 4096) :
    keysValues h w (ix3 0 i f) = ∑ k, h (ix3 0 i k) * w (ix3 1 k f) := by
  pointwise [keysValues]

theorem headsQ_at (z : FVec Ideal S1x16384x2048 .f32) (g : FVec Ideal S2x512 .f32) (R : Fin 16384) (n : Fin 4) (d : Fin 512) :
    headsQ z g (ix4 0 R n d) = Cert.Mem.headNormed (Cert.Mem.head (fun f => z (ix3 0 R f)) n) (fun d => g (ix2 1 d)) d := by
  pointwise [headsQ, Cert.Mem.headNormed, Cert.Mem.head]

theorem headsK_at (z : FVec Ideal S1x256x4096 .f32) (g : FVec Ideal S2x512 .f32) (i : Fin 256) (n : Fin 4) (d : Fin 512) :
    headsK z g (ix4 0 i n d)
      = Cert.Mem.headNormed (Cert.Mem.head (fun f : Fin 2048 => z (ix3 0 i ⟨f.val, by omega⟩)) n) (fun d => g (ix2 1 d)) d := by
  pointwise [headsK, Cert.Mem.headNormed, Cert.Mem.head]

theorem headsV_at (z : FVec Ideal S1x256x4096 .f32) (i : Fin 256) (n : Fin 4) (d : Fin 512) :
    headsV z (ix4 0 i n d) = Cert.Mem.head (fun f : Fin 2048 => z (ix3 0 i ⟨2048 + f.val, by omega⟩)) n d := by
  pointwise [headsV, Cert.Mem.head]

theorem scores_at (q : FVec Ideal S1x16384x4x512 .f32) (k : FVec Ideal S1x256x4x512 .f32) (n : Fin 4) (R : Fin 16384) (i : Fin 256) :
    scores q k (ix4 0 n R i) = (∑ d, q (ix4 0 R n d) * k (ix4 0 i n d)) * Cert.Mem.scale := by
  pointwise [scores, Cert.Mem.scale]

/-- A maximum over the last of four axes at an element. -/
theorem max_last {a b c d : ℕ} (v : FVec Ideal ⟨4, ![a, b, c, d]⟩ .f32) (z : FVec Ideal ⟨0, ![]⟩ .f32)
    (h : (⟨4, ![a, b, c, d]⟩ : Shape).ReducesTo [3] ⟨3, ![a, b, c]⟩) (hu : 0 < (⟨0, ![]⟩ : Shape).numel) (i : Fin a) (j : Fin b) (k : Fin c) :
    Host.reduce FloatOps.maximumf v z h hu (ix3 i j k) = Finset.univ.fold max (z (Shape.Idx.first hu)) fun l => v (ix4 i j k l) := by
  simp only [pointwise]

/-- The larger of two arrays at an element. -/
theorem larger_at {S : Shape} (x y : FVec Ideal S .f32) (j : S.Idx) : maximumf x y j = max (x j) (y j) := rfl

/-- From the least extended real, a maximum with the least one again is the maximum. -/
theorem top_eq (f : Fin 256 → EReal) :
    max (Ideal.ofBits .f32 4286578688#32) (Finset.univ.fold max (Ideal.ofBits .f32 4286578688#32) f) = Cert.Mem.top f := by
  rw [Cert.Mem.bot_eq, bot_sup_eq]
  rfl

theorem tops_at (s : FVec Ideal S1x4x16384x256 .f32) (n : Fin 4) (R : Fin 16384) :
    tops s (ix3 0 n R) = Cert.Mem.top fun i => s (ix4 0 n R i) := by
  unfold tops
  exact (larger_at _ _ _).trans ((congrArg (max _) (max_last s _ _ _ 0 n R)).trans (top_eq _))

theorem exps_at (s : FVec Ideal S1x4x16384x256 .f32) (n : Fin 4) (R : Fin 16384) (i : Fin 256) :
    exps s (ix4 0 n R i) = Cert.Mem.weight (fun i => s (ix4 0 n R i)) i := by
  pointwise [exps, tops_at, Cert.Mem.weight]

theorem weights_at (e : FVec Ideal S1x4x16384x256 .f32) (n : Fin 4) (R : Fin 16384) (i : Fin 256) :
    weights e (ix4 0 n R i) = Ideal.div (e (ix4 0 n R i)) (∑ i, e (ix4 0 n R i)) := by
  pointwise [weights]

theorem mixed_at (v : FVec Ideal S1x256x4x512 .f32) (p : FVec Ideal S1x4x16384x256 .f32) (R : Fin 16384) (f : Fin 2048) :
    mixed v p (ix3 0 R f)
      = ∑ i, v (ix4 0 i ⟨f.val / 512, by omega⟩ ⟨f.val % 512, Nat.mod_lt _ (by norm_num)⟩) * p (ix4 0 ⟨f.val / 512, by omega⟩ R i) := by
  pointwise [mixed]

theorem added_at (x a : FVec Ideal S1x16384x2048 .f32) (w : FVec Ideal S2x2048x2048 .f32) (R : Fin 16384) (f : Fin 2048) :
    added x a w (ix2 R f) = x (ix3 0 R f) + ∑ k, a (ix3 0 R k) * w (ix3 1 k f) := by
  pointwise [added]

end Cert.Reference2Ideal.Mem

end
-- ==== Proof.Mem.Run.lean ====
module

public import proofs.«01_k».proof.Proof.Mem.Finite
public import proofs.«01_k».proof.Proof.Mem.Reference

/-! The memory attention's two launches run, and their result against the reference's. -/

@[expose] public section

set_option maxRecDepth 16384

noncomputable section

namespace Cert.Kernel2Ideal.Mem

open Cert.Kernel2Ideal Cert.Kernel2Ideal.Gen Cert.Mem Idealize.ShloMosaic Idealize.ShloMosaic.TcCoe Idealize.SL Idealize.SL.RA Idealize.SL.BI
open scoped Idealize.SL.BI
open Idealize.ShloMosaic.Rounds Idealize.SL.BI.BIBase Idealize.SL.BI.Laws Idealize.SL.ProofMode Idealize.SL.Sem

variable (m : (ℓ : Loc nD τ sig) → Buf (Elt Ideal) ℓ) (ρ : Dev nD → PrngReg) (c : Dev nD)

namespace Ref

open Cert.Reference2Ideal.Mem

/-- The reference's projected queries and memory are the kernel's. -/
theorem queries_eq (R : Fin 16384) (f : Fin 2048) :
    queries (normed (m ((c : Thread nD τ).loc main_arg0)) (m ((c : Thread nD τ).loc main_arg2))) (m ((c : Thread nD τ).loc main_arg4))
      (ix3 0 R f) = rowProj m c R f := by
  rw [queries_at]
  simp only [normed_at]
  rfl

theorem keysValues_eq (i : Fin 256) (f : Fin 4096) :
    Cert.Reference2Ideal.Mem.kvs (m ((c : Thread nD τ).loc main_arg1)) (m ((c : Thread nD τ).loc main_arg3))
      (m ((c : Thread nD τ).loc main_arg5)) (ix3 0 i f) = kvProj m c i f := by
  unfold Cert.Reference2Ideal.Mem.kvs
  rw [keysValues_at]
  simp only [normedMem_at]
  rfl

/-- The reference's scores are the kernel's: the scale is outside the product there. -/
theorem scores_row (R : Fin 16384) (n : Fin 4) (i : Fin 256) :
    scores (qHeads (m ((c : Thread nD τ).loc main_arg0)) (m ((c : Thread nD τ).loc main_arg2))
          (m ((c : Thread nD τ).loc main_arg4)) (m ((c : Thread nD τ).loc main_arg7)))
        (headsK (Cert.Reference2Ideal.Mem.kvs (m ((c : Thread nD τ).loc main_arg1)) (m ((c : Thread nD τ).loc main_arg3))
          (m ((c : Thread nD τ).loc main_arg5))) (m ((c : Thread nD τ).loc main_arg8))) (ix4 0 n R i)
      = rowScores m c R n i := by
  rw [scores_at]
  unfold rowScores
  rw [scores_eq]
  unfold scoresOut
  refine congrArg (· * scale) (Finset.sum_congr rfl fun d _ => congrArg₂ (· * ·) ?_ ?_)
  · unfold qHeads
    rw [headsQ_at]
    simp only [queries_eq]
    rfl
  · rw [headsK_at]
    simp only [keysValues_eq]
    exact (kvRow_key m c i n d _ rfl).symm

end Ref

open Cert.Reference2Ideal.Mem in
/-- With real gains the kernel's rows are the reference's. -/
theorem result_eq (h : Cert.Pre_Kernel2Ideal_finite m) : result m c
    = layer (m ((c : Thread nD τ).loc main_arg0))
        (qHeads (m ((c : Thread nD τ).loc main_arg0)) (m ((c : Thread nD τ).loc main_arg2))
          (m ((c : Thread nD τ).loc main_arg4)) (m ((c : Thread nD τ).loc main_arg7)))
        (Cert.Reference2Ideal.Mem.kvs (m ((c : Thread nD τ).loc main_arg1)) (m ((c : Thread nD τ).loc main_arg3))
          (m ((c : Thread nD τ).loc main_arg5)))
        (m ((c : Thread nD τ).loc main_arg8)) (m ((c : Thread nD τ).loc main_arg6)) := by
  funext y
  idx_vars y
  unfold layer
  refine Eq.trans ?_ (added_at _ _ _ y0 y1).symm
  refine congrArg (rowIn m c y0 y1 + ·) (Finset.sum_congr rfl fun f _ => congrArg (· * outWeight m c f y1) ?_)
  show rowAtt m c y0 f = _
  unfold rowAtt
  rw [attended_eq (rowScores_real m c h y0 _), mixed_at]
  unfold Cert.Mem.mixed
  refine Finset.sum_congr rfl fun i _ => congrArg₂ (· * ·) ?_ ?_
  · rw [headsV_at]
    refine (kvRow_value m c i ⟨2048 + f.val, by omega⟩ (by show 2048 ≤ 2048 + f.val; omega)).trans ?_
    refine Eq.trans ?_ (Ref.keysValues_eq m c i _).symm
    exact congrArg (kvProj m c i) (Fin.ext (by show 2048 + f.val = 2048 + (f.val / 512 * 512 + f.val % 512); omega))
  · rw [weights_at]
    simp only [exps_at, Ref.scores_row]

-- the launch's implicit arguments are found by unfolding plain definitions in a metavariable's type
set_option backward.isDefEq.respectTransparency.types false in
/-- The two launches run: every buffer outside the regions ends as the second launch's boundary has it. -/
theorem run_all :
    θ_run (defs (F := Ideal)) (onTc (τ := τ) (main (F := Ideal))) ⟨m, fun _ => 0, ρ⟩ fun r => ∀ c : Dev nD,
      ∀ b ∈ Pipeline.ucRefs τ sig, r.2.mem (((c : Thread nD τ)).1, b) = W4 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The program runs: its result array holds the rows with their attended memory added, its arguments are unchanged. -/
theorem run :
    θ_run (defs (F := Ideal)) (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c _ (mem_uc main_v20 (by decide))).trans ((W4_arr m ρ c 6).trans (result_arr m ρ c)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩)
    (run_all m ρ)

end Cert.Kernel2Ideal.Mem

end
-- ==== Proof.Mix.Words.lean ====
module

public import proofs.«01_k».proof.Proof.Gen.Kernel4Ideal.Frame
public import proofs.«01_k».proof.Proof.Mem.Terms
public import Idealize.ShloMosaic.Lib.Pipeline.ReadBack

/-! What a point of the mixing launch stores, in one text for every head, group and half of the block. -/

@[expose] public section

set_option maxRecDepth 16384

noncomputable section

namespace Cert.Kernel4Ideal.Mix

open Cert.Kernel4Ideal Cert.Kernel4Ideal.Gen Idealize.ShloMosaic Idealize.ShloMosaic.TcCoe Idealize.SL.Sem

/-- A block of scores: products with the keys, the bias, and the mask of the blocks before the first. -/
def scoreVec (s : Ideal .f32) (q k : Vec Ideal S256x128 .bf16) (b : Vec Ideal S1x256x256 .f32) : FVec Ideal S256x256 .f32 :=
  addf (addf (matmul (φ₁ := .bf16) (φ₂ := .bf16) dot_S256x128_S256x128_S256x256_1_1_0_0_n_n none q k (constant S256x256 .f32 0x00000000#32))
    (shapeCast S256x256 b shapeCasts_S1x256x256_S256x256)) (broadcast S256x256 s)

/-- Each row's largest score. -/
def topVec (sc : FVec Ideal S256x256 .f32) : FVec Ideal S256x1 .f32 :=
  shapeCast S256x1 (multiReduction .maximumf [1] S256 sc 0xFF800000#32 reduces_S256x256_S256 (.inl rfl) rfl) shapeCasts_S256_S256x1

/-- The exponentials of a block of scores less a column. -/
def expVec (sc : FVec Ideal S256x256 .f32) (mx : FVec Ideal S256x1 .f32) : FVec Ideal S256x256 .f32 :=
  exp (subf sc (broadcastTo S256x256 mx broadcasts_S256x1_S256x256))

def sumVec (p : FVec Ideal S256x256 .f32) : FVec Ideal S256x1 .f32 :=
  shapeCast S256x1 (multiReduction .add [1] S256 p 0x00000000#32 reduces_S256x256_S256 (.inl rfl) rfl) shapeCasts_S256_S256x1

def valVec (p : FVec Ideal S256x256 .f32) (v : Vec Ideal S256x128 .bf16) : FVec Ideal S256x128 .f32 :=
  matmul (φ₂ := .bf16) dot_S256x256_S256x128_S256x128_1_0_0_1_n_n none (truncf .bf16 p bitsLt_bf16_f32) v (constant S256x128 .f32 0x00000000#32)

/-- The largest score, the weights' sum and the weighted values, one block of scores further. -/
def denVec (mx mx' den : FVec Ideal S256x1 .f32) (p : FVec Ideal S256x256 .f32) : FVec Ideal S256x1 .f32 :=
  addf (mulf (exp (subf mx mx')) den) (sumVec p)

def accVec (mx mx' : FVec Ideal S256x1 .f32) (acc : FVec Ideal S256x128 .f32) (p : FVec Ideal S256x256 .f32)
    (v : Vec Ideal S256x128 .bf16) : FVec Ideal S256x128 .f32 :=
  addf (mulf (broadcastTo S256x128 (exp (subf mx mx')) broadcasts_S256x1_S256x128) acc) (valVec p v)

/-- One head over three blocks of scores. -/
def headOf (c2 c1 c0 : FVec Ideal S256x256 .f32) (v2 v1 v0 : Vec Ideal S256x128 .bf16) : FVec Ideal S256x128 .f32 :=
  let m2 := topVec c2
  let m1 := maximumf m2 (topVec c1)
  let m0 := maximumf m1 (topVec c0)
  let p2 := expVec c2 m2
  let p1 := expVec c1 m1
  let p0 := expVec c0 m0
  let den := denVec m1 m0 (denVec m2 m1 (sumVec p2) p1) p0
  let acc := accVec m1 m0 (accVec m2 m1 (valVec p2 v2) p1 v1) p0 v0
  shapeCast S256x128 (divf acc (broadcastTo S256x128 den broadcasts_S256x1_S256x128)) shapeCasts_S256x128_S256x128

theorem inbT {t h : ℕ} (ht : t < 2) (hh : h < 8) (a : Fin 2) : (![256 * t, 128 * h] : Fin 2 → ℕ) a + S256x128.size a ≤ S512x1024.size a := by
  match a with
  | 0 => show 256 * t + 256 ≤ 512; omega
  | 1 => show 128 * h + 128 ≤ 1024; omega

theorem inbH {h : ℕ} (hh : h < 8) (a : Fin 2) : (![0, 128 * h] : Fin 2 → ℕ) a + S256x128.size a ≤ S256x1024.size a := by
  match a with
  | 0 => show 0 + 256 ≤ 256; omega
  | 1 => show 128 * h + 128 ≤ 1024; omega

theorem inbB {h r : ℕ} (hh : h < 8) (hr : r < 3) (a : Fin 3) :
    (![h, 0, 256 * r] : Fin 3 → ℕ) a + S1x256x256.size a ≤ S8x256x768.size a := by
  match a with
  | 0 => show h + 1 ≤ 8; omega
  | 1 => show 0 + 256 ≤ 256; omega
  | 2 => show 256 * r + 256 ≤ 768; omega

/-- A head's columns of one half of a block, as the body loads them. -/
def tile (M : Memref sig .tc .vmem S512x1024 .bf16) (hM : M.IsWhole) (x : Vec Ideal S512x1024 .bf16) (t h : ℕ) (ht : t < 2) (hh : h < 8) :
    Vec Ideal S256x128 .bf16 :=
  View.readAt (Elt Ideal) M.view (Rect.unit (s := S512x1024) ![256 * t, 128 * h] S256x128.size (inbT ht hh)).toLoadRect (hM.unread x)

/-- The mask of block `r` of the half `t`'s scores. -/
def startW (i : BitVec 32) (t r : ℕ) : Ideal .f32 :=
  Scalar.select (Scalar.cmpi .sge (Scalar.addi (Scalar.addi (Scalar.muli 2#32 i) (BitVec.ofNat 32 t)) (BitVec.ofNat 32 r)) 2#32)
    (Scalar.ofBits .f32 0x00000000#32) (Named.named κ "mask" 0xF149F2CA#32)

variable (c : Dev nD) (i : grid0.Coords)
  (arg2 : Memref sig .tc .vmem S512x1024 .bf16) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S512x1024 .bf16) (harg6 : arg6.IsWhole)
  (x1 x2 x3 x4 x5 : Vec Ideal S512x1024 .bf16)
  (bias : (h r : ℕ) → h < 8 → r < 3 → Vec Ideal S1x256x256 .f32)

/-- Head `h` of the first half. -/
def headLo (h : ℕ) (hh : h < 8) : FVec Ideal S256x128 .f32 :=
  headOf
    (scoreVec (startW (BitVec.ofNat 32 (i 0).val) 0 2) (tile arg2 harg2 x1 0 h (by omega) hh) (tile arg4 harg4 x3 0 h (by omega) hh) (bias h 2 hh (by omega)))
    (scoreVec (startW (BitVec.ofNat 32 (i 0).val) 0 1) (tile arg2 harg2 x1 0 h (by omega) hh) (tile arg3 harg3 x2 1 h (by omega) hh) (bias h 1 hh (by omega)))
    (scoreVec (startW (BitVec.ofNat 32 (i 0).val) 0 0) (tile arg2 harg2 x1 0 h (by omega) hh) (tile arg3 harg3 x2 0 h (by omega) hh) (bias h 0 hh (by omega)))
    (tile arg6 harg6 x5 0 h (by omega) hh) (tile arg5 harg5 x4 1 h (by omega) hh) (tile arg5 harg5 x4 0 h (by omega) hh)

/-- Head `h` of the second half. -/
def headHi (h : ℕ) (hh : h < 8) : FVec Ideal S256x128 .f32 :=
  headOf
    (scoreVec (startW (BitVec.ofNat 32 (i 0).val) 1 2) (tile arg2 harg2 x1 1 h (by omega) hh) (tile arg4 harg4 x3 1 h (by omega) hh) (bias h 2 hh (by omega)))
    (scoreVec (startW (BitVec.ofNat 32 (i 0).val) 1 1) (tile arg2 harg2 x1 1 h (by omega) hh) (tile arg4 harg4 x3 0 h (by omega) hh) (bias h 1 hh (by omega)))
    (scoreVec (startW (BitVec.ofNat 32 (i 0).val) 1 0) (tile arg2 harg2 x1 1 h (by omega) hh) (tile arg3 harg3 x2 1 h (by omega) hh) (bias h 0 hh (by omega)))
    (tile arg6 harg6 x5 1 h (by omega) hh) (tile arg6 harg6 x5 0 h (by omega) hh) (tile arg5 harg5 x4 1 h (by omega) hh)

/-- The store of head `h`'s columns. -/
def headPiece (w : (h : ℕ) → h < 8 → FVec Ideal S256x128 .f32) (h : ℕ) (hh : h < 8) : View.Piece (Elt Ideal) S256x1024 .f32 :=
  ⟨Rect.unit (s := S256x1024) ![0, 128 * h] S256x128.size (inbH hh), w h hh⟩

/-- The eight stores of a half's heads, the last first. -/
def headPieces (w : (h : ℕ) → h < 8 → FVec Ideal S256x128 .f32) : List (View.Piece (Elt Ideal) S256x1024 .f32) :=
  [headPiece w 7 (by omega), headPiece w 6 (by omega), headPiece w 5 (by omega), headPiece w 4 (by omega),
   headPiece w 3 (by omega), headPiece w 2 (by omega), headPiece w 1 (by omega), headPiece w 0 (by omega)]

/-- The bias a later point loads: what the point before left. -/
def biasB (arg16 : Memref sig .tc .vmem S8x256x768 .f32) (harg16 : arg16.IsWhole) (xs0 : Vec Ideal S8x256x768 .f32)
    (h r : ℕ) (hh : h < 8) (hr : r < 3) : Vec Ideal S1x256x256 .f32 :=
  View.readAt (Elt Ideal) arg16.view (Rect.unit (s := S8x256x768) ![h, 0, 256 * r] S1x256x256.size (inbB hh hr)).toLoadRect (harg16.unread xs0)

/-- The band's mask. -/
def band : IVec S256x768 1 := k0_pay7 k0_pay3 k0_pay4 k0_pay5 k0_pay6 0#32

/-- A head's bias: its row of distances, each query's turned one further, inside the band. -/
def biasOf (e : Vec Ideal S1x1024 .f32) : FVec Ideal S1x256x768 .f32 :=
  shapeCast S1x256x768 (select band
    (extractStridedSlice S256x768 ![0, 0]
      (dynamicRotate 1 0#32 (some (1, 0))
        (broadcastTo S256x1024 (shapeCast S1x1024 (shapeCast S1x1024 e shapeCasts_S1x1024_S1x1024) shapeCasts_S1x1024_S1x1024)
          broadcasts_S1x1024_S256x1024) rotates_S256x1024_d1s1a0) slices_S256x1024_o0_0_S256x768)
    (broadcast S256x768 (Named.named κ "mask" 0xF149F2CA#32))) shapeCasts_S256x768_S1x256x768

theorem inbE {h : ℕ} (hh : h < 8) (a : Fin 2) : (![h, 0] : Fin 2 → ℕ) a + S1x1024.size a ≤ S8x1024.size a := by
  match a with
  | 0 => show h + 1 ≤ 8; omega
  | 1 => show 0 + 1024 ≤ 1024; omega

theorem inbS {h : ℕ} (hh : h < 8) (a : Fin 3) : (![h, 0, 0] : Fin 3 → ℕ) a + S1x256x768.size a ≤ S8x256x768.size a := by
  match a with
  | 0 => show h + 1 ≤ 8; omega
  | 1 => show 0 + 256 ≤ 256; omega
  | 2 => show 0 + 768 ≤ 768; omega

/-- The store of head `h`'s bias. -/
def biasPiece (arg9 : Memref sig .tc .vmem S8x1024 .f32) (harg9 : arg9.IsWhole) (x8 : Vec Ideal S8x1024 .f32) (h : ℕ) (hh : h < 8) :
    View.Piece (Elt Ideal) S8x256x768 .f32 :=
  ⟨Rect.unit (s := S8x256x768) ![h, 0, 0] S1x256x768.size (inbS hh),
    biasOf (View.readAt (Elt Ideal) arg9.view (Rect.unit (s := S8x1024) ![h, 0] S1x1024.size (inbE hh)).toLoadRect (harg9.unread x8))⟩

def biasPieces (arg9 : Memref sig .tc .vmem S8x1024 .f32) (harg9 : arg9.IsWhole) (x8 : Vec Ideal S8x1024 .f32) :
    List (View.Piece (Elt Ideal) S8x256x768 .f32) :=
  [biasPiece arg9 harg9 x8 7 (by omega), biasPiece arg9 harg9 x8 6 (by omega), biasPiece arg9 harg9 x8 5 (by omega),
   biasPiece arg9 harg9 x8 4 (by omega), biasPiece arg9 harg9 x8 3 (by omega), biasPiece arg9 harg9 x8 2 (by omega),
   biasPiece arg9 harg9 x8 1 (by omega), biasPiece arg9 harg9 x8 0 (by omega)]

/-- The bias the first point loads: what it has just stored. -/
def biasA (arg16 : Memref sig .tc .vmem S8x256x768 .f32) (L : List (View.Piece (Elt Ideal) S8x256x768 .f32))
    (h r : ℕ) (hh : h < 8) (hr : r < 3) : Vec Ideal S1x256x256 .f32 :=
  arg16.view.readCov L (Rect.unit (s := S8x256x768) ![h, 0, 256 * r] S1x256x256.size (inbB hh hr)).toLoadRect

theorem biasesA (arg9 : Memref sig .tc .vmem S8x1024 .f32) (harg9 : arg9.IsWhole) (x8 : Vec Ideal S8x1024 .f32) :
    kernelRun0_A.sl.HS0_8 (F := Ideal) c arg9 harg9 x8 = biasPieces arg9 harg9 x8 := by
  sl_kernel_rfl

theorem loB (arg16 : Memref sig .tc .vmem S8x256x768 .f32) (harg16 : arg16.IsWhole) (xs0 : Vec Ideal S8x256x768 .f32) :
    kernelRun0_B.sl.HS1_8 (F := Ideal) c i arg2 harg2 arg3 harg3 arg4 harg4 arg5 harg5 arg6 harg6 arg16 harg16 x1 x2 x3 x4 x5 xs0
      = headPieces (headLo i arg2 harg2 arg3 harg3 arg4 harg4 arg5 harg5 arg6 harg6 x1 x2 x3 x4 x5 (biasB arg16 harg16 xs0)) := by
  sl_kernel_rfl

theorem hiB (arg16 : Memref sig .tc .vmem S8x256x768 .f32) (harg16 : arg16.IsWhole) (xs0 : Vec Ideal S8x256x768 .f32) :
    kernelRun0_B.sl.HS1_16 (F := Ideal) c i arg2 harg2 arg3 harg3 arg4 harg4 arg5 harg5 arg6 harg6 arg16 harg16 x1 x2 x3 x4 x5 xs0
      = headPieces (headHi i arg2 harg2 arg3 harg3 arg4 harg4 arg5 harg5 arg6 harg6 x1 x2 x3 x4 x5 (biasB arg16 harg16 xs0))
        ++ headPieces (headLo i arg2 harg2 arg3 harg3 arg4 harg4 arg5 harg5 arg6 harg6 x1 x2 x3 x4 x5 (biasB arg16 harg16 xs0)) := by
  sl_kernel_rfl

theorem loA (arg9 : Memref sig .tc .vmem S8x1024 .f32) (harg9 : arg9.IsWhole) (arg16 : Memref sig .tc .vmem S8x256x768 .f32) (x8 : Vec Ideal S8x1024 .f32) :
    kernelRun0_A.sl.HS1_8 (F := Ideal) c i arg2 harg2 arg3 harg3 arg4 harg4 arg5 harg5 arg6 harg6 arg9 harg9 arg16 x1 x2 x3 x4 x5 x8
      = headPieces (headLo i arg2 harg2 arg3 harg3 arg4 harg4 arg5 harg5 arg6 harg6 x1 x2 x3 x4 x5 (biasA arg16 (biasPieces arg9 harg9 x8))) := by
  sl_kernel_rfl

theorem hiA (arg9 : Memref sig .tc .vmem S8x1024 .f32) (harg9 : arg9.IsWhole) (arg16 : Memref sig .tc .vmem S8x256x768 .f32) (x8 : Vec Ideal S8x1024 .f32) :
    kernelRun0_A.sl.HS1_16 (F := Ideal) c i arg2 harg2 arg3 harg3 arg4 harg4 arg5 harg5 arg6 harg6 arg9 harg9 arg16 x1 x2 x3 x4 x5 x8
      = headPieces (headHi i arg2 harg2 arg3 harg3 arg4 harg4 arg5 harg5 arg6 harg6 x1 x2 x3 x4 x5 (biasA arg16 (biasPieces arg9 harg9 x8)))
        ++ headPieces (headLo i arg2 harg2 arg3 harg3 arg4 harg4 arg5 harg5 arg6 harg6 x1 x2 x3 x4 x5 (biasA arg16 (biasPieces arg9 harg9 x8))) := by
  sl_kernel_rfl

/-- The block-causal mask. -/
def causal : IVec S128x128 1 :=
  k0_pay22 k0_pay18 (iota .tc S128x128 32 [1] iota_S128x128_d1_w32) 64#32 k0_pay19 k0_pay20 k0_pay21

/-- One group of 128 rows: the masked weights on the values, with the row's offset, by the gate. -/
def gateOf (w : Vec Ideal S1x1x128x128 .f32) (b : Vec Ideal S128x1 .f32) (v u : Vec Ideal S128x128 .bf16) : FVec Ideal S128x128 .f32 :=
  shapeCast S128x128 (mulf (extf .f32 u bitsLt_bf16_f32) (addf
    (matmul (φ₂ := .bf16) dot_S128x128_S128x128_S128x128_1_0_0_1_n_n none
      (truncf .bf16 (select causal (shapeCast S128x128 w shapeCasts_S1x1x128x128_S128x128)
        (broadcast S128x128 (Scalar.ofBits .f32 0x00000000#32))) bitsLt_bf16_f32) v (constant S128x128 .f32 0x00000000#32))
    (broadcastTo S128x128 (shapeCast S128x1 b shapeCasts_S128x1_S128x1) broadcasts_S128x1_S128x128))) shapeCasts_S128x128_S128x128

theorem inbU {t k g : ℕ} (ht : t < 2) (hk : k < 2) (hg : g < 8) (a : Fin 2) :
    (![256 * t + 128 * k, 128 * g] : Fin 2 → ℕ) a + S128x128.size a ≤ S512x1024.size a := by
  match a with
  | 0 => show 256 * t + 128 * k + 128 ≤ 512; omega
  | 1 => show 128 * g + 128 ≤ 1024; omega

theorem inbG {k g : ℕ} (hk : k < 2) (hg : g < 8) (a : Fin 2) :
    (![128 * k, 128 * g] : Fin 2 → ℕ) a + S128x128.size a ≤ S256x1024.size a := by
  match a with
  | 0 => show 128 * k + 128 ≤ 256; omega
  | 1 => show 128 * g + 128 ≤ 1024; omega

theorem inbW {g : ℕ} (hg : g < 8) (a : Fin 4) : (![0, g, 0, 0] : Fin 4 → ℕ) a + S1x1x128x128.size a ≤ S1x8x128x128.size a := by
  match a with
  | 0 => show 0 + 1 ≤ 1; omega
  | 1 => show g + 1 ≤ 8; omega
  | 2 => show 0 + 128 ≤ 128; omega
  | 3 => show 0 + 128 ≤ 128; omega

theorem inbC {g : ℕ} (hg : g < 8) (a : Fin 2) : (![0, g] : Fin 2 → ℕ) a + S128x1.size a ≤ S128x8.size a := by
  match a with
  | 0 => show 0 + 128 ≤ 128; omega
  | 1 => show g + 1 ≤ 8; omega

/-- A group's columns of 128 rows of a block. -/
def square (M : Memref sig .tc .vmem S512x1024 .bf16) (hM : M.IsWhole) (x : Vec Ideal S512x1024 .bf16) (t k g : ℕ) (ht : t < 2) (hk : k < 2)
    (hg : g < 8) : Vec Ideal S128x128 .bf16 :=
  View.readAt (Elt Ideal) M.view (Rect.unit (s := S512x1024) ![256 * t + 128 * k, 128 * g] S128x128.size (inbU ht hk hg)).toLoadRect (hM.unread x)

variable (arg7 : Memref sig .tc .vmem S512x1024 .bf16) (harg7 : arg7.IsWhole)
  (arg8 : Memref sig .tc .vmem S512x1024 .bf16) (harg8 : arg8.IsWhole)
  (arg10 : Memref sig .tc .vmem S1x8x128x128 .f32) (harg10 : arg10.IsWhole)
  (arg11 : Memref sig .tc .vmem S128x8 .f32) (harg11 : arg11.IsWhole)
  (x6 x7 : Vec Ideal S512x1024 .bf16) (x9 : Vec Ideal S1x8x128x128 .f32) (x10 : Vec Ideal S128x8 .f32)

/-- The store of group `g`'s columns of the half's 128 rows `k`. -/
def gatePiece (t : ℕ) (ht : t < 2) (g k : ℕ) (hg : g < 8) (hk : k < 2) : View.Piece (Elt Ideal) S256x1024 .f32 :=
  ⟨Rect.unit (s := S256x1024) ![128 * k, 128 * g] S128x128.size (inbG hk hg),
    gateOf (View.readAt (Elt Ideal) arg10.view (Rect.unit (s := S1x8x128x128) ![0, g, 0, 0] S1x1x128x128.size (inbW hg)).toLoadRect (harg10.unread x9))
      (View.readAt (Elt Ideal) arg11.view (Rect.unit (s := S128x8) ![0, g] S128x1.size (inbC hg)).toLoadRect (harg11.unread x10))
      (square arg8 harg8 x7 t k g ht hk hg) (square arg7 harg7 x6 t k g ht hk hg)⟩

def gatePieces (t : ℕ) (ht : t < 2) : List (View.Piece (Elt Ideal) S256x1024 .f32) :=
  let p (g k : ℕ) (hg : g < 8) (hk : k < 2) := gatePiece arg7 harg7 arg8 harg8 arg10 harg10 arg11 harg11 x6 x7 x9 x10 t ht g k hg hk
  [p 7 1 (by omega) (by omega), p 7 0 (by omega) (by omega), p 6 1 (by omega) (by omega), p 6 0 (by omega) (by omega),
   p 5 1 (by omega) (by omega), p 5 0 (by omega) (by omega), p 4 1 (by omega) (by omega), p 4 0 (by omega) (by omega),
   p 3 1 (by omega) (by omega), p 3 0 (by omega) (by omega), p 2 1 (by omega) (by omega), p 2 0 (by omega) (by omega),
   p 1 1 (by omega) (by omega), p 1 0 (by omega) (by omega), p 0 1 (by omega) (by omega), p 0 0 (by omega) (by omega)]

/-- Both halves' stores, the second over the first. -/
def gatesAll : List (View.Piece (Elt Ideal) S256x1024 .f32) :=
  gatePieces arg7 harg7 arg8 harg8 arg10 harg10 arg11 harg11 x6 x7 x9 x10 1 (by omega)
    ++ gatePieces arg7 harg7 arg8 harg8 arg10 harg10 arg11 harg11 x6 x7 x9 x10 0 (by omega)

/-- A half's 1024 columns divided by the root of their mean square and scaled. -/
def normOf (a : Vec Ideal S256x1024 .f32) (g : Vec Ideal S1x1024 .f32) : FVec Ideal S256x1024 .bf16 :=
  shapeCast S256x1024 (truncf .bf16 (mulf (mulf a (broadcastTo S256x1024 (rsqrt (addf (divf
      (shapeCast S256x1 (multiReduction .add [1] S256 (mulf a a) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)) bitsLt_bf16_f32)
    shapeCasts_S256x1024_S256x1024

/-- A row of gains, as the body loads it. -/
def gainOf (M : Memref sig .tc .vmem S1x1024 .f32) (hM : M.IsWhole) (x : Vec Ideal S1x1024 .f32) : Vec Ideal S1x1024 .f32 :=
  View.readAt (Elt Ideal) M.view (Rect.unit (s := S1x1024) ![0, 0] S1x1024.size inb_S1x1024_S1x1024_0_0).toLoadRect (hM.unread x)

variable (arg17 arg18 : Memref sig .tc .vmem S256x1024 .f32) (arg19 : Memref sig .tc .vmem S256x2048 .bf16)

def wholeOf (M : Memref sig .tc .vmem S256x1024 .f32) (L : List (View.Piece (Elt Ideal) S256x1024 .f32)) : Vec Ideal S256x1024 .f32 :=
  M.view.readCov L (Rect.unit (s := S256x1024) ![0, 0] S256x1024.size inb_S256x1024_S256x1024_0_0).toLoadRect

/-- The two stores of a half's normalised columns. -/
def normPieces (LA LB : List (View.Piece (Elt Ideal) S256x1024 .f32)) (ga gb : Vec Ideal S1x1024 .f32) :
    List (View.Piece (Elt Ideal) S256x2048 .bf16) :=
  [⟨Rect.unit (s := S256x2048) ![0, 1024] S256x1024.size inb_S256x2048_S256x1024_0_1024, normOf (wholeOf arg18 LB) gb⟩,
   ⟨Rect.unit (s := S256x2048) ![0, 0] S256x1024.size inb_S256x2048_S256x1024_0_0, normOf (wholeOf arg17 LA) ga⟩]

/-- A half's rows with the normalised columns, projected, added. -/
def outOf (x : Vec Ideal S256x2048 .f32) (L : List (View.Piece (Elt Ideal) S256x2048 .bf16)) (w : Vec Ideal S1x2048x2048 .bf16) :
    FVec Ideal S256x2048 .f32 :=
  k0_pay171 x (arg19.view.readCov L (Rect.unit (s := S256x2048) ![0, 0] S256x2048.size inb_S256x2048_S256x2048_0_0).toLoadRect) w

variable (arg1 : Memref sig .tc .vmem S512x2048 .f32) (harg1 : arg1.IsWhole)
  (arg14 : Memref sig .tc .vmem S1x2048x2048 .bf16) (harg14 : arg14.IsWhole)
  (x0 : Vec Ideal S512x2048 .f32) (x13 : Vec Ideal S1x2048x2048 .bf16)

/-- The output block's two stores, from what each half has stored of its heads and groups. -/
def outPieces (loA hiA loB hiB : List (View.Piece (Elt Ideal) S256x1024 .f32)) (ga gb : Vec Ideal S1x1024 .f32) :
    List (View.Piece (Elt Ideal) S512x2048 .f32) :=
  let w := View.readAt (Elt Ideal) arg14.view (Rect.unit (s := S1x2048x2048) ![0, 0, 0] S1x2048x2048.size inb_S1x2048x2048_S1x2048x2048_0_0_0).toLoadRect (harg14.unread x13)
  [⟨Rect.unit (s := S512x2048) ![256, 0] S256x2048.size inb_S512x2048_S256x2048_256_0,
      outOf arg19 (View.readAt (Elt Ideal) arg1.view (Rect.unit (s := S512x2048) ![256, 0] S256x2048.size inb_S512x2048_S256x2048_256_0).toLoadRect (harg1.unread x0))
        (normPieces arg17 arg18 hiA hiB ga gb ++ normPieces arg17 arg18 loA loB ga gb) w⟩,
   ⟨Rect.unit (s := S512x2048) ![0, 0] S256x2048.size inb_S512x2048_S256x2048_0_0,
      outOf arg19 (View.readAt (Elt Ideal) arg1.view (Rect.unit (s := S512x2048) ![0, 0] S256x2048.size inb_S512x2048_S256x2048_0_0).toLoadRect (harg1.unread x0))
        (normPieces arg17 arg18 loA loB ga gb) w⟩]

theorem gateLoB : kernelRun0_B.sl.HS2_16 (F := Ideal) c arg7 harg7 arg8 harg8 arg10 harg10 arg11 harg11 x6 x7 x9 x10
    = gatePieces arg7 harg7 arg8 harg8 arg10 harg10 arg11 harg11 x6 x7 x9 x10 0 (by omega) := by
  sl_kernel_rfl

variable (arg9 : Memref sig .tc .vmem S8x1024 .f32) (harg9 : arg9.IsWhole) (arg12 : Memref sig .tc .vmem S1x1024 .f32) (harg12 : arg12.IsWhole) (arg13 : Memref sig .tc .vmem S1x1024 .f32) (harg13 : arg13.IsWhole) (arg15 : Memref sig .tc .vmem S512x2048 .f32) (harg15 : arg15.IsWhole) (arg16 : Memref sig .tc .vmem S8x256x768 .f32) (harg16 : arg16.IsWhole) (harg17 : arg17.IsWhole) (harg18 : arg18.IsWhole) (harg19 : arg19.IsWhole)
  (x8 : Vec Ideal S8x1024 .f32) (x11 x12 : Vec Ideal S1x1024 .f32)

/-- The stores of the first point. -/
theorem outA (hc0 : cond0_0 i) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13).1
      = outPieces arg17 arg18 arg19 arg1 harg1 arg14 harg14 x0 x13
          (headPieces (headLo i arg2 harg2 arg3 harg3 arg4 harg4 arg5 harg5 arg6 harg6 x1 x2 x3 x4 x5 (biasA arg16 (biasPieces arg9 harg9 x8))))
          (headPieces (headHi i arg2 harg2 arg3 harg3 arg4 harg4 arg5 harg5 arg6 harg6 x1 x2 x3 x4 x5 (biasA arg16 (biasPieces arg9 harg9 x8))) ++ headPieces (headLo i arg2 harg2 arg3 harg3 arg4 harg4 arg5 harg5 arg6 harg6 x1 x2 x3 x4 x5 (biasA arg16 (biasPieces arg9 harg9 x8))))
          (gatePieces arg7 harg7 arg8 harg8 arg10 harg10 arg11 harg11 x6 x7 x9 x10 0 (by omega)) (gatesAll arg7 harg7 arg8 harg8 arg10 harg10 arg11 harg11 x6 x7 x9 x10)
          (gainOf arg12 harg12 x11) (gainOf arg13 harg13 x12) := by
  sl_kernel_rfl

/-- The stores of a later point. -/
theorem outB (hc0 : ¬cond0_0 i) (xs0 : Vec Ideal S8x256x768 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs0).1
      = outPieces arg17 arg18 arg19 arg1 harg1 arg14 harg14 x0 x13
          (headPieces (headLo i arg2 harg2 arg3 harg3 arg4 harg4 arg5 harg5 arg6 harg6 x1 x2 x3 x4 x5 (biasB arg16 harg16 xs0)))
          (headPieces (headHi i arg2 harg2 arg3 harg3 arg4 harg4 arg5 harg5 arg6 harg6 x1 x2 x3 x4 x5 (biasB arg16 harg16 xs0)) ++ headPieces (headLo i arg2 harg2 arg3 harg3 arg4 harg4 arg5 harg5 arg6 harg6 x1 x2 x3 x4 x5 (biasB arg16 harg16 xs0)))
          (gatePieces arg7 harg7 arg8 harg8 arg10 harg10 arg11 harg11 x6 x7 x9 x10 0 (by omega)) (gatesAll arg7 harg7 arg8 harg8 arg10 harg10 arg11 harg11 x6 x7 x9 x10)
          (gainOf arg12 harg12 x11) (gainOf arg13 harg13 x12) := by
  sl_kernel_rfl

end Cert.Kernel4Ideal.Mix

end
-- ==== Proof.Mix.Blocks.lean ====
module

public import proofs.«01_k».proof.Proof.Mix.Words

/-! What a grid point's blocks hold. -/

@[expose] public section

set_option maxRecDepth 16384

noncomputable section

namespace Cert.Kernel4Ideal.Mix

open Cert.Kernel4Ideal Cert.Kernel4Ideal.Gen Idealize.ShloMosaic Idealize.ShloMosaic.TcCoe Idealize.SL.Sem

variable (m : (ℓ : Loc nD τ sig) → Buf (Elt Ideal) ℓ)

/-- Where every window stands at a grid point. -/
theorem idx : ∀ t : Fin cfg0.N, win0_0.index t = ![t.val, 0] ∧ win0_1.index t = ![t.val, 0]
    ∧ win0_2.index t = ![t.val - 1, 1] ∧ win0_3.index t = ![t.val, 1] ∧ win0_4.index t = ![t.val - 1, 2]
    ∧ win0_5.index t = ![t.val, 2] ∧ win0_6.index t = ![t.val, 3] ∧ win0_7.index t = ![t.val, 4]
    ∧ win0_8.index t = ![0, 0] ∧ win0_9.index t = ![1, 0, 0, 0] ∧ win0_10.index t = ![0, 0]
    ∧ win0_11.index t = ![0, 0] ∧ win0_12.index t = ![0, 0] ∧ win0_13.index t = ![1, 0, 0]
    ∧ win0_14.index t = ![t.val, 0] :=
  (by decide +kernel : ∀ t : Fin grid0.N, _)

/-- The array row that a block's row `r` is at the point `t`. -/
def row (t : Fin cfg0.N) (r : Fin 512) : Fin 16384 :=
  ⟨t.val * 512 + r.val, by have := t.isLt; have : cfg0.N = 32 := rfl; omega⟩

/-- The row of the block before (the first block before itself). -/
def rowBefore (t : Fin cfg0.N) (r : Fin 512) : Fin 16384 :=
  ⟨(t.val - 1) * 512 + r.val, by have := t.isLt; have : cfg0.N = 32 := rfl; omega⟩

/-- The projected rows. -/
def zAt (c : Dev nD) (R : Fin 16384) (f : Fin 5120) : EReal := m ((c : Thread nD τ).loc main_arg1) (ix2 R f)

theorem blk0 (c : Dev nD) (t : Fin cfg0.N) (r : Fin 512) (k : Fin 2048) :
    iblk m c 0 t (ix2 r k) = m ((c : Thread nD τ).loc main_arg0) (ix3 0 (row t r) k) := by
  blk_simp [iblk, idx t]
  entry_read
  pointwise
  blk_ext [idx t, row]

theorem blk1 (c : Dev nD) (t : Fin cfg0.N) (r : Fin 512) (k : Fin 1024) :
    iblk m c 1 t (ix2 r k) = zAt m c (row t r) ⟨k.val, by omega⟩ := by
  unfold zAt
  blk_simp [iblk, idx t]
  entry_read
  blk_ext [idx t, row]

theorem blk2 (c : Dev nD) (t : Fin cfg0.N) (r : Fin 512) (k : Fin 1024) :
    iblk m c 2 t (ix2 r k) = zAt m c (rowBefore t r) ⟨1024 + k.val, by omega⟩ := by
  unfold zAt
  blk_simp [iblk, idx t]
  entry_read
  blk_ext [idx t, rowBefore]

theorem blk3 (c : Dev nD) (t : Fin cfg0.N) (r : Fin 512) (k : Fin 1024) :
    iblk m c 3 t (ix2 r k) = zAt m c (row t r) ⟨1024 + k.val, by omega⟩ := by
  unfold zAt
  blk_simp [iblk, idx t]
  entry_read
  blk_ext [idx t, row]

theorem blk4 (c : Dev nD) (t : Fin cfg0.N) (r : Fin 512) (k : Fin 1024) :
    iblk m c 4 t (ix2 r k) = zAt m c (rowBefore t r) ⟨2048 + k.val, by omega⟩ := by
  unfold zAt
  blk_simp [iblk, idx t]
  entry_read
  blk_ext [idx t, rowBefore]

theorem blk5 (c : Dev nD) (t : Fin cfg0.N) (r : Fin 512) (k : Fin 1024) :
    iblk m c 5 t (ix2 r k) = zAt m c (row t r) ⟨2048 + k.val, by omega⟩ := by
  unfold zAt
  blk_simp [iblk, idx t]
  entry_read
  blk_ext [idx t, row]

theorem blk6 (c : Dev nD) (t : Fin cfg0.N) (r : Fin 512) (k : Fin 1024) :
    iblk m c 6 t (ix2 r k) = zAt m c (row t r) ⟨3072 + k.val, by omega⟩ := by
  unfold zAt
  blk_simp [iblk, idx t]
  entry_read
  blk_ext [idx t, row]

theorem blk7 (c : Dev nD) (t : Fin cfg0.N) (r : Fin 512) (k : Fin 1024) :
    iblk m c 7 t (ix2 r k) = zAt m c (row t r) ⟨4096 + k.val, by omega⟩ := by
  unfold zAt
  blk_simp [iblk, idx t]
  entry_read
  blk_ext [idx t, row]

/-- The layer's table of distances. -/
def table (c : Dev nD) (h : Fin 8) (e : Fin 513) : EReal := m ((c : Thread nD τ).loc main_arg2) (ix3 1 h e)

/-- The place in the table that the lane `e` of the turned row takes. -/
def lane (e : Fin 1024) : Fin 513 := if h : 256 ≤ e.val ∧ e.val < 769 then ⟨768 - e.val, by omega⟩ else 512

theorem ext_eq (c : Dev nD) :
    V m c main_v8
      = concatenate S8x1024 1
          [⟨S8x256, broadcastInDim S8x256 ![0, 1] bcast_S8x1_S8x256_0_1 (V m c main_v4)⟩, ⟨S8x513, Host.reverse [1] (V m c main_v3)⟩,
            ⟨S8x255, broadcastInDim S8x255 ![0, 1] bcast_S8x1_S8x255_0_1 (V m c main_v4)⟩] concatenates_S8x256_S8x513_S8x255_S8x1024_d1 := by
  sl_kernel_rfl

theorem last_at (c : Dev nD) (h : Fin 8) : V m c main_v4 (ix2 h 0) = table m c h 512 := by
  unfold table
  entry_read
  pointwise

theorem rows_at (c : Dev nD) (h : Fin 8) (e : Fin 513) : V m c main_v3 (ix2 h e) = table m c h e := by
  unfold table
  entry_read
  pointwise

theorem blk8 (c : Dev nD) (t : Fin cfg0.N) (h : Fin 8) (e : Fin 1024) :
    iblk m c 8 t (ix2 h e) = table m c h (lane e) := by
  have he : (win0_8.blk t).view.emb (ix2 h e) = ix2 h e := by blk_ext [idx t]
  blk_simp [iblk, idx t]
  rw [he, ext_eq]
  pointwise [last_at, rows_at]
  unfold lane
  split
  · rw [dif_neg (by omega), last_at]
  · split
    · rw [dif_pos (by omega)]
      refine (rows_at m c h _).trans (congrArg (table m c h) (Fin.ext ?_))
      show (⟨e.val - 256, by omega⟩ : Fin 513).rev.val = 768 - e.val
      rw [Fin.val_rev]
      show 513 - (e.val - 256 + 1) = _
      omega
    · rw [dif_neg (by omega), last_at]

theorem blk9 (c : Dev nD) (t : Fin cfg0.N) (g : Fin 8) (a b : Fin 128) :
    iblk m c 9 t (ix4 0 g a b) = m ((c : Thread nD τ).loc main_arg3) (ix4 1 g a b) := by
  blk_simp [iblk, idx t]
  entry_read
  blk_ext [idx t]

theorem blk10 (c : Dev nD) (t : Fin cfg0.N) (a : Fin 128) (g : Fin 8) :
    iblk m c 10 t (ix2 a g) = m ((c : Thread nD τ).loc main_arg4) (ix3 1 g a) := by
  blk_simp [iblk, idx t]
  entry_read
  pointwise
  blk_ext [idx t]

theorem blk11 (c : Dev nD) (t : Fin cfg0.N) (k : Fin 1024) :
    iblk m c 11 t (ix2 0 k) = m ((c : Thread nD τ).loc main_arg5) (ix2 1 k) := by
  blk_simp [iblk, idx t]
  entry_read
  pointwise
  blk_ext [idx t]

theorem blk12 (c : Dev nD) (t : Fin cfg0.N) (k : Fin 1024) :
    iblk m c 12 t (ix2 0 k) = m ((c : Thread nD τ).loc main_arg6) (ix2 1 k) := by
  blk_simp [iblk, idx t]
  entry_read
  pointwise
  blk_ext [idx t]

theorem blk13 (c : Dev nD) (t : Fin cfg0.N) (k j : Fin 2048) :
    iblk m c 13 t (ix3 0 k j) = m ((c : Thread nD τ).loc main_arg7) (ix3 1 k j) := by
  blk_simp [iblk, idx t]
  entry_read
  pointwise
  blk_ext [idx t]

end Cert.Kernel4Ideal.Mix

end
-- ==== Proof.Mix.Terms.lean ====
module

public import proofs.«01_k».proof.Proof.Mem.Terms

/-! ONE ROW OF THE MIXING LAYER, in extended reals: softmax in three blocks and in one, the window of 768 positions and the
    band of 576, the gated groups, the normalised columns. -/

@[expose] public section

set_option maxRecDepth 16384

noncomputable section

namespace Cert.Mix

open Idealize.ShloMosaic Finset Cert.Mem

/-- A score: real, or masked. -/
def IsScore (s : EReal) : Prop := s = ⊥ ∨ IsReal s

/-- Values weighted by exponentials, over the exponentials' sum. -/
def soft {ι : Type*} [Fintype ι] (s v : ι → EReal) : EReal :=
  Ideal.div (∑ i, Ideal.exp (s i) * v i) (∑ i, Ideal.exp (s i))

/-- The largest of a family of scores. -/
def topOf {ι : Type*} [Fintype ι] (s : ι → EReal) : EReal := univ.fold max ⊥ s

theorem exp_bot : Ideal.exp ⊥ = 0 := by simp

theorem IsScore.exp {s : EReal} (h : IsScore s) : ∃ e : ℝ, 0 ≤ e ∧ Ideal.exp s = (e : EReal) := by
  rcases h with rfl | ⟨r, rfl⟩
  · exact ⟨0, le_refl _, by rw [exp_bot]; rfl⟩
  · exact ⟨Real.exp r, (Real.exp_pos r).le, Ideal.exp_coe r⟩

theorem exp_sub {s : EReal} (h : IsScore s) (m : ℝ) : Ideal.exp (s - (m : EReal)) = ((Real.exp (-m) : ℝ) : EReal) * Ideal.exp s := by
  rcases h with rfl | ⟨r, rfl⟩
  · rw [EReal.bot_sub, exp_bot, mul_zero]
  · rw [← EReal.coe_sub, Ideal.exp_coe, Ideal.exp_coe, ← EReal.coe_mul, ← Real.exp_add, sub_eq_add_neg, add_comm]

theorem topOf_score {ι : Type*} [Fintype ι] {s : ι → EReal} (h : ∀ i, IsScore (s i)) : IsScore (topOf s) := by
  have e : topOf s = univ.sup s := rfl
  rw [e]
  refine Finset.sup_induction (p := IsScore) (.inl rfl) (fun x hx y hy => ?_) fun i _ => h i
  rcases le_total x y with e | e
  · rwa [sup_eq_right.2 e]
  · rwa [sup_eq_left.2 e]

theorem max_real {x y : EReal} (hx : IsReal x) (hy : IsScore y) : IsReal (max x y) := by
  rcases hy with rfl | hy
  · rwa [max_bot_right]
  · rcases le_total x y with e | e
    · rwa [max_eq_right e]
    · rwa [max_eq_left e]

theorem topOf_real {ι : Type*} [Fintype ι] {s : ι → EReal} (h : ∀ i, IsScore (s i)) (j : ι) (hj : IsReal (s j)) : IsReal (topOf s) := by
  rcases topOf_score h with e | e
  · have : s j ≤ topOf s := Finset.le_sup (f := s) (mem_univ j)
    rw [e, le_bot_iff] at this
    obtain ⟨r, hr⟩ := hj
    rw [hr] at this
    exact absurd this (EReal.coe_ne_bot r)
  · exact e

theorem coe_sum {ι : Type*} (s : Finset ι) (f : ι → ℝ) : ∑ i ∈ s, (f i : EReal) = ((∑ i ∈ s, f i : ℝ) : EReal) :=
  (map_sum (⟨⟨((↑) : ℝ → EReal), rfl⟩, EReal.coe_add⟩ : ℝ →+ EReal) _ _).symm

theorem coe_mul_sum {ι : Type*} (s : Finset ι) (f : ι → EReal) {r : ℝ} (hr : 0 ≤ r) :
    (r : EReal) * ∑ i ∈ s, f i = ∑ i ∈ s, (r : EReal) * f i := by
  rw [mul_comm, sum_mul_coe s f hr]
  exact sum_congr rfl fun i _ => mul_comm _ _

theorem coe_mul_add {r : ℝ} (hr : 0 ≤ r) (x y : EReal) : (r : EReal) * (x + y) = (r : EReal) * x + (r : EReal) * y :=
  EReal.left_distrib_of_nonneg_of_ne_top (by exact_mod_cast hr) (EReal.coe_ne_top _) x y

/-- A common positive factor cancels. -/
theorem div_scale {c d : ℝ} (hc : 0 < c) (hd : 0 < d) (x : EReal) :
    Ideal.div ((c : EReal) * x) ((c : EReal) * (d : EReal)) = Ideal.div x (d : EReal) := by
  have h1 : ((c * d : ℝ) : EReal) ≠ 0 := by exact_mod_cast (mul_pos hc hd).ne'
  have h2 : (d : EReal) ≠ 0 := by exact_mod_cast hd.ne'
  rw [← EReal.coe_mul, Ideal.div, if_neg h1, Ideal.div, if_neg h2, ← EReal.coe_inv, ← EReal.coe_inv, mul_comm (c : EReal) x, mul_assoc,
    ← EReal.coe_mul]
  congr 3
  rw [mul_inv, ← mul_assoc, mul_inv_cancel₀ hc.ne', one_mul]

/-- The weights divided by their sum before they weigh, all less any real. -/
theorem soft_weights {ι : Type*} [Fintype ι] {s : ι → EReal} (v : ι → EReal) (h : ∀ i, IsScore (s i)) (j : ι) (hj : IsReal (s j))
    {M : EReal} (hM : IsReal M) :
    ∑ i, v i * Ideal.div (Ideal.exp (s i - M)) (∑ i, Ideal.exp (s i - M)) = soft s v := by
  obtain ⟨m, rfl⟩ := hM
  choose e he0 he using fun i => (h i).exp
  have hpos : 0 < ∑ i, e i := by
    refine sum_pos' (fun i _ => he0 i) ⟨j, mem_univ j, ?_⟩
    obtain ⟨r, hr⟩ := hj
    have := he j
    rw [hr, Ideal.exp_coe] at this
    rw [← EReal.coe_eq_coe_iff.1 this]
    exact Real.exp_pos r
  have hc := Real.exp_pos (-m)
  have h1 : ((Real.exp (-m) * ∑ i, e i : ℝ) : EReal) ≠ 0 := by exact_mod_cast (mul_pos hc hpos).ne'
  have h2 : ((∑ i, e i : ℝ) : EReal) ≠ 0 := by exact_mod_cast hpos.ne'
  unfold soft
  simp only [exp_sub (h _), he, ← EReal.coe_mul, coe_sum, ← mul_sum]
  rw [Ideal.div, if_neg h2, ← EReal.coe_inv, sum_mul_coe _ _ (inv_nonneg.2 hpos.le)]
  refine sum_congr rfl fun i _ => ?_
  rw [Ideal.div, if_neg h1, ← EReal.coe_inv, ← EReal.coe_mul, mul_comm (e i : EReal) (v i), mul_assoc (v i), ← EReal.coe_mul]
  congr 2
  rw [mul_inv]
  field_simp

/-- Softmax over three blocks of scores, one after another, each rescaling what came before. -/
def online (s2 s1 s0 v2 v1 v0 : Fin 256 → EReal) : EReal :=
  let m2 := topOf s2
  let m1 := max m2 (topOf s1)
  let m0 := max m1 (topOf s0)
  Ideal.div
    (Ideal.exp (m1 - m0) * (Ideal.exp (m2 - m1) * (∑ i, Ideal.exp (s2 i - m2) * v2 i) + ∑ i, Ideal.exp (s1 i - m1) * v1 i)
      + ∑ i, Ideal.exp (s0 i - m0) * v0 i)
    (Ideal.exp (m1 - m0) * (Ideal.exp (m2 - m1) * (∑ i, Ideal.exp (s2 i - m2)) + ∑ i, Ideal.exp (s1 i - m1))
      + ∑ i, Ideal.exp (s0 i - m0))

theorem block_sum {s v : Fin 256 → EReal} (h : ∀ i, IsScore (s i)) (m : ℝ) :
    ∑ i, Ideal.exp (s i - (m : EReal)) * v i = ((Real.exp (-m) : ℝ) : EReal) * ∑ i, Ideal.exp (s i) * v i := by
  rw [coe_mul_sum _ _ (Real.exp_pos _).le]
  exact sum_congr rfl fun i _ => by rw [exp_sub (h i), mul_assoc]

theorem block_den {s : Fin 256 → EReal} (h : ∀ i, IsScore (s i)) (m : ℝ) :
    ∑ i, Ideal.exp (s i - (m : EReal)) = ((Real.exp (-m) : ℝ) : EReal) * ∑ i, Ideal.exp (s i) := by
  rw [coe_mul_sum _ _ (Real.exp_pos _).le]
  exact sum_congr rfl fun i _ => exp_sub (h i) m

theorem rescale (a b : ℝ) (x : EReal) :
    Ideal.exp ((a : EReal) - (b : EReal)) * (((Real.exp (-a) : ℝ) : EReal) * x) = ((Real.exp (-b) : ℝ) : EReal) * x := by
  rw [← EReal.coe_sub, Ideal.exp_coe, ← mul_assoc, ← EReal.coe_mul, ← Real.exp_add]
  congr 4
  ring

theorem den_pos {s : Fin 256 → EReal} (h : ∀ i, IsScore (s i)) : ∃ d : ℝ, 0 ≤ d ∧ ∑ i, Ideal.exp (s i) = (d : EReal) := by
  choose e he0 he using fun i => (h i).exp
  exact ⟨∑ i, e i, sum_nonneg fun i _ => he0 i, by simp only [he, coe_sum]⟩

theorem den_pos' {s : Fin 256 → EReal} (h : ∀ i, IsScore (s i)) (j : Fin 256) (hj : IsReal (s j)) :
    ∃ d : ℝ, 0 < d ∧ ∑ i, Ideal.exp (s i) = (d : EReal) := by
  choose e he0 he using fun i => (h i).exp
  refine ⟨∑ i, e i, sum_pos' (fun i _ => he0 i) ⟨j, mem_univ j, ?_⟩, by simp only [he, coe_sum]⟩
  obtain ⟨r, hr⟩ := hj
  have := he j
  rw [hr, Ideal.exp_coe] at this
  rw [← EReal.coe_eq_coe_iff.1 this]
  exact Real.exp_pos r

theorem online_eq {s2 s1 s0 : Fin 256 → EReal} (v2 v1 v0 : Fin 256 → EReal) (h2 : ∀ i, IsScore (s2 i)) (h1 : ∀ i, IsScore (s1 i))
    (h0 : ∀ i, IsScore (s0 i)) (j : Fin 256) (hj : IsReal (s2 j)) :
    online s2 s1 s0 v2 v1 v0
      = Ideal.div ((∑ i, Ideal.exp (s2 i) * v2 i) + (∑ i, Ideal.exp (s1 i) * v1 i) + ∑ i, Ideal.exp (s0 i) * v0 i)
          ((∑ i, Ideal.exp (s2 i)) + (∑ i, Ideal.exp (s1 i)) + ∑ i, Ideal.exp (s0 i)) := by
  have r2 := topOf_real h2 j hj
  have r1 := max_real r2 (topOf_score h1)
  have r0 := max_real r1 (topOf_score h0)
  obtain ⟨d2, p2, e2⟩ := den_pos' h2 j hj
  obtain ⟨d1, p1, e1⟩ := den_pos h1
  obtain ⟨d0, p0, e0⟩ := den_pos h0
  unfold online
  obtain ⟨m2, q2⟩ := r2
  obtain ⟨m1, q1⟩ := r1
  obtain ⟨m0, q0⟩ := r0
  show Ideal.div
    (Ideal.exp (max (topOf s2) (topOf s1) - max (max (topOf s2) (topOf s1)) (topOf s0))
        * (Ideal.exp (topOf s2 - max (topOf s2) (topOf s1)) * (∑ i, Ideal.exp (s2 i - topOf s2) * v2 i)
          + ∑ i, Ideal.exp (s1 i - max (topOf s2) (topOf s1)) * v1 i)
      + ∑ i, Ideal.exp (s0 i - max (max (topOf s2) (topOf s1)) (topOf s0)) * v0 i)
    (Ideal.exp (max (topOf s2) (topOf s1) - max (max (topOf s2) (topOf s1)) (topOf s0))
        * (Ideal.exp (topOf s2 - max (topOf s2) (topOf s1)) * (∑ i, Ideal.exp (s2 i - topOf s2))
          + ∑ i, Ideal.exp (s1 i - max (topOf s2) (topOf s1)))
      + ∑ i, Ideal.exp (s0 i - max (max (topOf s2) (topOf s1)) (topOf s0))) = _
  rw [q0, q1, q2]
  rw [block_sum h2, block_sum h1, block_sum h0, block_den h2, block_den h1, block_den h0, rescale, rescale,
    ← coe_mul_add (Real.exp_pos _).le, ← coe_mul_add (Real.exp_pos _).le, rescale, rescale, ← coe_mul_add (Real.exp_pos _).le,
    ← coe_mul_add (Real.exp_pos _).le, e2, e1, e0, ← EReal.coe_add, ← EReal.coe_add]
  exact div_scale (Real.exp_pos _) (by positivity) _

/-- Three blocks of 256 as one family of 768. -/
def blockOf (r : ℕ) (hr : r < 3) (f : Fin 768 → EReal) (i : Fin 256) : EReal := f ⟨256 * r + i.val, by omega⟩

theorem sum_blocks (f : Fin 768 → EReal) :
    ∑ w, f w = (∑ i, blockOf 2 (by omega) f i) + (∑ i, blockOf 1 (by omega) f i) + ∑ i, blockOf 0 (by omega) f i := by
  have e : ∑ w, f w = ∑ w : Fin (256 + 256 + 256), f w := rfl
  rw [e, Fin.sum_univ_add, Fin.sum_univ_add, add_comm, ← add_assoc]
  rw [add_right_comm]
  rfl

/-- The three blocks' softmax is the whole window's. -/
theorem online_soft (s v : Fin 768 → EReal) (h : ∀ w, IsScore (s w)) (j : Fin 256) (hj : IsReal (blockOf 2 (by omega) s j)) :
    online (blockOf 2 (by omega) s) (blockOf 1 (by omega) s) (blockOf 0 (by omega) s)
      (blockOf 2 (by omega) v) (blockOf 1 (by omega) v) (blockOf 0 (by omega) v) = soft s v := by
  have hb : ∀ r hr i, IsScore (blockOf r hr s i) := fun _ _ _ => h _
  rw [online_eq _ _ _ (hb _ _) (hb _ _) (hb _ _) j hj]
  unfold soft
  rw [sum_blocks fun w => Ideal.exp (s w), sum_blocks fun w => Ideal.exp (s w) * v w]
  rfl

/-- A window's softmax is that of the band in it, where all else is masked. -/
theorem soft_band (k : ℕ) (hk : k ≤ 3) (s v : Fin 768 → EReal) (s' v' : Fin 576 → EReal)
    (hin : ∀ j : Fin 576, s ⟨64 * k + j.val, by omega⟩ = s' j)
    (hv : ∀ j : Fin 576, s' j = ⊥ ∨ v ⟨64 * k + j.val, by omega⟩ = v' j)
    (hout : ∀ w : Fin 768, ¬(64 * k ≤ w.val ∧ w.val < 64 * k + 576) → s w = ⊥) : soft s v = soft s' v' := by
  have inj : Function.Injective fun j : Fin 576 => (⟨64 * k + j.val, by omega⟩ : Fin 768) := fun a b e => by
    have := Fin.mk.inj e
    exact Fin.ext (by omega)
  have off : ∀ w : Fin 768, w ∉ Set.range (fun j : Fin 576 => (⟨64 * k + j.val, by omega⟩ : Fin 768)) → s w = ⊥ := fun w hw =>
    hout w fun ⟨ha, hb⟩ => hw ⟨⟨w.val - 64 * k, by omega⟩, Fin.ext (by show 64 * k + (w.val - 64 * k) = w.val; omega)⟩
  unfold soft
  congr 1
  · refine (Fintype.sum_of_injective _ inj _ _ (fun w hw => ?_) fun j => ?_).symm
    · rw [off w hw, exp_bot, zero_mul]
    · rw [hin]
      rcases hv j with e | e
      · rw [e, exp_bot, zero_mul, zero_mul]
      · rw [e]
  · refine (Fintype.sum_of_injective _ inj _ _ (fun w hw => ?_) fun j => ?_).symm
    · rw [off w hw, exp_bot]
    · rw [hin]

/-- Columns divided by the root of their mean square and scaled. -/
def normed (y g : Fin 1024 → EReal) (f : Fin 1024) : EReal :=
  y f * Ideal.rsqrt (Ideal.div (∑ k, y k * y k) (Ideal.ofBits .f32 0x44800000#32) + Ideal.ofBits .f32 0x358637BD#32) * g f

/-- A group's row: the masked weights on the values, with the row's offset, by the gate. -/
def gate (u : EReal) (w v : Fin 128 → EReal) (b : EReal) (a : Fin 128) : EReal :=
  u * ((∑ t : Fin 128, (if t.val / 64 ≤ a.val / 64 then w t else 0) * v t) + b)

/-- A score at two positions: the product of the heads and the table at their distance. -/
def score (z : Fin 16384 → Fin 5120 → EReal) (T : Fin 8 → Fin 513 → EReal) (h : Fin 8) (R P : Fin 16384) : EReal :=
  (∑ d : Fin 128, z R ⟨128 * h.val + d.val, by omega⟩ * z P ⟨1024 + 128 * h.val + d.val, by omega⟩)
    + T h ⟨min 512 (256 + R.val - P.val), by omega⟩

/-- The band's scores: the row's chunk and the eight before it, none before the first. -/
def band (z : Fin 16384 → Fin 5120 → EReal) (T : Fin 8 → Fin 513 → EReal) (h : Fin 8) (R : Fin 16384) (j : Fin 576) : EReal :=
  if hj : 512 ≤ 64 * (R.val / 64) + j.val then score z T h R ⟨64 * (R.val / 64) + j.val - 512, by omega⟩ else ⊥

def bandVal (z : Fin 16384 → Fin 5120 → EReal) (f : Fin 1024) (R : Fin 16384) (j : Fin 576) : EReal :=
  if hj : 512 ≤ 64 * (R.val / 64) + j.val then z ⟨64 * (R.val / 64) + j.val - 512, by omega⟩ ⟨2048 + f.val, by omega⟩ else 0

/-- The attended column `f` of the row `R`. -/
def attended (z : Fin 16384 → Fin 5120 → EReal) (T : Fin 8 → Fin 513 → EReal) (R : Fin 16384) (f : Fin 1024) : EReal :=
  soft (band z T ⟨f.val / 128, by omega⟩ R) (bandVal z f R)

/-- The gated column `f` of the row `R`. -/
def gated (z : Fin 16384 → Fin 5120 → EReal) (ws : Fin 8 → Fin 128 → Fin 128 → EReal) (bs : Fin 8 → Fin 128 → EReal)
    (R : Fin 16384) (f : Fin 1024) : EReal :=
  gate (z R ⟨3072 + f.val, by omega⟩) (fun t => ws ⟨f.val / 128, by omega⟩ ⟨R.val % 128, by omega⟩ t)
    (fun t => z ⟨128 * (R.val / 128) + t.val, by omega⟩ ⟨4096 + f.val, by omega⟩)
    (bs ⟨f.val / 128, by omega⟩ ⟨R.val % 128, by omega⟩) ⟨R.val % 128, by omega⟩

/-- The two halves side by side. -/
def sides (a b : Fin 1024 → EReal) (k : Fin 2048) : EReal :=
  if h : k.val < 1024 then a ⟨k.val, h⟩ else b ⟨k.val - 1024, by omega⟩

end Cert.Mix

end
-- ==== Proof.Mix.Window.lean ====
module

public import proofs.«01_k».proof.Proof.Mix.Blocks
public import proofs.«01_k».proof.Proof.Mix.Terms

/-! A half block's window of 768 positions against the band of 576 of each of its rows. -/

@[expose] public section

set_option maxRecDepth 16384

noncomputable section

namespace Cert.Kernel4Ideal.Mix

open Cert.Kernel4Ideal Cert.Kernel4Ideal.Gen Idealize.ShloMosaic Idealize.ShloMosaic.TcCoe Idealize.SL.Sem Cert.Mem Cert.Mix

variable (m : (ℓ : Loc nD τ sig) → Buf (Elt Ideal) ℓ) (c : Dev nD)

/-- The bias of the row `r` of any half block at the window's position `w`. -/
def biasAt (h : Fin 8) (r : Fin 256) (w : Fin 768) : EReal :=
  if r.val / 64 ≤ w.val / 64 ∧ w.val / 64 ≤ r.val / 64 + 8 then table m c h (lane ⟨(w.val + 1024 - r.val) % 1024, by omega⟩) else ⊥

/-- The array row of a half's row. -/
def qRow (t : Fin cfg0.N) (n : ℕ) (hn : n < 2) (a : Fin 256) : Fin 16384 := row t ⟨256 * n + a.val, by omega⟩

/-- The array row of a half's window position. -/
def keyRow (t : Fin cfg0.N) (n : ℕ) (hn : n < 2) (w : Fin 768) : Fin 16384 :=
  if h : 256 * n + w.val < 512 then rowBefore t ⟨256 * n + w.val, h⟩ else row t ⟨256 * n + w.val - 512, by omega⟩

/-- What a window's position starts from: nothing, or the mask before the first block. -/
def startAt (t n r : ℕ) : EReal := if 2 ≤ 2 * t + n + r then 0 else ⊥

/-- The scores of a half's row over its window, and the values of a column. -/
def winScore (t : Fin cfg0.N) (n : ℕ) (hn : n < 2) (h : Fin 8) (a : Fin 256) (w : Fin 768) : EReal :=
  (∑ d : Fin 128, zAt m c (qRow t n hn a) ⟨128 * h.val + d.val, by omega⟩ * zAt m c (keyRow t n hn w) ⟨1024 + (128 * h.val + d.val), by omega⟩)
    + biasAt m c h a w + startAt t.val n (w.val / 256)

def winVal (t : Fin cfg0.N) (n : ℕ) (hn : n < 2) (f : Fin 1024) (w : Fin 768) : EReal := zAt m c (keyRow t n hn w) ⟨2048 + f.val, by omega⟩

/-- The first 2048 columns and the layer's table are real. -/
def Finite : Prop := (∀ R f, f.val < 2048 → IsReal (zAt m c R f)) ∧ ∀ h e, IsReal (table m c h e)

theorem lane_eq (a : Fin 256) (w : Fin 768) (hw : w.val / 64 ≤ a.val / 64 + 8) :
    (lane ⟨(w.val + 1024 - a.val) % 1024, by omega⟩).val = min 512 (768 + a.val - w.val) := by
  unfold lane
  split
  · rename_i h
    have h1 : 256 ≤ (w.val + 1024 - a.val) % 1024 := h.1
    have h2 : (w.val + 1024 - a.val) % 1024 < 769 := h.2
    show 768 - (w.val + 1024 - a.val) % 1024 = _
    omega
  · rename_i h
    have h1 : ¬(256 ≤ (w.val + 1024 - a.val) % 1024 ∧ (w.val + 1024 - a.val) % 1024 < 769) := h
    show 512 = _
    omega

theorem isReal_sum_mul (hf : Finite m c) (R P : Fin 16384) (h : Fin 8) :
    IsReal (∑ d : Fin 128, zAt m c R ⟨128 * h.val + d.val, by omega⟩ * zAt m c P ⟨1024 + (128 * h.val + d.val), by omega⟩) :=
  IsReal.sum _ fun d => (hf.1 _ _ (by show 128 * h.val + d.val < 2048; omega)).mul (hf.1 _ _ (by show 1024 + (128 * h.val + d.val) < 2048; omega))

theorem winScore_in (t : Fin cfg0.N) (n : ℕ) (hn : n < 2) (h : Fin 8) (a : Fin 256) (w : Fin 768)
    (h1 : a.val / 64 ≤ w.val / 64) (h2 : w.val / 64 ≤ a.val / 64 + 8) (h3 : 2 ≤ 2 * t.val + n + w.val / 256) :
    winScore m c t n hn h a w
      = (∑ d : Fin 128, zAt m c (qRow t n hn a) ⟨128 * h.val + d.val, by omega⟩ * zAt m c (keyRow t n hn w) ⟨1024 + (128 * h.val + d.val), by omega⟩)
        + table m c h ⟨min 512 (768 + a.val - w.val), by omega⟩ := by
  unfold winScore biasAt startAt
  rw [if_pos ⟨h1, h2⟩, if_pos h3, add_zero]
  congr 2
  exact Fin.ext (lane_eq a w h2)

theorem winScore_out (t : Fin cfg0.N) (n : ℕ) (hn : n < 2) (h : Fin 8) (a : Fin 256) (w : Fin 768)
    (h1 : ¬(a.val / 64 ≤ w.val / 64 ∧ w.val / 64 ≤ a.val / 64 + 8)) : winScore m c t n hn h a w = ⊥ := by
  unfold winScore biasAt
  rw [if_neg h1, EReal.add_bot, EReal.bot_add]

theorem winScore_before (t : Fin cfg0.N) (n : ℕ) (hn : n < 2) (h : Fin 8) (a : Fin 256) (w : Fin 768)
    (h3 : ¬2 ≤ 2 * t.val + n + w.val / 256) : winScore m c t n hn h a w = ⊥ := by
  unfold winScore startAt
  rw [if_neg h3, EReal.add_bot]

theorem winScore_score (hf : Finite m c) (t : Fin cfg0.N) (n : ℕ) (hn : n < 2) (h : Fin 8) (a : Fin 256) (w : Fin 768) :
    IsScore (winScore m c t n hn h a w) := by
  by_cases h1 : a.val / 64 ≤ w.val / 64 ∧ w.val / 64 ≤ a.val / 64 + 8
  · by_cases h3 : 2 ≤ 2 * t.val + n + w.val / 256
    · rw [winScore_in m c t n hn h a w h1.1 h1.2 h3]
      exact .inr ((isReal_sum_mul m c hf _ _ h).add (hf.2 _ _))
    · exact .inl (winScore_before m c t n hn h a w h3)
  · exact .inl (winScore_out m c t n hn h a w h1)

theorem keyRow_val (t : Fin cfg0.N) (n : ℕ) (hn : n < 2) (w : Fin 768) (h3 : 2 ≤ 2 * t.val + n + w.val / 256) :
    (keyRow t n hn w).val = 512 * t.val + 256 * n + w.val - 512 := by
  unfold keyRow
  split
  · show (t.val - 1) * 512 + (256 * n + w.val) = _
    omega
  · show t.val * 512 + (256 * n + w.val - 512) = _
    omega

theorem qRow_val (t : Fin cfg0.N) (n : ℕ) (hn : n < 2) (a : Fin 256) : (qRow t n hn a).val = 512 * t.val + 256 * n + a.val := by
  show t.val * 512 + (256 * n + a.val) = _
  omega

/-- A row's softmax over its window is that over its band. -/
theorem window_soft (t : Fin cfg0.N) (n : ℕ) (hn : n < 2) (f : Fin 1024) (a : Fin 256) :
    soft (winScore m c t n hn ⟨f.val / 128, by omega⟩ a) (winVal m c t n hn f)
      = attended (zAt m c) (table m c) (qRow t n hn a) f := by
  have hq := qRow_val t n hn a
  refine soft_band (a.val / 64) (by omega) _ _ _ _ (fun j => ?_) (fun j => ?_) fun w hw => winScore_out m c t n hn _ a w (by omega)
  · unfold Cert.Mix.band
    split
    · rename_i hj
      rw [winScore_in m c t n hn _ a _ (by show _ ≤ (64 * (a.val / 64) + j.val) / 64; omega) (by show (64 * (a.val / 64) + j.val) / 64 ≤ _; omega)
        (by show 2 ≤ 2 * t.val + n + (64 * (a.val / 64) + j.val) / 256; omega)]
      unfold score
      have hk : keyRow t n hn ⟨64 * (a.val / 64) + j.val, by omega⟩ = ⟨64 * ((qRow t n hn a).val / 64) + j.val - 512, by omega⟩ := by
        apply Fin.ext
        rw [keyRow_val t n hn _ (by show 2 ≤ 2 * t.val + n + (64 * (a.val / 64) + j.val) / 256; omega)]
        show 512 * t.val + 256 * n + (64 * (a.val / 64) + j.val) - 512 = 64 * ((qRow t n hn a).val / 64) + j.val - 512
        omega
      rw [hk]
      refine congrArg₂ (fun x y : EReal => x + y) ?_ ?_
      · refine Finset.sum_congr rfl fun d _ => ?_
        refine congrArg (fun q => zAt m c _ _ * zAt m c _ q) ?_
        apply Fin.ext
        show 1024 + (128 * (f.val / 128) + d.val) = 1024 + 128 * (f.val / 128) + d.val
        omega
      · refine congrArg (table m c _) ?_
        apply Fin.ext
        show min 512 (768 + a.val - (64 * (a.val / 64) + j.val)) = min 512 (256 + (qRow t n hn a).val - (64 * ((qRow t n hn a).val / 64) + j.val - 512))
        omega
    · rename_i hj
      exact winScore_before m c t n hn _ a _ (by show ¬2 ≤ 2 * t.val + n + (64 * (a.val / 64) + j.val) / 256; omega)
  · unfold Cert.Mix.band bandVal
    split
    · rename_i hj
      refine .inr ?_
      unfold winVal
      congr 1
      apply Fin.ext
      rw [keyRow_val t n hn _ (by show 2 ≤ 2 * t.val + n + (64 * (a.val / 64) + j.val) / 256; omega)]
      show 512 * t.val + 256 * n + (64 * (a.val / 64) + j.val) - 512 = 64 * ((qRow t n hn a).val / 64) + j.val - 512
      omega
    · exact .inl rfl

/-- Three blocks of a window, taken one after another. -/
theorem window_online (hf : Finite m c) (t : Fin cfg0.N) (n : ℕ) (hn : n < 2) (f : Fin 1024) (a : Fin 256) :
    online (blockOf 2 (by omega) (winScore m c t n hn ⟨f.val / 128, by omega⟩ a)) (blockOf 1 (by omega) (winScore m c t n hn ⟨f.val / 128, by omega⟩ a))
      (blockOf 0 (by omega) (winScore m c t n hn ⟨f.val / 128, by omega⟩ a))
      (blockOf 2 (by omega) (winVal m c t n hn f)) (blockOf 1 (by omega) (winVal m c t n hn f)) (blockOf 0 (by omega) (winVal m c t n hn f))
      = attended (zAt m c) (table m c) (qRow t n hn a) f := by
  refine (online_soft _ _ (winScore_score m c hf t n hn _ a) a ?_).trans (window_soft m c t n hn f a)
  unfold blockOf
  rw [winScore_in m c t n hn _ a _ (by show _ ≤ (256 * 2 + a.val) / 64; omega) (by show (256 * 2 + a.val) / 64 ≤ _; omega)
        (by show 2 ≤ 2 * t.val + n + (256 * 2 + a.val) / 256; omega)]
  exact (isReal_sum_mul m c hf _ _ _).add (hf.2 _ _)

end Cert.Kernel4Ideal.Mix

end
-- ==== Proof.Mix.VecA.lean ====
module

public import proofs.«01_k».proof.Proof.Mix.Words
public import proofs.«01_k».proof.Proof.Mix.Terms

/-! The stored vectors of a point at an element. -/

@[expose] public section

set_option maxRecDepth 16384

noncomputable section

namespace Cert.Kernel4Ideal.Mix

open Cert.Kernel4Ideal Cert.Kernel4Ideal.Gen Idealize.ShloMosaic Idealize.ShloMosaic.TcCoe Idealize.SL.Sem

theorem scoreVec_at (s : Ideal .f32) (q k : Vec Ideal S256x128 .bf16) (b : Vec Ideal S1x256x256 .f32) (a j : Fin 256) :
    scoreVec s q k b (ix2 a j) = (∑ d : Fin 128, (show EReal from q (ix2 a d)) * k (ix2 j d)) + b (ix3 0 a j) + s := by
  pointwise [scoreVec]

theorem topVec_at (sc : FVec Ideal S256x256 .f32) (a : Fin 256) :
    topVec sc (ix2 a 0) = Cert.Mix.topOf fun j => sc (ix2 a j) := by
  pointwise [topVec, Cert.Mix.topOf]
  rw [Cert.Mem.bot_eq]

theorem expVec_at (sc : FVec Ideal S256x256 .f32) (mx : FVec Ideal S256x1 .f32) (a j : Fin 256) :
    expVec sc mx (ix2 a j) = Ideal.exp ((show EReal from sc (ix2 a j)) - mx (ix2 a 0)) := by
  pointwise [expVec]

theorem sumVec_at (p : FVec Ideal S256x256 .f32) (a : Fin 256) : sumVec p (ix2 a 0) = ∑ j, (show EReal from p (ix2 a j)) := by
  pointwise [sumVec]

theorem valVec_at (p : FVec Ideal S256x256 .f32) (v : Vec Ideal S256x128 .bf16) (a : Fin 256) (x : Fin 128) :
    valVec p v (ix2 a x) = ∑ j, (show EReal from p (ix2 a j)) * v (ix2 j x) := by
  pointwise [valVec]

theorem denVec_at (mx mx' den : FVec Ideal S256x1 .f32) (p : FVec Ideal S256x256 .f32) (a : Fin 256) :
    denVec mx mx' den p (ix2 a 0) = Ideal.exp ((show EReal from mx (ix2 a 0)) - mx' (ix2 a 0)) * den (ix2 a 0) + sumVec p (ix2 a 0) := by
  pointwise [denVec]

theorem accVec_at (mx mx' : FVec Ideal S256x1 .f32) (acc : FVec Ideal S256x128 .f32) (p : FVec Ideal S256x256 .f32)
    (v : Vec Ideal S256x128 .bf16) (a : Fin 256) (x : Fin 128) :
    accVec mx mx' acc p v (ix2 a x)
      = Ideal.exp ((show EReal from mx (ix2 a 0)) - mx' (ix2 a 0)) * acc (ix2 a x) + valVec p v (ix2 a x) := by
  pointwise [accVec]

theorem larger_at {S : Shape} (x y : FVec Ideal S .f32) (j : S.Idx) : maximumf x y j = max (x j) (y j) := rfl

theorem quot_at (x : FVec Ideal S256x128 .f32) (y : FVec Ideal S256x1 .f32) (a : Fin 256) (d : Fin 128) :
    shapeCast S256x128 (divf x (broadcastTo S256x128 y broadcasts_S256x1_S256x128)) shapeCasts_S256x128_S256x128 (ix2 a d)
      = Ideal.div (x (ix2 a d)) (y (ix2 a 0)) := by
  pointwise

theorem headOf_at (c2 c1 c0 : FVec Ideal S256x256 .f32) (v2 v1 v0 : Vec Ideal S256x128 .bf16) (a : Fin 256) (x : Fin 128) :
    headOf c2 c1 c0 v2 v1 v0 (ix2 a x) = Cert.Mix.online (fun j => c2 (ix2 a j)) (fun j => c1 (ix2 a j)) (fun j => c0 (ix2 a j))
      (fun j => v2 (ix2 j x)) (fun j => v1 (ix2 j x)) (fun j => v0 (ix2 j x)) := by
  unfold headOf
  simp only [quot_at, accVec_at, denVec_at, valVec_at, sumVec_at, expVec_at, larger_at, topVec_at]
  rfl

end Cert.Kernel4Ideal.Mix

end
-- ==== Proof.Mix.VecB.lean ====
module

public import proofs.«01_k».proof.Proof.Mix.Words
public import proofs.«01_k».proof.Proof.Mix.Terms

/-! The stored vectors of a point at an element. -/

@[expose] public section

set_option maxRecDepth 16384

noncomputable section

namespace Cert.Kernel4Ideal.Mix

open Cert.Kernel4Ideal Cert.Kernel4Ideal.Gen Idealize.ShloMosaic Idealize.ShloMosaic.TcCoe Idealize.SL.Sem

theorem mask_eq : (Named.named κ "mask" 0xF149F2CA#32 : Ideal .f32) = (⊥ : EReal) := rfl

/-- The chunks of the band's mask. -/
def kcol : IVec S256x768 32 :=
  select (andi k0_pay5 (cmpi .ne k0_pay6 (broadcast S256x768 0#32))) (subi k0_pay4 (broadcast S256x768 1#32)) k0_pay4

theorem band_eq : band = andi (cmpi .sge k0_pay3 kcol) (cmpi .sle (subi k0_pay3 kcol) (broadcast S256x768 8#32)) := rfl

theorem qcol_at (r : Fin 256) (w : Fin 768) : k0_pay3 (ix2 r w) = BitVec.ofNat 32 ((r.val + 512) / 64) := by
  have h : ∀ r : Fin 256, k0_pay3 (ix2 r (0 : Fin 768)) = BitVec.ofNat 32 ((r.val + 512) / 64) := by decide +kernel
  exact h r

theorem kcol_at (r : Fin 256) (w : Fin 768) : kcol (ix2 r w) = BitVec.ofNat 32 (w.val / 64) := by
  have h : ∀ w : Fin 768, kcol (ix2 (0 : Fin 256) w) = BitVec.ofNat 32 (w.val / 64) := by decide +kernel
  exact h w

theorem band_at (r : Fin 256) (w : Fin 768) :
    band (ix2 r w) = if r.val / 64 ≤ w.val / 64 ∧ w.val / 64 ≤ r.val / 64 + 8 then 1#1 else 0#1 := by
  have h : ∀ a : Fin 4, ∀ b : Fin 12, IntOp.andi (IntOp.cmpi .sge (BitVec.ofNat 32 (a.val + 8)) (BitVec.ofNat 32 b.val))
      (IntOp.cmpi .sle (IntOp.subi (BitVec.ofNat 32 (a.val + 8)) (BitVec.ofNat 32 b.val)) 8#32)
      = if a.val ≤ b.val ∧ b.val ≤ a.val + 8 then 1#1 else 0#1 := by decide +kernel
  rw [band_eq]
  show IntOp.andi (IntOp.cmpi .sge (k0_pay3 (ix2 r w)) (kcol (ix2 r w)))
    (IntOp.cmpi .sle (IntOp.subi (k0_pay3 (ix2 r w)) (kcol (ix2 r w))) 8#32) = _
  rw [qcol_at, kcol_at, show (r.val + 512) / 64 = r.val / 64 + 8 by omega]
  exact h ⟨r.val / 64, by omega⟩ ⟨w.val / 64, by omega⟩

end Cert.Kernel4Ideal.Mix

end
-- ==== Proof.Mix.VecC.lean ====
module

public import proofs.«01_k».proof.Proof.Mix.Words
public import proofs.«01_k».proof.Proof.Mix.VecB

/-! The stored vectors of a point at an element. -/

@[expose] public section

set_option maxRecDepth 16384

noncomputable section

namespace Cert.Kernel4Ideal.Mix

open Cert.Kernel4Ideal Cert.Kernel4Ideal.Gen Idealize.ShloMosaic Idealize.ShloMosaic.TcCoe Idealize.SL.Sem

theorem turn_at (e : Vec Ideal S1x1024 .f32) (r : Fin 256) (w : Fin 768) :
    extractStridedSlice S256x768 ![0, 0]
      (dynamicRotate 1 0#32 (some (1, 0))
        (broadcastTo S256x1024 (shapeCast S1x1024 (shapeCast S1x1024 e shapeCasts_S1x1024_S1x1024) shapeCasts_S1x1024_S1x1024)
          broadcasts_S1x1024_S256x1024) rotates_S256x1024_d1s1a0) slices_S256x1024_o0_0_S256x768 (ix2 r w)
      = e (ix2 0 ⟨(w.val + 1024 - r.val) % 1024, by omega⟩) := by
  pointwise
  congr 4
  omega

theorem biasOf_at (e : Vec Ideal S1x1024 .f32) (r : Fin 256) (w : Fin 768) :
    biasOf e (ix3 0 r w) = if r.val / 64 ≤ w.val / 64 ∧ w.val / 64 ≤ r.val / 64 + 8
      then (show EReal from e (ix2 0 ⟨(w.val + 1024 - r.val) % 1024, by omega⟩)) else ⊥ := by
  unfold biasOf
  pointwise
  rw [band_at, mask_eq]
  have e : (⟨(w.val + 1024 - r.val % 1024) % 1024, by omega⟩ : Fin 1024) = ⟨(w.val + 1024 - r.val) % 1024, by omega⟩ := by
    apply Fin.ext; show (w.val + 1024 - r.val % 1024) % 1024 = (w.val + 1024 - r.val) % 1024; omega
  rw [e]
  split <;> rfl

end Cert.Kernel4Ideal.Mix

end
-- ==== Proof.Mix.VecD.lean ====
module

public import proofs.«01_k».proof.Proof.Mix.Words
public import proofs.«01_k».proof.Proof.Mix.Terms

/-! The stored vectors of a point at an element. -/

@[expose] public section

set_option maxRecDepth 16384

noncomputable section

namespace Cert.Kernel4Ideal.Mix

open Cert.Kernel4Ideal Cert.Kernel4Ideal.Gen Idealize.ShloMosaic Idealize.ShloMosaic.TcCoe Idealize.SL.Sem

/-- The chunk of a column. -/
def ccol : IVec S128x128 32 :=
  select (andi (cmpi .ne k0_pay20 k0_pay21) (cmpi .ne (remsi (iota .tc S128x128 32 [1] iota_S128x128_d1_w32) (broadcast S128x128 64#32))
    (broadcast S128x128 0#32))) (subi k0_pay19 (broadcast S128x128 1#32)) k0_pay19

theorem causal_eq : causal = cmpi .sge k0_pay18 ccol := rfl

theorem rrow_at (a t : Fin 128) : k0_pay18 (ix2 a t) = BitVec.ofNat 32 (a.val / 64) := by
  have h : ∀ a : Fin 128, k0_pay18 (ix2 a (0 : Fin 128)) = BitVec.ofNat 32 (a.val / 64) := by decide +kernel
  exact h a

theorem ccol_at (a t : Fin 128) : ccol (ix2 a t) = BitVec.ofNat 32 (t.val / 64) := by
  have h : ∀ t : Fin 128, ccol (ix2 (0 : Fin 128) t) = BitVec.ofNat 32 (t.val / 64) := by decide +kernel
  exact h t

theorem causal_at (a t : Fin 128) : causal (ix2 a t) = if t.val / 64 ≤ a.val / 64 then 1#1 else 0#1 := by
  have h : ∀ a b : Fin 2, IntOp.cmpi .sge (BitVec.ofNat 32 a.val) (BitVec.ofNat 32 b.val) = if b.val ≤ a.val then 1#1 else 0#1 := by decide +kernel
  rw [causal_eq]
  show IntOp.cmpi .sge (k0_pay18 (ix2 a t)) (ccol (ix2 a t)) = _
  rw [rrow_at, ccol_at]
  exact h ⟨a.val / 64, by omega⟩ ⟨t.val / 64, by omega⟩

theorem gateOf_at (w : Vec Ideal S1x1x128x128 .f32) (b : Vec Ideal S128x1 .f32) (v u : Vec Ideal S128x128 .bf16) (a x : Fin 128) :
    gateOf w b v u (ix2 a x)
      = Cert.Mix.gate (u (ix2 a x)) (fun t => w (ix4 0 0 a t)) (fun t => v (ix2 t x)) (b (ix2 a 0)) a := by
  unfold gateOf Cert.Mix.gate
  pointwise [causal_at]
  refine congrArg (fun q : EReal => u (ix2 a x) * (q + b (ix2 a 0))) (Finset.sum_congr rfl fun t _ => ?_)
  by_cases h : t.val / 64 ≤ a.val / 64
  · rw [if_pos h, if_pos h]
    rfl
  · rw [if_neg h, if_neg h, zero_mul]
    rfl

end Cert.Kernel4Ideal.Mix

end
-- ==== Proof.Mix.VecE.lean ====
module

public import proofs.«01_k».proof.Proof.Mix.Words
public import proofs.«01_k».proof.Proof.Mix.Terms

/-! The stored vectors of a point at an element. -/

@[expose] public section

set_option maxRecDepth 16384

noncomputable section

namespace Cert.Kernel4Ideal.Mix

open Cert.Kernel4Ideal Cert.Kernel4Ideal.Gen Idealize.ShloMosaic Idealize.ShloMosaic.TcCoe Idealize.SL.Sem

theorem normOf_at (y : Vec Ideal S256x1024 .f32) (g : Vec Ideal S1x1024 .f32) (a : Fin 256) (f : Fin 1024) :
    normOf y g (ix2 a f) = Cert.Mix.normed (fun k => y (ix2 a k)) (fun k => g (ix2 0 k)) f := by
  pointwise [normOf, Cert.Mix.normed]

theorem out_at (x : Vec Ideal S256x2048 .f32) (y : Vec Ideal S256x2048 .bf16) (w : Vec Ideal S1x2048x2048 .bf16) (a : Fin 256) (j : Fin 2048) :
    k0_pay171 (F := Ideal) x y w (ix2 a j) = (show EReal from x (ix2 a j)) + ∑ k, (show EReal from y (ix2 a k)) * w (ix3 0 k j) := by
  pointwise [k0_pay171]

theorem start_eq : ∀ (i : Fin 32) (t : Fin 2) (r : Fin 3), Scalar.cmpi .sge (Scalar.addi (Scalar.addi (Scalar.muli 2#32 (BitVec.ofNat 32 i.val))
    (BitVec.ofNat 32 t.val)) (BitVec.ofNat 32 r.val)) 2#32 = if 2 ≤ 2 * i.val + t.val + r.val then 1#1 else 0#1 := by decide +kernel

end Cert.Kernel4Ideal.Mix

end
-- ==== Proof.Mix.Pieces.lean ====
module

public import proofs.«01_k».proof.Proof.Mix.Window
public import proofs.«01_k».proof.Proof.Mix.VecA
public import proofs.«01_k».proof.Proof.Mix.VecC
public import proofs.«01_k».proof.Proof.Mix.VecD
public import proofs.«01_k».proof.Proof.Mix.VecE

/-! What a point's stores hold, read back. -/

@[expose] public section

set_option maxRecDepth 16384

noncomputable section

namespace Cert.Kernel4Ideal.Mix

open Cert.Kernel4Ideal Cert.Kernel4Ideal.Gen Idealize.ShloMosaic Idealize.ShloMosaic.TcCoe Idealize.SL.Sem Cert.Mem

variable (m : (ℓ : Loc nD τ sig) → Buf (Elt Ideal) ℓ) (c : Dev nD)

/-- A load of a whole buffer's box is the buffer there. -/
theorem load_at {s : Shape} {e : EltTy} (M : Memref sig .tc .vmem s e) (hM : M.IsWhole) (x : Vec Ideal s e) (off size : Fin s.rank → ℕ)
    (inb : ∀ a, off a + size a ≤ s.size a) (j : (Rect.unit (s := s) off size inb).shape.Idx) (i : s.Idx) (hi : ∀ a, (i a : ℕ) = off a + j a) :
    View.readAt (Elt Ideal) M.view (Rect.unit (s := s) off size inb).toLoadRect (hM.unread x) j = x i := by
  rw [View.readAt_eq_ld, Memref.IsWhole.read_unread]
  exact View.ld_unit_apply_of x off size inb j i hi

theorem tile_at (M : Memref sig .tc .vmem S512x1024 .bf16) (hM : M.IsWhole) (x : Vec Ideal S512x1024 .bf16) (n h : ℕ) (hn : n < 2) (hh : h < 8)
    (a : Fin 256) (d : Fin 128) : tile M hM x n h hn hh (ix2 a d) = x (ix2 ⟨256 * n + a.val, by omega⟩ ⟨128 * h + d.val, by omega⟩) :=
  load_at M hM x _ _ _ (ix2 a d) _ fun b => match b with | ⟨0, _⟩ => rfl | ⟨1, _⟩ => rfl

theorem square_at (M : Memref sig .tc .vmem S512x1024 .bf16) (hM : M.IsWhole) (x : Vec Ideal S512x1024 .bf16) (n k g : ℕ) (hn : n < 2) (hk : k < 2)
    (hg : g < 8) (a d : Fin 128) :
    square M hM x n k g hn hk hg (ix2 a d) = x (ix2 ⟨256 * n + 128 * k + a.val, by omega⟩ ⟨128 * g + d.val, by omega⟩) :=
  load_at M hM x _ _ _ (ix2 a d) _ fun b => match b with | ⟨0, _⟩ => rfl | ⟨1, _⟩ => rfl

theorem gain_at (M : Memref sig .tc .vmem S1x1024 .f32) (hM : M.IsWhole) (x : Vec Ideal S1x1024 .f32) (k : Fin 1024) :
    gainOf M hM x (ix2 0 k) = x (ix2 0 k) :=
  load_at M hM x _ _ _ (ix2 0 k) _ fun b => match b with | ⟨0, _⟩ => rfl | ⟨1, _⟩ => (Nat.zero_add _).symm

/-- The mask before the first block, in numbers. -/
theorem start_at (t : Fin 32) (n r : ℕ) (hn : n < 2) (hr : r < 3) : startW (BitVec.ofNat 32 t.val) n r = startAt t.val n r := by
  unfold startW startAt
  rw [start_eq t ⟨n, hn⟩ ⟨r, hr⟩, mask_eq]
  show Scalar.select (if 2 ≤ 2 * t.val + n + r then 1#1 else 0#1) _ _ = _
  split
  · exact (if_pos rfl).trans (Ideal.ofBits_zero .f32)
  · rfl

/-- The stores of the heads' biases leave the bias. -/
theorem biasPiece_of (arg9 : Memref sig .tc .vmem S8x1024 .f32) (harg9 : arg9.IsWhole) (x8 : Vec Ideal S8x1024 .f32)
    (h8 : ∀ h e, x8 (ix2 h e) = table m c h (lane e)) (h : ℕ) (hh : h < 8) :
    ∀ x, (biasPiece arg9 harg9 x8 h hh).2 x = (fun y : S8x256x768.Idx => biasAt m c (y 0) (y 1) (y 2)) ((biasPiece arg9 harg9 x8 h hh).1.emb x) := by
  intro x
  have key : ∀ (x1 : Fin 256) (x2 : Fin 768), biasOf (View.readAt (Elt Ideal) arg9.view (Rect.unit (s := S8x1024) ![h, 0] S1x1024.size
      (inbE hh)).toLoadRect (harg9.unread x8)) (ix3 0 x1 x2) = biasAt m c ⟨h, hh⟩ x1 x2 := by
    intro x1 x2
    refine (biasOf_at _ x1 x2).trans ?_
    unfold biasAt
    refine if_congr Iff.rfl ?_ rfl
    exact (load_at arg9 harg9 x8 ![h, 0] S1x1024.size (inbE hh) (ix2 0 (⟨(x2.val + 1024 - x1.val) % 1024, by omega⟩ : Fin 1024)) (ix2 ⟨h, hh⟩ (⟨(x2.val + 1024 - x1.val) % 1024, by omega⟩ : Fin 1024)) fun b => match b with | ⟨0, _⟩ => rfl | ⟨1, _⟩ => (Nat.zero_add _).symm).trans (h8 _ _)
  have x0 : x = (ix3 (0 : Fin 1) (x 1 : Fin 256) (x 2 : Fin 768) : S1x256x768.Idx) := by
    funext a
    match a with
    | ⟨0, _⟩ => exact Subsingleton.elim (α := Fin 1) _ _
    | ⟨1, _⟩ => rfl
    | ⟨2, _⟩ => rfl
  have e : (biasPiece arg9 harg9 x8 h hh).1.emb x = (ix3 (⟨h, hh⟩ : Fin 8) (x 1 : Fin 256) (x 2 : Fin 768) : S8x256x768.Idx) := by
    funext a
    apply Fin.ext
    refine Eq.trans (Rect.idx_unit_val (s := S8x256x768) ![h, 0, 0] S1x256x768.size (inbS hh) x a) ?_
    match a with
    | ⟨0, _⟩ => exact congrArg (h + ·) (Nat.lt_one_iff.mp (x 0).isLt)
    | ⟨1, _⟩ => exact Nat.zero_add _
    | ⟨2, _⟩ => exact Nat.zero_add _
  exact (congrArg (biasPiece arg9 harg9 x8 h hh).2 x0).trans ((key _ _).trans (congrArg (fun y : S8x256x768.Idx => biasAt m c (y 0) (y 1) (y 2)) e).symm)

theorem biasPieces_at (arg9 : Memref sig .tc .vmem S8x1024 .f32) (harg9 : arg9.IsWhole) (x8 : Vec Ideal S8x1024 .f32)
    (h8 : ∀ h e, x8 (ix2 h e) = table m c h (lane e)) (h : Fin 8) (r : Fin 256) (w : Fin 768) :
    View.canon (biasPieces arg9 harg9 x8) (ix3 h r w) = biasAt m c h r w := by
  have P := biasPiece_of m c arg9 harg9 x8 h8
  exact View.canon_append_of_piecesOf (fun y : S8x256x768.Idx => biasAt m c (y 0) (y 1) (y 2)) [] (biasPieces arg9 harg9 x8)
    ⟨P 7 _, P 6 _, P 5 _, P 4 _, P 3 _, P 2 _, P 1 _, P 0 _, trivial⟩ _ (View.cover_of_tiledL _ ![1, 256, 768] (by sl_kernel_rfl) _)

theorem span_lt {r : ℕ} (hr : r < 3) (j : Fin 256) : 256 * r + j.val < 768 := by omega

theorem biasA_at (arg9 : Memref sig .tc .vmem S8x1024 .f32) (harg9 : arg9.IsWhole) (x8 : Vec Ideal S8x1024 .f32)
    (h8 : ∀ h e, x8 (ix2 h e) = table m c h (lane e)) (arg16 : Memref sig .tc .vmem S8x256x768 .f32) (h r : ℕ) (hh : h < 8) (hr : r < 3) (a j : Fin 256) :
    biasA arg16 (biasPieces arg9 harg9 x8) h r hh hr (ix3 0 a j) = biasAt m c ⟨h, hh⟩ a ⟨256 * r + j.val, span_lt hr j⟩ := by
  unfold biasA
  rw [View.readCov_eq_canon']
  refine Eq.trans (congrArg (View.canon _) ?_) (biasPieces_at m c arg9 harg9 x8 h8 ⟨h, hh⟩ a ⟨256 * r + j.val, span_lt hr j⟩)
  funext b
  apply Fin.ext
  refine (Rect.idx_unit_val _ _ _ _ b).trans ?_
  match b with
  | ⟨0, _⟩ => rfl
  | ⟨1, _⟩ => exact Nat.zero_add _
  | ⟨2, _⟩ => rfl

theorem biasB_at (arg16 : Memref sig .tc .vmem S8x256x768 .f32) (harg16 : arg16.IsWhole) (xs0 : Vec Ideal S8x256x768 .f32)
    (hx : ∀ h r w, xs0 (ix3 h r w) = biasAt m c h r w) (h r : ℕ) (hh : h < 8) (hr : r < 3) (a j : Fin 256) :
    biasB arg16 harg16 xs0 h r hh hr (ix3 0 a j) = biasAt m c ⟨h, hh⟩ a ⟨256 * r + j.val, span_lt hr j⟩ :=
  (load_at arg16 harg16 xs0 _ _ _ (ix3 0 a j) (ix3 ⟨h, hh⟩ a ⟨256 * r + j.val, span_lt hr j⟩)
    fun b => match b with | ⟨0, _⟩ => rfl | ⟨1, _⟩ => (Nat.zero_add _).symm | ⟨2, _⟩ => rfl).trans (hx _ _ _)

theorem place_lt {h : ℕ} (hh : h < 8) (x : Fin 128) : 128 * h + x.val < 1024 := by omega

section heads

variable (t : Fin cfg0.N) (i : grid0.Coords) (hi : (i 0).val = t.val)
  (arg2 : Memref sig .tc .vmem S512x1024 .bf16) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S512x1024 .bf16) (harg6 : arg6.IsWhole)
  (bias : (h r : ℕ) → h < 8 → r < 3 → Vec Ideal S1x256x256 .f32)
  (hb : ∀ h r hh hr (a j : Fin 256), bias h r hh hr (ix3 0 a j) = biasAt m c ⟨h, hh⟩ a ⟨256 * r + j.val, span_lt hr j⟩)

include hi hb

/-- A block of a half's scores. -/
theorem score_at (n h r : ℕ) (hn : n < 2) (hh : h < 8) (hr : r < 3) (M : Memref sig .tc .vmem S512x1024 .bf16) (hM : M.IsWhole)
    (xk : Vec Ideal S512x1024 .bf16) (p : ℕ) (hp : p < 2)
    (hk : ∀ j d : ℕ, ∀ (hj : j < 256) (hd : d < 1024), xk (ix2 ⟨256 * p + j, by omega⟩ ⟨d, hd⟩) = zAt m c (keyRow t n hn ⟨256 * r + j, by omega⟩) ⟨1024 + d, by omega⟩)
    (a j : Fin 256) :
    scoreVec (startW (BitVec.ofNat 32 (i 0).val) n r) (tile arg2 harg2 (iblk m c 1 t) n h hn hh) (tile M hM xk p h hp hh) (bias h r hh hr) (ix2 a j)
      = Cert.Mix.blockOf r hr (winScore m c t n hn ⟨h, hh⟩ a) j := by
  rw [scoreVec_at, hi, hb, start_at ⟨t.val, t.isLt⟩ n r hn hr]
  unfold Cert.Mix.blockOf winScore
  refine congrArg₂ (fun x y : EReal => x + y) (congrArg₂ (fun x y : EReal => x + y) (Finset.sum_congr rfl fun d _ => ?_) rfl) ?_
  · rw [tile_at, tile_at, blk1, hk j.val (128 * h + d.val) j.isLt (by omega)]
    rfl
  · show startAt t.val n r = startAt t.val n ((256 * r + j.val) / 256)
    rw [show (256 * r + j.val) / 256 = r by omega]

theorem headLo_at (hf : Finite m c) (h : ℕ) (hh : h < 8) (a : Fin 256) (x : Fin 128) :
    headLo i arg2 harg2 arg3 harg3 arg4 harg4 arg5 harg5 arg6 harg6 (iblk m c 1 t) (iblk m c 2 t) (iblk m c 3 t) (iblk m c 4 t) (iblk m c 5 t) bias h hh (ix2 a x)
      = Cert.Mix.attended (zAt m c) (table m c) (qRow t 0 Nat.zero_lt_two a) ⟨128 * h + x.val, place_lt hh x⟩ := by
  have eh : (⟨h, hh⟩ : Fin 8) = ⟨(128 * h + x.val) / 128, by omega⟩ := Fin.ext (by show h = (128 * h + x.val) / 128; omega)
  unfold headLo
  rw [headOf_at]
  simp only [score_at m c t i hi arg2 harg2 bias hb 0 h 2 (by omega) hh (by omega) arg4 harg4 (iblk m c 3 t) 0 (by omega) (fun j d hj hd => by
      rw [blk3]; unfold keyRow; rw [dif_neg (by show ¬256 * 0 + (256 * 2 + j) < 512; omega)]; congr 2; apply Fin.ext; show 256 * 0 + j = 256 * 0 + (256 * 2 + j) - 512; omega),
    score_at m c t i hi arg2 harg2 bias hb 0 h 1 (by omega) hh (by omega) arg3 harg3 (iblk m c 2 t) 1 (by omega) (fun j d hj hd => by
      rw [blk2]; unfold keyRow; rw [dif_pos (by show 256 * 0 + (256 * 1 + j) < 512; omega)]; congr 2; apply Fin.ext; show 256 * 1 + j = 256 * 0 + (256 * 1 + j); omega),
    score_at m c t i hi arg2 harg2 bias hb 0 h 0 (by omega) hh (by omega) arg3 harg3 (iblk m c 2 t) 0 (by omega) (fun j d hj hd => by
      rw [blk2]; unfold keyRow; rw [dif_pos (by show 256 * 0 + (256 * 0 + j) < 512; omega)]; congr 2; apply Fin.ext; show 256 * 0 + j = 256 * 0 + (256 * 0 + j); omega),
    tile_at]
  rw [← window_online m c hf, ← eh]
  congr 1
  · funext j
    rw [blk5]; unfold Cert.Mix.blockOf winVal keyRow; rw [dif_neg (by show ¬256 * 0 + (256 * 2 + j.val) < 512; omega)]; congr 2; apply Fin.ext; show 256 * 0 + j.val = 256 * 0 + (256 * 2 + j.val) - 512; omega
  · funext j
    rw [blk4]; unfold Cert.Mix.blockOf winVal keyRow; rw [dif_pos (by show 256 * 0 + (256 * 1 + j.val) < 512; omega)]; congr 2; apply Fin.ext; show 256 * 1 + j.val = 256 * 0 + (256 * 1 + j.val); omega
  · funext j
    rw [blk4]; unfold Cert.Mix.blockOf winVal keyRow; rw [dif_pos (by show 256 * 0 + (256 * 0 + j.val) < 512; omega)]; congr 2; apply Fin.ext; show 256 * 0 + j.val = 256 * 0 + (256 * 0 + j.val); omega

theorem headHi_at (hf : Finite m c) (h : ℕ) (hh : h < 8) (a : Fin 256) (x : Fin 128) :
    headHi i arg2 harg2 arg3 harg3 arg4 harg4 arg5 harg5 arg6 harg6 (iblk m c 1 t) (iblk m c 2 t) (iblk m c 3 t) (iblk m c 4 t) (iblk m c 5 t) bias h hh (ix2 a x)
      = Cert.Mix.attended (zAt m c) (table m c) (qRow t 1 Nat.one_lt_two a) ⟨128 * h + x.val, place_lt hh x⟩ := by
  have eh : (⟨h, hh⟩ : Fin 8) = ⟨(128 * h + x.val) / 128, by omega⟩ := Fin.ext (by show h = (128 * h + x.val) / 128; omega)
  unfold headHi
  rw [headOf_at]
  simp only [score_at m c t i hi arg2 harg2 bias hb 1 h 2 (by omega) hh (by omega) arg4 harg4 (iblk m c 3 t) 1 (by omega) (fun j d hj hd => by
      rw [blk3]; unfold keyRow; rw [dif_neg (by show ¬256 * 1 + (256 * 2 + j) < 512; omega)]; congr 2; apply Fin.ext; show 256 * 1 + j = 256 * 1 + (256 * 2 + j) - 512; omega),
    score_at m c t i hi arg2 harg2 bias hb 1 h 1 (by omega) hh (by omega) arg4 harg4 (iblk m c 3 t) 0 (by omega) (fun j d hj hd => by
      rw [blk3]; unfold keyRow; rw [dif_neg (by show ¬256 * 1 + (256 * 1 + j) < 512; omega)]; congr 2; apply Fin.ext; show 256 * 0 + j = 256 * 1 + (256 * 1 + j) - 512; omega),
    score_at m c t i hi arg2 harg2 bias hb 1 h 0 (by omega) hh (by omega) arg3 harg3 (iblk m c 2 t) 1 (by omega) (fun j d hj hd => by
      rw [blk2]; unfold keyRow; rw [dif_pos (by show 256 * 1 + (256 * 0 + j) < 512; omega)]; congr 2; apply Fin.ext; show 256 * 1 + j = 256 * 1 + (256 * 0 + j); omega),
    tile_at]
  rw [← window_online m c hf, ← eh]
  congr 1
  · funext j
    rw [blk5]; unfold Cert.Mix.blockOf winVal keyRow; rw [dif_neg (by show ¬256 * 1 + (256 * 2 + j.val) < 512; omega)]; congr 2; apply Fin.ext; show 256 * 1 + j.val = 256 * 1 + (256 * 2 + j.val) - 512; omega
  · funext j
    rw [blk5]; unfold Cert.Mix.blockOf winVal keyRow; rw [dif_neg (by show ¬256 * 1 + (256 * 1 + j.val) < 512; omega)]; congr 2; apply Fin.ext; show 256 * 0 + j.val = 256 * 1 + (256 * 1 + j.val) - 512; omega
  · funext j
    rw [blk4]; unfold Cert.Mix.blockOf winVal keyRow; rw [dif_pos (by show 256 * 1 + (256 * 0 + j.val) < 512; omega)]; congr 2; apply Fin.ext; show 256 * 1 + j.val = 256 * 1 + (256 * 0 + j.val); omega

end heads

end Cert.Kernel4Ideal.Mix

end
-- ==== Proof.Mix.Half.lean ====
module

public import proofs.«01_k».proof.Proof.Mix.Pieces

/-! What a point's two halves leave, row by row. -/

@[expose] public section

set_option maxRecDepth 16384

noncomputable section

namespace Cert.Kernel4Ideal.Mix

open Cert.Kernel4Ideal Cert.Kernel4Ideal.Gen Idealize.ShloMosaic Idealize.ShloMosaic.TcCoe Idealize.SL.Sem Cert.Mem

variable (m : (ℓ : Loc nD τ sig) → Buf (Elt Ideal) ℓ) (c : Dev nD)

/-- A box stored from a function of the two positions. -/
theorem piece_of {n k a b o p : ℕ} {e : EltTy} (w : Vec Ideal ⟨2, ![a, b]⟩ e)
    (inb : ∀ i, (![o, p] : Fin 2 → ℕ) i + (⟨2, ![a, b]⟩ : Shape).size i ≤ (⟨2, ![n, k]⟩ : Shape).size i) (G : Fin n → Fin k → Elt Ideal e)
    (h : ∀ (x : Fin a) (y : Fin b) (hx : o + x.val < n) (hy : p + y.val < k), w (ix2 x y) = G ⟨o + x.val, hx⟩ ⟨p + y.val, hy⟩) :
    ∀ z, w z = (fun y : (⟨2, ![n, k]⟩ : Shape).Idx => G (y 0) (y 1)) ((Rect.unit (s := ⟨2, ![n, k]⟩) ![o, p] (⟨2, ![a, b]⟩ : Shape).size inb).emb z) := by
  intro z
  have z0 : z = ix2 (z 0 : Fin a) (z 1 : Fin b) := by
    funext i
    match i with
    | ⟨0, _⟩ => rfl
    | ⟨1, _⟩ => rfl
  have i0 : o + a ≤ n := inb 0
  have i1 : p + b ≤ k := inb 1
  have e0 : o + (z 0).val < n := lt_of_lt_of_le (Nat.add_lt_add_left (z 0).isLt o) i0
  have e1 : p + (z 1).val < k := lt_of_lt_of_le (Nat.add_lt_add_left (z 1).isLt p) i1
  refine (congrArg w z0).trans ((h (z 0) (z 1) e0 e1).trans ?_)
  exact congrArg₂ G (Fin.ext (Rect.idx_unit_val (s := ⟨2, ![n, k]⟩) ![o, p] (⟨2, ![a, b]⟩ : Shape).size inb z 0).symm)
    (Fin.ext (Rect.idx_unit_val (s := ⟨2, ![n, k]⟩) ![o, p] (⟨2, ![a, b]⟩ : Shape).size inb z 1).symm)

theorem headPieces_at (w : (h : ℕ) → h < 8 → FVec Ideal S256x128 .f32) (G : Fin 256 → Fin 1024 → EReal)
    (hw : ∀ h hh (a : Fin 256) (x : Fin 128), w h hh (ix2 a x) = G a ⟨128 * h + x.val, by omega⟩)
    (L : List (View.Piece (Elt Ideal) S256x1024 .f32)) (a : Fin 256) (f : Fin 1024) :
    View.canon (headPieces w ++ L) (ix2 a f) = G a f := by
  have P (h : ℕ) (hh : h < 8) : ∀ z, (headPiece w h hh).2 z = (fun y : S256x1024.Idx => G (y 0) (y 1)) ((headPiece w h hh).1.emb z) := by
    have Q := piece_of (n := 256) (k := 1024) (a := 256) (b := 128) (o := 0) (p := 128 * h) (e := .f32) (w h hh) (inbH hh) G fun x y hx hy => by
      rw [show (⟨0 + x.val, hx⟩ : Fin 256) = x from Fin.ext (Nat.zero_add _)]
      exact hw h hh x y
    exact Q
  let GG : S256x1024.Idx → Elt Ideal .f32 := fun y => G (y 0) (y 1)
  exact View.canon_append_of_piecesOf GG L (headPieces w)
    ⟨P 7 _, P 6 _, P 5 _, P 4 _, P 3 _, P 2 _, P 1 _, P 0 _, trivial⟩ (ix2 a f) (View.cover_of_tiledL _ ![256, 128] (by sl_kernel_rfl) _)

section gates

variable (t : Fin cfg0.N)
  (arg7 : Memref sig .tc .vmem S512x1024 .bf16) (harg7 : arg7.IsWhole)
  (arg8 : Memref sig .tc .vmem S512x1024 .bf16) (harg8 : arg8.IsWhole)
  (arg10 : Memref sig .tc .vmem S1x8x128x128 .f32) (harg10 : arg10.IsWhole)
  (arg11 : Memref sig .tc .vmem S128x8 .f32) (harg11 : arg11.IsWhole)

/-- The gate's weights and offsets. -/
def weights (g : Fin 8) (a b : Fin 128) : EReal := m ((c : Thread nD τ).loc main_arg3) (ix4 1 g a b)
def offsets (g : Fin 8) (a : Fin 128) : EReal := m ((c : Thread nD τ).loc main_arg4) (ix3 1 g a)

theorem gatePiece_at (n : ℕ) (hn : n < 2) (g k : ℕ) (hg : g < 8) (hk : k < 2) (a x : Fin 128) (hx : 128 * k + a.val < 256) (hy : 128 * g + x.val < 1024) :
    gateOf (View.readAt (Elt Ideal) arg10.view (Rect.unit (s := S1x8x128x128) ![0, g, 0, 0] S1x1x128x128.size (inbW hg)).toLoadRect (harg10.unread (iblk m c 9 t)))
      (View.readAt (Elt Ideal) arg11.view (Rect.unit (s := S128x8) ![0, g] S128x1.size (inbC hg)).toLoadRect (harg11.unread (iblk m c 10 t)))
      (square arg8 harg8 (iblk m c 7 t) n k g hn hk hg) (square arg7 harg7 (iblk m c 6 t) n k g hn hk hg) (ix2 a x)
      = Cert.Mix.gated (zAt m c) (weights m c) (offsets m c) (qRow t n hn ⟨128 * k + a.val, hx⟩) ⟨128 * g + x.val, hy⟩ := by
  have eR : ∀ h, (⟨(qRow t n hn ⟨128 * k + a.val, hx⟩).val % 128, h⟩ : Fin 128) = a := fun h => Fin.ext (by
    show (t.val * 512 + (256 * n + (128 * k + a.val))) % 128 = a.val; omega)
  have eg : ∀ h, (⟨(128 * g + x.val) / 128, h⟩ : Fin 8) = ⟨g, hg⟩ := fun h => Fin.ext (by show (128 * g + x.val) / 128 = g; omega)
  rw [gateOf_at]
  unfold Cert.Mix.gated
  simp only [eR, eg]
  have eb : View.readAt (Elt Ideal) arg11.view (Rect.unit (s := S128x8) ![0, g] S128x1.size (inbC hg)).toLoadRect (harg11.unread (iblk m c 10 t)) (ix2 a 0)
      = offsets m c ⟨g, hg⟩ a :=
    (load_at arg11 harg11 (iblk m c 10 t) ![0, g] _ _ (ix2 a (0 : Fin 1)) (ix2 a (⟨g, hg⟩ : Fin 8))
      fun b => match b with | ⟨0, _⟩ => (Nat.zero_add _).symm | ⟨1, _⟩ => rfl).trans (blk10 m c t a ⟨g, hg⟩)
  have ew (b : Fin 128) : View.readAt (Elt Ideal) arg10.view (Rect.unit (s := S1x8x128x128) ![0, g, 0, 0] S1x1x128x128.size (inbW hg)).toLoadRect (harg10.unread (iblk m c 9 t)) (ix4 0 0 a b)
      = weights m c ⟨g, hg⟩ a b :=
    (load_at arg10 harg10 (iblk m c 9 t) ![0, g, 0, 0] _ _ (ix4 (0 : Fin 1) (0 : Fin 1) a b) (ix4 (0 : Fin 1) (⟨g, hg⟩ : Fin 8) a b)
      fun b => match b with | ⟨0, _⟩ => rfl | ⟨1, _⟩ => rfl | ⟨2, _⟩ => (Nat.zero_add _).symm | ⟨3, _⟩ => (Nat.zero_add _).symm).trans (blk9 m c t ⟨g, hg⟩ a b)
  have eu : square arg7 harg7 (iblk m c 6 t) n k g hn hk hg (ix2 a x) = zAt m c (qRow t n hn ⟨128 * k + a.val, hx⟩) ⟨3072 + (128 * g + x.val), by omega⟩ := by
    rw [square_at, blk6]
    unfold qRow
    congr 2
    apply Fin.ext
    show 256 * n + 128 * k + a.val = 256 * n + (128 * k + a.val)
    omega
  have ev (b : Fin 128) : square arg8 harg8 (iblk m c 7 t) n k g hn hk hg (ix2 b x)
      = zAt m c ⟨128 * ((qRow t n hn ⟨128 * k + a.val, hx⟩).val / 128) + b.val, by omega⟩ ⟨4096 + (128 * g + x.val), by omega⟩ := by
    rw [square_at, blk7]
    refine congrArg (zAt m c · _) (Fin.ext ?_)
    show t.val * 512 + (256 * n + 128 * k + b.val) = 128 * ((t.val * 512 + (256 * n + (128 * k + a.val))) / 128) + b.val
    omega
  simp only [eb, ew, eu, ev]

theorem gatePieces_at (n : ℕ) (hn : n < 2) (L : List (View.Piece (Elt Ideal) S256x1024 .f32)) (a : Fin 256) (f : Fin 1024) :
    View.canon (gatePieces arg7 harg7 arg8 harg8 arg10 harg10 arg11 harg11 (iblk m c 6 t) (iblk m c 7 t) (iblk m c 9 t) (iblk m c 10 t) n hn ++ L) (ix2 a f)
      = Cert.Mix.gated (zAt m c) (weights m c) (offsets m c) (qRow t n hn a) f := by
  have P (g k : ℕ) (hg : g < 8) (hk : k < 2) : ∀ z, (gatePiece arg7 harg7 arg8 harg8 arg10 harg10 arg11 harg11 (iblk m c 6 t) (iblk m c 7 t) (iblk m c 9 t) (iblk m c 10 t) n hn g k hg hk).2 z
      = (fun y : S256x1024.Idx => Cert.Mix.gated (zAt m c) (weights m c) (offsets m c) (qRow t n hn (y 0)) (y 1))
        ((gatePiece arg7 harg7 arg8 harg8 arg10 harg10 arg11 harg11 (iblk m c 6 t) (iblk m c 7 t) (iblk m c 9 t) (iblk m c 10 t) n hn g k hg hk).1.emb z) := by
    have Q := piece_of (n := 256) (k := 1024) (a := 128) (b := 128) (o := 128 * k) (p := 128 * g) (e := .f32)
      (gateOf (View.readAt (Elt Ideal) arg10.view (Rect.unit (s := S1x8x128x128) ![0, g, 0, 0] S1x1x128x128.size (inbW hg)).toLoadRect (harg10.unread (iblk m c 9 t)))
        (View.readAt (Elt Ideal) arg11.view (Rect.unit (s := S128x8) ![0, g] S128x1.size (inbC hg)).toLoadRect (harg11.unread (iblk m c 10 t)))
        (square arg8 harg8 (iblk m c 7 t) n k g hn hk hg) (square arg7 harg7 (iblk m c 6 t) n k g hn hk hg)) (inbG hk hg)
      (fun a f => Cert.Mix.gated (zAt m c) (weights m c) (offsets m c) (qRow t n hn a) f)
      fun x y hx hy => gatePiece_at m c t arg7 harg7 arg8 harg8 arg10 harg10 arg11 harg11 n hn g k hg hk x y hx hy
    exact Q
  let GG : S256x1024.Idx → Elt Ideal .f32 := fun y => Cert.Mix.gated (zAt m c) (weights m c) (offsets m c) (qRow t n hn (y 0)) (y 1)
  exact View.canon_append_of_piecesOf GG L (gatePieces arg7 harg7 arg8 harg8 arg10 harg10 arg11 harg11 (iblk m c 6 t) (iblk m c 7 t) (iblk m c 9 t) (iblk m c 10 t) n hn)
    ⟨P 7 1 _ _, P 7 0 _ _, P 6 1 _ _, P 6 0 _ _, P 5 1 _ _, P 5 0 _ _, P 4 1 _ _, P 4 0 _ _, P 3 1 _ _, P 3 0 _ _, P 2 1 _ _, P 2 0 _ _,
      P 1 1 _ _, P 1 0 _ _, P 0 1 _ _, P 0 0 _ _, trivial⟩ (ix2 a f) (View.cover_of_tiledL _ ![128, 128] (by sl_kernel_rfl) _)

end gates

section norms

variable (arg17 arg18 : Memref sig .tc .vmem S256x1024 .f32) (arg19 : Memref sig .tc .vmem S256x2048 .bf16)

theorem whole_at (M : Memref sig .tc .vmem S256x1024 .f32) (L : List (View.Piece (Elt Ideal) S256x1024 .f32)) (a : Fin 256) (f : Fin 1024) :
    wholeOf M L (ix2 a f) = View.canon L (ix2 a f) := by
  unfold wholeOf
  rw [View.readCov_eq_canon']
  refine congrArg (View.canon L) ?_
  funext b
  apply Fin.ext
  refine (Rect.idx_unit_val (s := S256x1024) ![0, 0] S256x1024.size inb_S256x1024_S256x1024_0_0 _ b).trans ?_
  match b with
  | ⟨0, _⟩ => exact Nat.zero_add _
  | ⟨1, _⟩ => exact Nat.zero_add _

theorem normPieces_at (LA LB : List (View.Piece (Elt Ideal) S256x1024 .f32)) (ga gb : Vec Ideal S1x1024 .f32) (A B : Fin 256 → Fin 1024 → EReal)
    (hA : ∀ (a : Fin 256) (f : Fin 1024), View.canon LA (ix2 a f) = A a f) (hB : ∀ (a : Fin 256) (f : Fin 1024), View.canon LB (ix2 a f) = B a f)
    (L : List (View.Piece (Elt Ideal) S256x2048 .bf16)) (a : Fin 256) (k : Fin 2048) :
    View.canon (normPieces arg17 arg18 LA LB ga gb ++ L) (ix2 a k)
      = Cert.Mix.sides (Cert.Mix.normed (A a) fun k => ga (ix2 0 k)) (Cert.Mix.normed (B a) fun k => gb (ix2 0 k)) k := by
  let G (a : Fin 256) (k : Fin 2048) : EReal :=
    Cert.Mix.sides (Cert.Mix.normed (A a) fun k => ga (ix2 0 k)) (Cert.Mix.normed (B a) fun k => gb (ix2 0 k)) k
  have P1 := piece_of (n := 256) (k := 2048) (a := 256) (b := 1024) (o := 0) (p := 1024) (e := .bf16) (normOf (wholeOf arg18 LB) gb)
    inb_S256x2048_S256x1024_0_1024 G fun x y hx hy => by
      rw [normOf_at]
      simp only [whole_at, hB]
      have e0 : (⟨0 + x.val, hx⟩ : Fin 256) = x := Fin.ext (Nat.zero_add _)
      show _ = Cert.Mix.sides _ _ _
      unfold Cert.Mix.sides
      rw [dif_neg (by show ¬1024 + y.val < 1024; omega), e0]
      exact congrArg (Cert.Mix.normed (B x) _) (Fin.ext (by show y.val = 1024 + y.val - 1024; omega))
  have P0 := piece_of (n := 256) (k := 2048) (a := 256) (b := 1024) (o := 0) (p := 0) (e := .bf16) (normOf (wholeOf arg17 LA) ga)
    inb_S256x2048_S256x1024_0_0 G fun x y hx hy => by
      rw [normOf_at]
      simp only [whole_at, hA]
      have e0 : (⟨0 + x.val, hx⟩ : Fin 256) = x := Fin.ext (Nat.zero_add _)
      show _ = Cert.Mix.sides _ _ _
      unfold Cert.Mix.sides
      rw [dif_pos (by show 0 + y.val < 1024; omega), e0]
      exact congrArg (Cert.Mix.normed (A x) _) (Fin.ext (Nat.zero_add _).symm)
  let GG : S256x2048.Idx → Elt Ideal .bf16 := fun y => G (y 0) (y 1)
  exact View.canon_append_of_piecesOf GG L (normPieces arg17 arg18 LA LB ga gb) ⟨P1, P0, trivial⟩ (ix2 a k)
    (View.cover_of_tiledL _ ![256, 1024] (by sl_kernel_rfl) _)

theorem outOf_at (x : Vec Ideal S256x2048 .f32) (L : List (View.Piece (Elt Ideal) S256x2048 .bf16)) (w : Vec Ideal S1x2048x2048 .bf16)
    (a : Fin 256) (j : Fin 2048) : outOf arg19 x L w (ix2 a j) = x (ix2 a j) + ∑ k : Fin 2048, View.canon L (ix2 a k) * w (ix3 0 k j) := by
  unfold outOf
  rw [out_at]
  refine congrArg (x (ix2 a j) + ·) (Finset.sum_congr rfl fun k _ => congrArg (· * w (ix3 0 k j)) ?_)
  rw [View.readCov_eq_canon']
  refine congrArg (View.canon L) ?_
  funext b
  apply Fin.ext
  refine (Rect.idx_unit_val (s := S256x2048) ![0, 0] S256x2048.size inb_S256x2048_S256x2048_0_0 _ b).trans ?_
  match b with
  | ⟨0, _⟩ => exact Nat.zero_add _
  | ⟨1, _⟩ => exact Nat.zero_add _

/-- The residual, the two gains and the projection. -/
def residual (R : Fin 16384) (j : Fin 2048) : EReal := m ((c : Thread nD τ).loc main_arg0) (ix3 0 R j)
def gainA (k : Fin 1024) : EReal := m ((c : Thread nD τ).loc main_arg5) (ix2 1 k)
def gainB (k : Fin 1024) : EReal := m ((c : Thread nD τ).loc main_arg6) (ix2 1 k)
def project (k j : Fin 2048) : EReal := m ((c : Thread nD τ).loc main_arg7) (ix3 1 k j)

/-- The layer's row `R`. -/
def mixed (R : Fin 16384) (j : Fin 2048) : EReal :=
  residual m c R j
    + ∑ k : Fin 2048, Cert.Mix.sides (Cert.Mix.normed (Cert.Mix.attended (zAt m c) (table m c) R) (gainA m c))
        (Cert.Mix.normed (Cert.Mix.gated (zAt m c) (weights m c) (offsets m c) R) (gainB m c)) k * project m c k j

variable (t : Fin cfg0.N) (arg1 : Memref sig .tc .vmem S512x2048 .f32) (harg1 : arg1.IsWhole)
  (arg14 : Memref sig .tc .vmem S1x2048x2048 .bf16) (harg14 : arg14.IsWhole)

theorem outPieces_at (loA hiA loB hiB : List (View.Piece (Elt Ideal) S256x1024 .f32)) (ga gb : Vec Ideal S1x1024 .f32)
    (hloA : ∀ (a : Fin 256) (f : Fin 1024), View.canon loA (ix2 a f) = Cert.Mix.attended (zAt m c) (table m c) (qRow t 0 (by omega) a) f)
    (hhiA : ∀ (a : Fin 256) (f : Fin 1024), View.canon hiA (ix2 a f) = Cert.Mix.attended (zAt m c) (table m c) (qRow t 1 (by omega) a) f)
    (hloB : ∀ (a : Fin 256) (f : Fin 1024), View.canon loB (ix2 a f) = Cert.Mix.gated (zAt m c) (weights m c) (offsets m c) (qRow t 0 (by omega) a) f)
    (hhiB : ∀ (a : Fin 256) (f : Fin 1024), View.canon hiB (ix2 a f) = Cert.Mix.gated (zAt m c) (weights m c) (offsets m c) (qRow t 1 (by omega) a) f)
    (hga : ∀ k : Fin 1024, ga (ix2 0 k) = gainA m c k)
    (hgb : ∀ k : Fin 1024, gb (ix2 0 k) = gainB m c k) (r : Fin 512) (j : Fin 2048) :
    View.canon (outPieces arg17 arg18 arg19 arg1 harg1 arg14 harg14 (iblk m c 0 t) (iblk m c 13 t) loA hiA loB hiB ga gb) (ix2 r j)
      = mixed m c (row t r) j := by
  have lo := normPieces_at arg17 arg18 loA loB ga gb _ _ hloA hloB
  have hi := normPieces_at arg17 arg18 hiA hiB ga gb _ _ hhiA hhiB (normPieces arg17 arg18 loA loB ga gb)
  have hw (k j : Fin 2048) : View.readAt (Elt Ideal) arg14.view (Rect.unit (s := S1x2048x2048) ![0, 0, 0] S1x2048x2048.size inb_S1x2048x2048_S1x2048x2048_0_0_0).toLoadRect (harg14.unread (iblk m c 13 t)) (ix3 0 k j)
      = project m c k j :=
    (load_at arg14 harg14 (iblk m c 13 t) ![0, 0, 0] _ _ (ix3 (0 : Fin 1) k j) (ix3 (0 : Fin 1) k j)
      fun b => match b with | ⟨0, _⟩ => rfl | ⟨1, _⟩ => (Nat.zero_add _).symm | ⟨2, _⟩ => (Nat.zero_add _).symm).trans (blk13 m c t k j)
  have P1 := piece_of (n := 512) (k := 2048) (a := 256) (b := 2048) (o := 256) (p := 0) (e := .f32) _
    inb_S512x2048_S256x2048_256_0 (fun r j => mixed m c (row t r) j) fun x y hx hy => by
      refine (outOf_at arg19 (View.readAt (Elt Ideal) arg1.view (Rect.unit (s := S512x2048) ![256, 0] S256x2048.size inb_S512x2048_S256x2048_256_0).toLoadRect (harg1.unread (iblk m c 0 t)))
        (normPieces arg17 arg18 hiA hiB ga gb ++ normPieces arg17 arg18 loA loB ga gb)
        (View.readAt (Elt Ideal) arg14.view (Rect.unit (s := S1x2048x2048) ![0, 0, 0] S1x2048x2048.size inb_S1x2048x2048_S1x2048x2048_0_0_0).toLoadRect (harg14.unread (iblk m c 13 t))) x y).trans ?_
      have ex := (load_at arg1 harg1 (iblk m c 0 t) ![256, 0] S256x2048.size inb_S512x2048_S256x2048_256_0 (ix2 x y) (ix2 ⟨256 + x.val, hx⟩ y)
        fun b => match b with | ⟨0, _⟩ => rfl | ⟨1, _⟩ => (Nat.zero_add _).symm).trans (blk0 m c t _ _)
      have e1 : (⟨0 + y.val, hy⟩ : Fin 2048) = y := Fin.ext (Nat.zero_add _)
      rw [e1]
      unfold mixed
      refine congrArg₂ (fun x y : EReal => x + y) ex (Finset.sum_congr rfl fun k _ => ?_)
      rw [hi, hw]
      simp only [hga, hgb]
      rfl
  have P0 := piece_of (n := 512) (k := 2048) (a := 256) (b := 2048) (o := 0) (p := 0) (e := .f32) _
    inb_S512x2048_S256x2048_0_0 (fun r j => mixed m c (row t r) j) fun x y hx hy => by
      refine (outOf_at arg19 (View.readAt (Elt Ideal) arg1.view (Rect.unit (s := S512x2048) ![0, 0] S256x2048.size inb_S512x2048_S256x2048_0_0).toLoadRect (harg1.unread (iblk m c 0 t)))
        (normPieces arg17 arg18 loA loB ga gb)
        (View.readAt (Elt Ideal) arg14.view (Rect.unit (s := S1x2048x2048) ![0, 0, 0] S1x2048x2048.size inb_S1x2048x2048_S1x2048x2048_0_0_0).toLoadRect (harg14.unread (iblk m c 13 t))) x y).trans ?_
      have ex := (load_at arg1 harg1 (iblk m c 0 t) ![0, 0] S256x2048.size inb_S512x2048_S256x2048_0_0 (ix2 x y) (ix2 ⟨0 + x.val, hx⟩ y)
        fun b => match b with | ⟨0, _⟩ => rfl | ⟨1, _⟩ => (Nat.zero_add _).symm).trans (blk0 m c t _ _)
      have e1 : (⟨0 + y.val, hy⟩ : Fin 2048) = y := Fin.ext (Nat.zero_add _)
      rw [e1]
      unfold mixed
      refine congrArg₂ (fun x y : EReal => x + y) ex (Finset.sum_congr rfl fun k _ => ?_)
      have l := lo [] x k
      rw [List.append_nil] at l
      rw [l, hw]
      simp only [hga, hgb]
      rfl
  refine (congrArg (View.canon · _) (List.append_nil _).symm).trans ?_
  let GG : S512x2048.Idx → Elt Ideal .f32 := fun y => mixed m c (row t (y 0)) (y 1)
  exact View.canon_append_of_piecesOf GG []
    (outPieces arg17 arg18 arg19 arg1 harg1 arg14 harg14 (iblk m c 0 t) (iblk m c 13 t) loA hiA loB hiB ga gb) ⟨P1, P0, trivial⟩ (ix2 r j)
    (View.cover_of_tiledL _ ![256, 2048] (by sl_kernel_rfl) _)

end norms

end Cert.Kernel4Ideal.Mix

end
-- ==== Proof.Mix.Point.lean ====
module

public import proofs.«01_k».proof.Proof.Mix.Half
public import proofs.«01_k».proof.Proof.Mix.Words

/-! What the mixing layer's launch leaves in its result array. -/

@[expose] public section

set_option maxRecDepth 16384

noncomputable section

namespace Cert.Kernel4Ideal.Mix

open Cert.Kernel4Ideal Cert.Kernel4Ideal.Gen Idealize.ShloMosaic Idealize.ShloMosaic.TcCoe Idealize.SL.Sem Cert.Mem

variable (m : (ℓ : Loc nD τ sig) → Buf (Elt Ideal) ℓ) (c : Dev nD)

theorem coord_val : ∀ t : Fin cfg0.N, ((grid0.coords t) 0).val = t.val :=
  (by decide +kernel : ∀ t : Fin grid0.N, ((grid0.coords t) 0).val = t.val)

section stores

variable (t : Fin cfg0.N) (i : grid0.Coords) (hi : (i 0).val = t.val)
  (arg1 : Memref sig .tc .vmem S512x2048 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S512x1024 .bf16) (harg7 : arg7.IsWhole)
  (arg8 : Memref sig .tc .vmem S512x1024 .bf16) (harg8 : arg8.IsWhole)
  (arg10 : Memref sig .tc .vmem S1x8x128x128 .f32) (harg10 : arg10.IsWhole)
  (arg11 : Memref sig .tc .vmem S128x8 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S1x2048x2048 .bf16) (harg14 : arg14.IsWhole)
  (arg17 arg18 : Memref sig .tc .vmem S256x1024 .f32) (arg19 : Memref sig .tc .vmem S256x2048 .bf16)
  (bias : (h r : ℕ) → h < 8 → r < 3 → Vec Ideal S1x256x256 .f32)
  (hb : ∀ h r hh hr (a j : Fin 256), bias h r hh hr (ix3 0 a j) = biasAt m c ⟨h, hh⟩ a ⟨256 * r + j.val, span_lt hr j⟩)

include hi hb

/-- A point's stores, at a row and a column. -/
theorem stores_at (hf : Finite m c) (r : Fin 512) (j : Fin 2048) :
    View.canon (outPieces arg17 arg18 arg19 arg1 harg1 arg14 harg14 (iblk m c 0 t) (iblk m c 13 t)
      (headPieces (headLo i arg2 harg2 arg3 harg3 arg4 harg4 arg5 harg5 arg6 harg6 (iblk m c 1 t) (iblk m c 2 t) (iblk m c 3 t) (iblk m c 4 t) (iblk m c 5 t) bias))
      (headPieces (headHi i arg2 harg2 arg3 harg3 arg4 harg4 arg5 harg5 arg6 harg6 (iblk m c 1 t) (iblk m c 2 t) (iblk m c 3 t) (iblk m c 4 t) (iblk m c 5 t) bias)
        ++ headPieces (headLo i arg2 harg2 arg3 harg3 arg4 harg4 arg5 harg5 arg6 harg6 (iblk m c 1 t) (iblk m c 2 t) (iblk m c 3 t) (iblk m c 4 t) (iblk m c 5 t) bias))
      (gatePieces arg7 harg7 arg8 harg8 arg10 harg10 arg11 harg11 (iblk m c 6 t) (iblk m c 7 t) (iblk m c 9 t) (iblk m c 10 t) 0 (by omega))
      (gatesAll arg7 harg7 arg8 harg8 arg10 harg10 arg11 harg11 (iblk m c 6 t) (iblk m c 7 t) (iblk m c 9 t) (iblk m c 10 t))
      (gainOf arg12 harg12 (iblk m c 11 t)) (gainOf arg13 harg13 (iblk m c 12 t))) (ix2 r j) = mixed m c (row t r) j := by
  refine outPieces_at m c arg17 arg18 arg19 t arg1 harg1 arg14 harg14 _ _ _ _ _ _ (fun a f => ?_) (fun a f => ?_) (fun a f => ?_) (fun a f => ?_)
    (fun k => ?_) (fun k => ?_) r j
  · have e := headPieces_at _ (fun a f => Cert.Mix.attended (zAt m c) (table m c) (qRow t 0 (by omega) a) f)
      (fun h hh a x => headLo_at m c t i hi arg2 harg2 arg3 harg3 arg4 harg4 arg5 harg5 arg6 harg6 bias hb hf h hh a x) [] a f
    rwa [List.append_nil] at e
  · exact headPieces_at _ (fun a f => Cert.Mix.attended (zAt m c) (table m c) (qRow t 1 (by omega) a) f)
      (fun h hh a x => headHi_at m c t i hi arg2 harg2 arg3 harg3 arg4 harg4 arg5 harg5 arg6 harg6 bias hb hf h hh a x) _ a f
  · have e := gatePieces_at m c t arg7 harg7 arg8 harg8 arg10 harg10 arg11 harg11 0 (by omega) [] a f
    rwa [List.append_nil] at e
  · exact gatePieces_at m c t arg7 harg7 arg8 harg8 arg10 harg10 arg11 harg11 1 (by omega) _ a f
  · exact (gain_at arg12 harg12 _ k).trans (blk11 m c t k)
  · exact (gain_at arg13 harg13 _ k).trans (blk12 m c t k)

end stores

/-- The bias carried between the points. -/
theorem carried (n : ℕ) (hn : n < cfg0.N) : ∀ h r w, (outsAt0 m c n hn).2 (ix3 h r w) = biasAt m c h r w := by
  have first (t : Fin cfg0.N) (h0 : t.val % 32 = 0) (h : Fin 8) (r : Fin 256) (w : Fin 768) :
      (outsAt0 m c t.val t.isLt).2 (ix3 h r w) = biasAt m c h r w := by
    refine (congrArg (fun p => p.2 (ix3 h r w)) (outsAt0_A m c t h0)).trans ?_
    dsimp only
    unfold sout0_A_0
    rw [View.read_writes_junk_eq_canon]
    have e := biasesA c (ms0_8 t) (hs0_8 t) (iblk m c 8 t)
    exact (congrArg (fun L => View.canon L (ix3 h r w)) e).trans
      (biasPieces_at m c (ms0_8 t) (hs0_8 t) (iblk m c 8 t) (fun h e => blk8 m c t h e) h r w)
  induction n with
  | zero => exact first ⟨0, hn⟩ rfl
  | succ n ih =>
    intro h r w
    by_cases h0 : (n + 1) % 32 = 0
    · exact first ⟨n + 1, hn⟩ h0 h r w
    · have e := congrArg (fun p => p.2 (ix3 h r w)) (outsAt0_B m c ⟨n + 1, hn⟩ h0)
      dsimp only at e
      unfold sout0_B_0 at e
      exact e.trans (ih _ h r w)

/-- What a point leaves in its block of the result. -/
theorem point (hf : Finite m c) (t : Fin cfg0.N) (r : Fin 512) (j : Fin 2048) :
    (outsAt0 m c t.val t.isLt).1 (ix2 r j) = mixed m c (row t r) j := by
  by_cases h0 : t.val % 32 = 0
  · refine (congrArg (fun p => p.1 (ix2 r j)) (outsAt0_A m c t h0)).trans ?_
    dsimp only
    unfold out0_A_14
    rw [View.read_writes_junk_eq_canon, outA]
    exact stores_at m c t _ (coord_val t) _ _ _ _ _ _ _ _ _ _ _ _ _ _ _ _ _ _ _ _ _ _ _ _ _ _ _ _ _ _
      (fun h r hh hr a j => biasA_at m c (ms0_8 t) (hs0_8 t) (iblk m c 8 t) (fun h e => blk8 m c t h e) scM0_0 h r hh hr a j) hf r j
  · refine (congrArg (fun p => p.1 (ix2 r j)) (outsAt0_B m c t h0)).trans ?_
    dsimp only
    unfold out0_B_14
    rw [View.read_writes_junk_eq_canon, outB]
    exact stores_at m c t _ (coord_val t) _ _ _ _ _ _ _ _ _ _ _ _ _ _ _ _ _ _ _ _ _ _ _ _ _ _ _ _ _ _
      (fun h r hh hr a j => biasB_at m c scM0_0 (Memref.isWhole_whole _) _ (carried m c _ _) h r hh hr a j) hf r j

/-- The result array. -/
def result : Vec Ideal S16384x2048 .f32 := fun i => mixed m c (i 0) (i 1)

theorem array_eq (hf : Finite m c) : (dats m 0 c).arrAt 14 cfg0.N = (result m c : Vec Ideal S16384x2048 .f32) := by
  refine (dats m 0 c).arrAt_eq_of_covers 14 _ (by decide +kernel) fun t _ y => ?_
  blk_simp
  rw [after0_14]
  idx_vars y
  refine (point m c hf t y0 y1).trans ?_
  have e : ((View.whole main_v18).slice (win0_14.rect t)).emb (ix2 y0 y1) = ix2 (row t y0) y1 := by
    blk_ext [idx t, row]
  rw [e]
  rfl

end Cert.Kernel4Ideal.Mix

end
-- ==== Proof.Mix.Finite.lean ====
module

public import proofs.«01_k».proof.Defs
public import proofs.«01_k».proof.Proof.Gen.Pre_finite4
public import proofs.«01_k».proof.Proof.Mix.Window
public import Idealize.ShloMosaic.Lib.ReduceAll

/-! What the precondition gives: the queries', the keys' and the table's entries are real. -/

@[expose] public section

set_option maxRecDepth 16384

noncomputable section

namespace Cert.Kernel4Ideal.Mix

open Cert.Kernel4Ideal Cert.Mem Idealize.ShloMosaic Idealize.ShloMosaic.TcCoe Idealize.SL.Sem

/-- An extended real whose absolute value is below infinity is real. -/
theorem isReal_of_abs {x : EReal} (h : max x (-x) < ⊤) : IsReal x := by
  obtain ⟨h1, h2⟩ := max_lt_iff.1 h
  refine ⟨x.toReal, (EReal.coe_toReal h1.ne fun e => ?_).symm⟩
  rw [e] at h2
  exact absurd h2 (by simp)

/-- The precondition's test: every element's absolute value is below infinity. -/
def below {s : Shape} {axes : List (Fin s.rank)} (x : FVec Ideal s .f32)
    (hb : Cert.Pre_finite4.S_.BroadcastsInDim s (![] : Fin 0 → Fin s.rank)) (hr : s.ReducesTo axes Cert.Pre_finite4.S_)
    (hu : 0 < Cert.Pre_finite4.S_.numel) : IVec Cert.Pre_finite4.S_ 1 :=
  Host.reduce IntOp.andi (cmpf .olt (Host.absf x)
      (broadcastInDim s ![] hb (constant (F := Ideal) Cert.Pre_finite4.S_ .f32 0x7F800000#32)))
    (constantI Cert.Pre_finite4.S_ 1 1#1) hr hu

/-- An array that passes holds reals only. -/
theorem real_of {s : Shape} {axes : List (Fin s.rank)} {x : FVec Ideal s .f32}
    {hb : Cert.Pre_finite4.S_.BroadcastsInDim s (![] : Fin 0 → Fin s.rank)} {hr : s.ReducesTo axes Cert.Pre_finite4.S_}
    {hu : 0 < Cert.Pre_finite4.S_.numel} (e : below x hb hr hu = fun _ => 1#1) (i : s.Idx) : IsReal (x i) := by
  have h := Host.reduce_andi_all _ _ hr hu (Shape.Idx.first hu) (congrFun e _) i
  have h2 : max (x i : EReal) (-(x i : EReal)) < Ideal.ofBits .f32 0x7F800000#32 := (Ideal.cmp_olt_eq_one _ _).1 h
  rw [show Ideal.ofBits .f32 0x7F800000#32 = (⊤ : EReal) by simp [Ideal.ofBits, Ideal.ieee]] at h2
  exact isReal_of_abs h2

/-- The queries and the keys, as the precondition takes them. -/
def heads (z : FVec Ideal Cert.Pre_finite4.S16384x5120 .bf16) : FVec Ideal Cert.Pre_finite4.S16384x2048 .f32 :=
  extf .f32 (extractStridedSlice Cert.Pre_finite4.S16384x2048 ![0, 0] z Cert.Pre_finite4.Facts.slices_S16384x5120_S16384x2048_0_0)
    Cert.Pre_finite4.Facts.bitsLt_bf16_f32

theorem heads_at (z : FVec Ideal Cert.Pre_finite4.S16384x5120 .bf16) (R : Fin 16384) (f : Fin 2048) :
    heads z (ix2 R f) = z (ix2 R ⟨f.val, by omega⟩) := by
  pointwise [heads]

/-- The layer's table, as the precondition takes it. -/
def places (t : FVec Ideal Cert.Pre_finite4.S2x8x513 .f32) : FVec Ideal Cert.Pre_finite4.S8x513 .f32 :=
  shapeCast Cert.Pre_finite4.S8x513 (extractStridedSlice Cert.Pre_finite4.S1x8x513 ![1, 0, 0] t Cert.Pre_finite4.Facts.slices_S2x8x513_S1x8x513_1_0_0)
    Cert.Pre_finite4.Facts.shapeCasts_S1x8x513_S8x513

theorem places_at (t : FVec Ideal Cert.Pre_finite4.S2x8x513 .f32) (h : Fin 8) (e : Fin 513) : places t (ix2 h e) = t (ix3 1 h e) := by
  pointwise [places]

variable (m : (ℓ : Loc nD τ sig) → Buf (Elt Ideal) ℓ) (c : Dev nD)

/-- The precondition's first test. -/
theorem test_heads (a0 a1 a2 a3 a4 a5 a6 a7) : (Cert.Pre_finite4.fn (F := Ideal) a0 a1 a2 a3 a4 a5 a6 a7).1
    = below (heads a1) Cert.Pre_finite4.Facts.bcast_S_S16384x2048 Cert.Pre_finite4.Facts.reducesTo_S16384x2048_S_d0_1 Cert.Pre_finite4.Facts.h_S_ := by
  unfold Cert.Pre_finite4.fn below heads
  dsimp only

/-- The precondition's second test. -/
theorem test_places (a0 a1 a2 a3 a4 a5 a6 a7) : (Cert.Pre_finite4.fn (F := Ideal) a0 a1 a2 a3 a4 a5 a6 a7).2
    = below (places a2) Cert.Pre_finite4.Facts.bcast_S_S8x513 Cert.Pre_finite4.Facts.reducesTo_S8x513_S_d0_1 Cert.Pre_finite4.Facts.h_S_ := by
  unfold Cert.Pre_finite4.fn below places
  dsimp only

theorem finite (h : Cert.Pre_Kernel4Ideal_finite4 m) : Finite m c := by
  refine ⟨fun R f hf => ?_, fun n e => ?_⟩
  · have r := real_of ((test_heads _ _ _ _ _ _ _ _).symm.trans (h c).1) (ix2 R (⟨f.val, hf⟩ : Fin 2048))
    rwa [heads_at] at r
  · have r := real_of ((test_places _ _ _ _ _ _ _ _).symm.trans (h c).2) (ix2 n e)
    rwa [places_at] at r

end Cert.Kernel4Ideal.Mix

end
-- ==== Proof.Mix.Reference.lean ====
module

public import proofs.«01_k».proof.Proof.Gen.Reference4Ideal.Run
public import proofs.«01_k».proof.Proof.Mix.Terms

/-! The reference's mixing layer, stage by stage, each read at an index. -/

@[expose] public section

set_option maxRecDepth 16384

noncomputable section

namespace Cert.Reference4Ideal.Mix

open Cert.Reference4Ideal Cert.Reference4Ideal.Gen Cert.Reference4Ideal.Value Idealize.ShloMosaic Idealize.ShloMosaic.TcCoe Idealize.SL.Sem

variable (V : Valuation τ sig (Elt Ideal))

/-- The arguments, as the layer takes them. -/
def zOf (R : Fin 16384) (f : Fin 5120) : EReal := V (Proc.devRef .tc main_arg1) (ix2 R f)
def tableOf (h : Fin 8) (e : Fin 513) : EReal := V (Proc.devRef .tc main_arg2) (ix3 1 h e)

theorem z_at (R : Fin 16384) (f : Fin 5120) : res_main_v1 V (ix3 0 R f) = zOf V R f := by
  pointwise [res_main_v1, zOf]

/-- The chunk of the padded array that a band's block is. -/
def chunkIdx : IVec S256x9x1 32 :=
  broadcastInDim S256x9x1 ![0, 1] bcast_S256x9_S256x9x1_0_1 (select (cmpi .slt (res_main_v23 V) (broadcastInDim S256x9 ![] bcast_S_S256x9 (constantI S_ 32 0#32))) (addi (res_main_v23 V) (broadcastInDim S256x9 ![] bcast_S_S256x9 (constantI S_ 32 264#32))) (res_main_v23 V))

theorem chunk_at (c : Fin 256) (a : Fin 9) : res_main_v23 V (ix2 c a) = BitVec.ofNat 32 (c.val + a.val) := by
  pointwise [res_main_v23]
  exact (BitVec.ofNat_add _ _).symm

theorem chunkIdx_at (c : Fin 256) (a : Fin 9) : min (chunkIdx V (ix3 c a 0)).toInt.toNat 263 = c.val + a.val := by
  have h : ∀ n : Fin 264, min (Scalar.select (IntOp.cmpi .slt (BitVec.ofNat 32 n.val) 0#32) (IntOp.addi (BitVec.ofNat 32 n.val) 264#32)
      (BitVec.ofNat 32 n.val)).toInt.toNat 263 = n.val := by decide +kernel
  pointwise [chunkIdx, chunk_at]
  exact h ⟨c.val + a.val, by omega⟩

/-- On an axis that no start index moves, a gather reads the result's own coordinate. -/
theorem off_axis {s si t : Shape} (d : GatherDims s si t) {w : ℕ} (y : t.Idx) (idx : IVec si w) (a : Fin s.rank)
    (h1 : a ∉ d.startIndexMap) (h2 : a ∉ d.operandBatchingDims) : d.start y idx a + d.batchCoord y a + d.offCoord y a = d.offCoord y a := by
  unfold GatherDims.start
  rw [dif_neg h1, GatherDims.batchCoord_eq_zero _ _ _ h2]
  omega

/-- On a collapsed axis that a start index names, a gather reads there. -/
theorem map_axis {s si t : Shape} (d : GatherDims s si t) {w : ℕ} (y : t.Idx) (idx : IVec si w) (a : Fin s.rank)
    (h1 : a ∈ d.startIndexMap) (h2 : a ∉ d.operandBatchingDims) (h3 : a ∉ d.sKept) : d.start y idx a + d.batchCoord y a + d.offCoord y a
      = min (idx (d.siIdx y ⟨d.startIndexMap.idxOf a, List.idxOf_lt_length_iff.2 h1⟩)).toInt.toNat (s.size a - d.sliceSizes a) := by
  unfold GatherDims.start
  rw [dif_pos h1, GatherDims.batchCoord_eq_zero _ _ _ h2, GatherDims.offCoord_eq_zero _ _ _ h3]
  rfl

theorem gather_chunks (x : FVec Ideal S1x264x64x8x128 .f32) (i : IVec S256x9x1 32) (c : Fin 256) (j : Fin 576) (h : Fin 8) (d : Fin 128) :
    shapeCast S1x256x576x8x128 (Host.gather gather_S1x264x64x8x128_S256x9x1_S1x256x9x64x8x128_0345_1_n_n_1_2_11648128 x i)
      shapeCasts_S1x256x9x64x8x128_S1x256x576x8x128 (ix5 0 c j h d)
      = x (ix5 0 ⟨min (i (ix3 c ⟨j.val / 64, by omega⟩ 0)).toInt.toNat 263, by omega⟩ ⟨j.val % 64, by omega⟩ h d) := by
  pointwise
  unfold Host.gather
  congr 1
  funext a
  refine Fin.ext ?_
  show GatherDims.start _ _ i a + GatherDims.batchCoord _ _ a + GatherDims.offCoord _ _ a = _
  have ha : a = 0 ∨ a = 1 ∨ a = 2 ∨ a = 3 ∨ a = 4 := by
    match a with
    | ⟨0, _⟩ => exact .inl rfl
    | ⟨1, _⟩ => exact .inr (.inl rfl)
    | ⟨2, _⟩ => exact .inr (.inr (.inl rfl))
    | ⟨3, _⟩ => exact .inr (.inr (.inr (.inl rfl)))
    | ⟨4, _⟩ => exact .inr (.inr (.inr (.inr rfl)))
  rcases ha with rfl | rfl | rfl | rfl | rfl
  · rw [off_axis _ _ _ _ (by decide +kernel) (by decide +kernel)]
    unfold GatherDims.offCoord; rw [dif_pos (by decide +kernel)]; rfl
  · rw [map_axis _ _ _ _ (by decide +kernel) (by decide +kernel) (by decide +kernel)]
    refine congrArg (fun q => min (i q).toInt.toNat 263) ?_
    funext b
    match b with
    | ⟨0, _⟩ => rfl
    | ⟨1, _⟩ => rfl
    | ⟨2, _⟩ => rfl
  · rw [off_axis _ _ _ _ (by decide +kernel) (by decide +kernel)]
    unfold GatherDims.offCoord; rw [dif_pos (by decide +kernel)]; rfl
  · rw [off_axis _ _ _ _ (by decide +kernel) (by decide +kernel)]
    unfold GatherDims.offCoord; rw [dif_pos (by decide +kernel)]; rfl
  · rw [off_axis _ _ _ _ (by decide +kernel) (by decide +kernel)]
    unfold GatherDims.offCoord; rw [dif_pos (by decide +kernel)]; rfl

/-- The place in the table that a pair of positions takes. -/
def placeIdx : IVec S64x576x1 32 :=
  broadcastInDim S64x576x1 ![0, 1] bcast_S64x576_S64x576x1_0_1 (select (cmpi .slt (res_main_v52 V) (broadcastInDim S64x576 ![] bcast_S_S64x576 (constantI S_ 32 0#32))) (addi (res_main_v52 V) (broadcastInDim S64x576 ![] bcast_S_S64x576 (constantI S_ 32 513#32))) (res_main_v52 V))

theorem placeIdx_at (r : Fin 64) (j : Fin 576) : min (placeIdx V (ix3 r j 0)).toInt.toNat 512 = min 512 (768 + r.val - j.val) := by
  have e : IntOp.subi (IntOp.addi 512#32 (BitVec.ofNat 32 r.val)) (BitVec.ofNat 32 j.val)
      = IntOp.subi (BitVec.ofNat 32 (r.val + 575 - j.val)) 63#32 := by
    show 512#32 + BitVec.ofNat 32 r.val - BitVec.ofNat 32 j.val = BitVec.ofNat 32 (r.val + 575 - j.val) - 63#32
    apply BitVec.eq_of_toNat_eq
    simp only [BitVec.toNat_sub, BitVec.toNat_add, BitVec.toNat_ofNat]
    omega
  have h : ∀ n : Fin 640, min (Scalar.select
      (IntOp.cmpi .slt (IntOp.addi (IntOp.minsi 256#32 (IntOp.maxsi 4294967040#32 (IntOp.subi (BitVec.ofNat 32 n.val) 63#32))) 256#32) 0#32)
      (IntOp.addi (IntOp.addi (IntOp.minsi 256#32 (IntOp.maxsi 4294967040#32 (IntOp.subi (BitVec.ofNat 32 n.val) 63#32))) 256#32) 513#32)
      (IntOp.addi (IntOp.minsi 256#32 (IntOp.maxsi 4294967040#32 (IntOp.subi (BitVec.ofNat 32 n.val) 63#32))) 256#32)).toInt.toNat 512
      = min 512 (193 + n.val) := by decide +kernel
  pointwise [placeIdx, res_main_v52]
  rw [e]
  refine (h ⟨r.val + 575 - j.val, by omega⟩).trans ?_
  show min 512 (193 + (r.val + 575 - j.val)) = _
  omega

theorem gather_places (x : FVec Ideal S8x513 .f32) (i : IVec S64x576x1 32) (h : Fin 8) (r : Fin 64) (j : Fin 576) :
    Host.gather gather_S8x513_S64x576x1_S8x64x576_0_1_n_n_1_2_81 x i (ix3 h r j)
      = x (ix2 h ⟨min (i (ix3 r j 0)).toInt.toNat 512, by omega⟩) := by
  unfold Host.gather
  congr 1
  funext a
  refine Fin.ext ?_
  show GatherDims.start _ _ i a + GatherDims.batchCoord _ _ a + GatherDims.offCoord _ _ a = _
  have ha : a = 0 ∨ a = 1 := by
    match a with
    | ⟨0, _⟩ => exact .inl rfl
    | ⟨1, _⟩ => exact .inr rfl
  rcases ha with rfl | rfl
  · rw [off_axis _ _ _ _ (by decide +kernel) (by decide +kernel)]
    unfold GatherDims.offCoord; rw [dif_pos (by decide +kernel)]; rfl
  · rw [map_axis _ _ _ _ (by decide +kernel) (by decide +kernel) (by decide +kernel)]
    refine congrArg (fun q => min (i q).toInt.toNat 512) ?_
    funext b
    match b with
    | ⟨0, _⟩ => rfl
    | ⟨1, _⟩ => rfl
    | ⟨2, _⟩ => rfl

theorem max_last {a b c d e : ℕ} (v : FVec Ideal ⟨5, ![a, b, c, d, e]⟩ .f32) (z : FVec Ideal ⟨0, ![]⟩ .f32)
    (h : (⟨5, ![a, b, c, d, e]⟩ : Shape).ReducesTo [4] ⟨4, ![a, b, c, d]⟩) (hu : 0 < (⟨0, ![]⟩ : Shape).numel) (i : Fin a) (j : Fin b) (k : Fin c) (p : Fin d) :
    Host.reduce FloatOps.maximumf v z h hu (ix4 i j k p) = Finset.univ.fold max (z (Shape.Idx.first hu)) fun l => v (ix5 i j k p l) := by
  simp only [pointwise]

theorem valid_at (c : Fin 256) (a : Fin 9) : cmpi .sge (res_main_v23 V) (broadcastInDim S256x9 ![] bcast_S_S256x9 (constantI S_ 32 8#32)) (ix2 c a)
    = if 8 ≤ c.val + a.val then 1#1 else 0#1 := by
  have h : ∀ n : Fin 264, IntOp.cmpi .sge (BitVec.ofNat 32 n.val) 8#32 = if 8 ≤ n.val then 1#1 else 0#1 := by decide +kernel
  pointwise [chunk_at]
  exact h ⟨c.val + a.val, by omega⟩

/-- The padded keys, or values, from a column on. -/
theorem padded_at (o : ℕ) (ho : o + 1024 ≤ 5120) (hs : S1x16384x5120.Slices ![0, 0, o] S1x16384x1024) (c : Fin 264) (p : Fin 64) (h : Fin 8) (d : Fin 128)
    (hc : 8 ≤ c.val) :
    pad S1x264x64x8x128 ![0, 8, 0, 0, 0] ![0, 0, 0, 0, 0] ![0, 0, 0, 0, 0] (shapeCast S1x256x64x8x128 (shapeCast S1x16384x8x128 (extractStridedSlice S1x16384x1024 ![0, 0, o] (res_main_v1 V) hs) shapeCasts_S1x16384x1024_S1x16384x8x128) shapeCasts_S1x16384x8x128_S1x256x64x8x128) (sitofp (F := Ideal) .f32 (constantI S_ 32 0#32)) pads_S1x256x64x8x128_S1x264x64x8x128_000_800_000_000_000 h_S_ (ix5 0 c p h d)
      = zOf V ⟨64 * (c.val - 8) + p.val, by omega⟩ ⟨o + 128 * h.val + d.val, by omega⟩ := by
  pointwise [z_at]
  rw [dif_pos ⟨hc, by omega⟩]
  congr 1
  · apply Fin.ext
    show (c.val - 8) * 64 + p.val = 64 * (c.val - 8) + p.val
    omega
  · apply Fin.ext
    show o + (h.val * 128 + d.val) = o + 128 * h.val + d.val
    omega

/-- The banded keys, and the banded values. -/
def keys : FVec Ideal S1x256x576x8x128 .f32 :=
  shapeCast _ (Host.gather gather_S1x264x64x8x128_S256x9x1_S1x256x9x64x8x128_0345_1_n_n_1_2_11648128
    (pad S1x264x64x8x128 ![0, 8, 0, 0, 0] ![0, 0, 0, 0, 0] ![0, 0, 0, 0, 0] (shapeCast _ (shapeCast _ (extractStridedSlice S1x16384x1024 ![0, 0, 1024] (res_main_v1 V) slices_S1x16384x5120_S1x16384x1024_0_0_1024) shapeCasts_S1x16384x1024_S1x16384x8x128) shapeCasts_S1x16384x8x128_S1x256x64x8x128) (sitofp (F := Ideal) .f32 (constantI S_ 32 0#32)) pads_S1x256x64x8x128_S1x264x64x8x128_000_800_000_000_000 h_S_) (chunkIdx V)) shapeCasts_S1x256x9x64x8x128_S1x256x576x8x128

def vals : FVec Ideal S1x256x576x8x128 .f32 :=
  shapeCast _ (Host.gather gather_S1x264x64x8x128_S256x9x1_S1x256x9x64x8x128_0345_1_n_n_1_2_11648128
    (pad S1x264x64x8x128 ![0, 8, 0, 0, 0] ![0, 0, 0, 0, 0] ![0, 0, 0, 0, 0] (shapeCast _ (shapeCast _ (extractStridedSlice S1x16384x1024 ![0, 0, 2048] (res_main_v1 V) slices_S1x16384x5120_S1x16384x1024_0_0_2048) shapeCasts_S1x16384x1024_S1x16384x8x128) shapeCasts_S1x16384x8x128_S1x256x64x8x128) (sitofp (F := Ideal) .f32 (constantI S_ 32 0#32)) pads_S1x256x64x8x128_S1x264x64x8x128_000_800_000_000_000 h_S_) (chunkIdx V)) shapeCasts_S1x256x9x64x8x128_S1x256x576x8x128

def queries : FVec Ideal S1x256x64x8x128 .f32 :=
  shapeCast _ (shapeCast _ (extractStridedSlice S1x16384x1024 ![0, 0, 0] (res_main_v1 V) slices_S1x16384x5120_S1x16384x1024_0_0_0) shapeCasts_S1x16384x1024_S1x16384x8x128) shapeCasts_S1x16384x8x128_S1x256x64x8x128

def places : FVec Ideal S8x64x576 .f32 :=
  Host.gather gather_S8x513_S64x576x1_S8x64x576_0_1_n_n_1_2_81 (shapeCast _ (extractStridedSlice S1x8x513 ![1, 0, 0] (V (Proc.devRef .tc main_arg2)) slices_S2x8x513_S1x8x513_1_0_0) shapeCasts_S1x8x513_S8x513) (placeIdx V)

def valid : IVec S256x576 1 :=
  shapeCast _ (broadcastInDim S256x9x64 ![0, 1] bcast_S256x9_S256x9x64_0_1 (cmpi .sge (res_main_v23 V) (broadcastInDim S256x9 ![] bcast_S_S256x9 (constantI S_ 32 8#32)))) shapeCasts_S256x9x64_S256x576

theorem masked_eq : res_main_v68 V
    = select (broadcastInDim S1x256x8x64x576 ![0, 1, 2, 3, 4] bcast_S1x256x1x1x576_S1x256x8x64x576_0_1_2_3_4 (broadcastInDim S1x256x1x1x576 ![1, 4] bcast_S256x576_S1x256x1x1x576_1_4 (valid V)))
      (addf (Host.dotGeneral dot_S1x256x64x8x128_S1x256x576x8x128_S1x256x8x64x576_4_4_2_2_013_013 none (queries V) (keys V))
        (broadcastInDim S1x256x8x64x576 ![0, 1, 2, 3, 4] bcast_S1x1x8x64x576_S1x256x8x64x576_0_1_2_3_4 (broadcastInDim S1x1x8x64x576 ![2, 3, 4] bcast_S8x64x576_S1x1x8x64x576_2_3_4 (places V))))
      (broadcastInDim S1x256x8x64x576 ![] bcast_S_S1x256x8x64x576 (id (constant S_ .f32 0xFF800000#32))) := rfl

theorem valid_at' (c : Fin 256) (j : Fin 576) : valid V (ix2 c j) = if 8 ≤ c.val + j.val / 64 then 1#1 else 0#1 := by
  unfold valid
  have e := valid_at V c ⟨j.val / 64, by omega⟩
  pointwise
  exact e

theorem places_at (h : Fin 8) (r : Fin 64) (j : Fin 576) :
    places V (ix3 h r j) = tableOf V h ⟨min 512 (768 + r.val - j.val), by omega⟩ := by
  unfold places tableOf
  rw [gather_places]
  simp only [placeIdx_at]
  pointwise

theorem queries_at (c : Fin 256) (r : Fin 64) (h : Fin 8) (d : Fin 128) :
    queries V (ix5 0 c r h d) = zOf V ⟨64 * c.val + r.val, by omega⟩ ⟨128 * h.val + d.val, by omega⟩ := by
  unfold queries
  pointwise [z_at]
  congr 1
  · apply Fin.ext
    show c.val * 64 + r.val = 64 * c.val + r.val
    omega
  · apply Fin.ext
    show h.val * 128 + d.val = 128 * h.val + d.val
    omega

theorem keys_at (c : Fin 256) (j : Fin 576) (h : Fin 8) (d : Fin 128) (hc : 512 ≤ 64 * c.val + j.val) :
    keys V (ix5 0 c j h d) = zOf V ⟨64 * c.val + j.val - 512, by omega⟩ ⟨1024 + 128 * h.val + d.val, by omega⟩ := by
  unfold keys
  rw [gather_chunks]
  have e := chunkIdx_at V c ⟨j.val / 64, by omega⟩
  rw [padded_at V 1024 (by omega) _ _ _ h d (by show 8 ≤ min _ _; rw [e]; show 8 ≤ c.val + j.val / 64; omega)]
  congr 1
  apply Fin.ext
  show 64 * (min _ _ - 8) + j.val % 64 = _
  rw [e]
  show 64 * (c.val + j.val / 64 - 8) + j.val % 64 = 64 * c.val + j.val - 512
  omega

theorem vals_at (c : Fin 256) (j : Fin 576) (h : Fin 8) (d : Fin 128) (hc : 512 ≤ 64 * c.val + j.val) :
    vals V (ix5 0 c j h d) = zOf V ⟨64 * c.val + j.val - 512, by omega⟩ ⟨2048 + 128 * h.val + d.val, by omega⟩ := by
  unfold vals
  rw [gather_chunks]
  have e := chunkIdx_at V c ⟨j.val / 64, by omega⟩
  rw [padded_at V 2048 (by omega) _ _ _ h d (by show 8 ≤ min _ _; rw [e]; show 8 ≤ c.val + j.val / 64; omega)]
  congr 1
  apply Fin.ext
  show 64 * (min _ _ - 8) + j.val % 64 = _
  rw [e]
  show 64 * (c.val + j.val / 64 - 8) + j.val % 64 = 64 * c.val + j.val - 512
  omega

theorem low_eq : Ideal.ofBits .f32 4286578688#32 = (⊥ : EReal) := Cert.Mem.bot_eq

end Cert.Reference4Ideal.Mix

end
-- ==== Proof.Mix.RefMask.lean ====
module

public import proofs.«01_k».proof.Proof.Mix.Reference

/-! The reference's masked scores. -/

@[expose] public section

set_option maxRecDepth 16384

noncomputable section

namespace Cert.Reference4Ideal.Mix

open Cert.Reference4Ideal Cert.Reference4Ideal.Gen Cert.Reference4Ideal.Value Idealize.ShloMosaic Idealize.ShloMosaic.TcCoe Idealize.SL.Sem

variable (V : Valuation τ sig (Elt Ideal))

theorem masked_at (c : Fin 256) (h : Fin 8) (r : Fin 64) (j : Fin 576) :
    res_main_v68 V (ix5 0 c h r j) = Cert.Mix.band (zOf V) (tableOf V) h ⟨64 * c.val + r.val, by omega⟩ j := by
  rw [masked_eq]
  unfold Cert.Mix.band
  pointwise [valid_at', queries_at, places_at]
  by_cases hj : 512 ≤ 64 * ((64 * c.val + r.val) / 64) + j.val
  · have hc : 512 ≤ 64 * c.val + j.val := by omega
    rw [dif_pos hj, if_pos (by omega)]
    refine (if_pos rfl).trans ?_
    unfold Cert.Mix.score
    refine congrArg₂ (fun x y : EReal => x + y) (Finset.sum_congr rfl fun d _ => ?_) ?_
    · rw [keys_at V c j h d hc]
      exact congrArg (fun P => _ * zOf V P _) (Fin.ext (by show 64 * c.val + j.val - 512 = 64 * ((64 * c.val + r.val) / 64) + j.val - 512; omega))
    · exact congrArg (tableOf V h) (Fin.ext (by
        show min 512 (768 + r.val - j.val) = min 512 (256 + (64 * c.val + r.val) - (64 * ((64 * c.val + r.val) / 64) + j.val - 512)); omega))
  · rw [dif_neg hj, if_neg (by omega)]
    exact (if_neg (by decide)).trans low_eq

end Cert.Reference4Ideal.Mix

end
-- ==== Proof.Mix.RefExp.lean ====
module

public import proofs.«01_k».proof.Proof.Mix.Reference

/-! The reference's exponentials. -/

@[expose] public section

set_option maxRecDepth 16384

noncomputable section

namespace Cert.Reference4Ideal.Mix

open Cert.Reference4Ideal Cert.Reference4Ideal.Gen Cert.Reference4Ideal.Value Idealize.ShloMosaic Idealize.ShloMosaic.TcCoe Idealize.SL.Sem

variable (V : Valuation τ sig (Elt Ideal))

/-- The largest of a row's scores. -/
def tops : FVec Ideal S1x256x8x64 .f32 :=
  maximumf (broadcastInDim S1x256x8x64 ![] bcast_S_S1x256x8x64 (constant S_ .f32 0xFF800000#32)) (Host.reduce FloatOps.maximumf (res_main_v68 V) (constant S_ .f32 0xFF800000#32) reducesTo_S1x256x8x64x576_S1x256x8x64_d4 h_S_)

theorem larger_at {S : Shape} (x y : FVec Ideal S .f32) (j : S.Idx) : maximumf x y j = max (x j) (y j) := rfl

theorem top_eq (f : Fin 576 → EReal) :
    max (Ideal.ofBits .f32 4286578688#32) (Finset.univ.fold max (Ideal.ofBits .f32 4286578688#32) f) = Cert.Mix.topOf f := by
  rw [low_eq, bot_sup_eq]
  rfl

theorem tops_at (c : Fin 256) (h : Fin 8) (r : Fin 64) : tops V (ix4 0 c h r) = Cert.Mix.topOf fun j => res_main_v68 V (ix5 0 c h r j) := by
  unfold tops
  exact (larger_at _ _ _).trans ((congrArg (max _) (max_last (res_main_v68 V) _ _ _ 0 c h r)).trans (top_eq _))

theorem exps_eq : res_main_v75 V = Host.exp (subf (res_main_v68 V) (broadcastInDim S1x256x8x64x576 ![0, 1, 2, 3, 4] bcast_S1x256x8x64x1_S1x256x8x64x576_0_1_2_3_4 (broadcastInDim S1x256x8x64x1 ![0, 1, 2, 3] bcast_S1x256x8x64_S1x256x8x64x1_0_1_2_3 (tops V)))) := rfl

theorem exps_at (hm : ∀ (c : Fin 256) (h : Fin 8) (r : Fin 64) (j : Fin 576), res_main_v68 V (ix5 0 c h r j) = Cert.Mix.band (zOf V) (tableOf V) h ⟨64 * c.val + r.val, by omega⟩ j)
    (c : Fin 256) (h : Fin 8) (r : Fin 64) (j : Fin 576) :
    res_main_v75 V (ix5 0 c h r j) = Ideal.exp (Cert.Mix.band (zOf V) (tableOf V) h ⟨64 * c.val + r.val, by omega⟩ j
      - Cert.Mix.topOf (Cert.Mix.band (zOf V) (tableOf V) h ⟨64 * c.val + r.val, by omega⟩)) := by
  rw [exps_eq]
  pointwise [tops_at, hm]

end Cert.Reference4Ideal.Mix

end
-- ==== Proof.Mix.RefAtt.lean ====
module

public import proofs.«01_k».proof.Proof.Mix.Reference

/-! The reference's attended columns. -/

@[expose] public section

set_option maxRecDepth 16384

noncomputable section

namespace Cert.Reference4Ideal.Mix

open Cert.Reference4Ideal Cert.Reference4Ideal.Gen Cert.Reference4Ideal.Value Idealize.ShloMosaic Idealize.ShloMosaic.TcCoe Idealize.SL.Sem

variable (V : Valuation τ sig (Elt Ideal))

theorem attended_eq : res_main_v82 V
    = shapeCast _ (transpose S1x256x64x8x128 [0, 1, 4, 2, 3] (Host.dotGeneral dot_S1x256x576x8x128_S1x256x8x64x576_S1x256x8x128x64_2_4_4_3_013_012 none (vals V) (Host.divf (res_main_v75 V) (broadcastInDim S1x256x8x64x576 ![0, 1, 2, 3, 4] bcast_S1x256x8x64x1_S1x256x8x64x576_0_1_2_3_4 (broadcastInDim S1x256x8x64x1 ![0, 1, 2, 3] bcast_S1x256x8x64_S1x256x8x64x1_0_1_2_3 (Host.reduceAdd (res_main_v75 V) (constant S_ .f32 0x00000000#32) reducesTo_S1x256x8x64x576_S1x256x8x64_d4 h_S_))))) transposes_S1x256x8x128x64_S1x256x64x8x128_0_1_4_2_3) shapeCasts_S1x256x64x8x128_S1x16384x1024 := rfl

theorem band_real (hz : ∀ R f, f.val < 2048 → Cert.Mem.IsReal (zOf V R f)) (hT : ∀ h e, Cert.Mem.IsReal (tableOf V h e)) (h : Fin 8) (R : Fin 16384)
    (j : Fin 576) (hj : 512 ≤ 64 * (R.val / 64) + j.val) : Cert.Mem.IsReal (Cert.Mix.band (zOf V) (tableOf V) h R j) := by
  unfold Cert.Mix.band Cert.Mix.score
  rw [dif_pos hj]
  exact (Cert.Mem.IsReal.sum _ fun d => (hz _ _ (by show 128 * h.val + d.val < 2048; omega)).mul
    (hz _ _ (by show 1024 + 128 * h.val + d.val < 2048; omega))).add (hT _ _)

theorem band_score (hz : ∀ R f, f.val < 2048 → Cert.Mem.IsReal (zOf V R f)) (hT : ∀ h e, Cert.Mem.IsReal (tableOf V h e)) (h : Fin 8) (R : Fin 16384)
    (j : Fin 576) : Cert.Mix.IsScore (Cert.Mix.band (zOf V) (tableOf V) h R j) := by
  by_cases hj : 512 ≤ 64 * (R.val / 64) + j.val
  · exact .inr (band_real V hz hT h R j hj)
  · left
    unfold Cert.Mix.band
    rw [dif_neg hj]

theorem attended_at (hz : ∀ R f, f.val < 2048 → Cert.Mem.IsReal (zOf V R f)) (hT : ∀ h e, Cert.Mem.IsReal (tableOf V h e))
    (he : ∀ (c : Fin 256) (h : Fin 8) (r : Fin 64) (j : Fin 576), res_main_v75 V (ix5 0 c h r j) = Ideal.exp (Cert.Mix.band (zOf V) (tableOf V) h ⟨64 * c.val + r.val, by omega⟩ j
      - Cert.Mix.topOf (Cert.Mix.band (zOf V) (tableOf V) h ⟨64 * c.val + r.val, by omega⟩)))
    (R : Fin 16384) (f : Fin 1024) :
    res_main_v82 V (ix3 0 R f) = Cert.Mix.attended (zOf V) (tableOf V) R f := by
  rw [attended_eq]
  pointwise [he]
  have eR : ∀ h, (⟨64 * (R.val / 64) + R.val % 64, h⟩ : Fin 16384) = R := fun _ => Fin.ext (by show 64 * (R.val / 64) + R.val % 64 = R.val; omega)
  simp only [eR]
  have hs := band_score V hz hT ⟨f.val / 128, by omega⟩ R
  have hj := band_real V hz hT ⟨f.val / 128, by omega⟩ R ⟨575, by omega⟩ (by show 512 ≤ 64 * (R.val / 64) + 575; omega)
  refine (Cert.Mix.soft_weights _ hs _ hj (Cert.Mix.topOf_real hs _ hj)).trans ?_
  unfold Cert.Mix.attended Cert.Mix.soft
  refine congrArg (Ideal.div · _) (Finset.sum_congr rfl fun j _ => ?_)
  by_cases hv : 512 ≤ 64 * (R.val / 64) + j.val
  · refine (congrArg (_ * ·) (vals_at V ⟨R.val / 64, by omega⟩ j ⟨f.val / 128, by omega⟩ ⟨f.val % 128, by omega⟩ hv)).trans ?_
    unfold Cert.Mix.bandVal
    rw [dif_pos hv]
    exact congrArg (fun q => _ * zOf V _ q) (Fin.ext (by show 2048 + 128 * (f.val / 128) + f.val % 128 = 2048 + f.val; omega))
  · have eb : Cert.Mix.band (zOf V) (tableOf V) ⟨f.val / 128, by omega⟩ R j = ⊥ := by
      unfold Cert.Mix.band
      rw [dif_neg hv]
    rw [eb, Cert.Mix.exp_bot, zero_mul, zero_mul]

end Cert.Reference4Ideal.Mix

end
-- ==== Proof.Mix.RefGate.lean ====
module

public import proofs.«01_k».proof.Proof.Mix.Reference

/-! The reference's gated columns. -/

@[expose] public section

set_option maxRecDepth 16384

noncomputable section

namespace Cert.Reference4Ideal.Mix

open Cert.Reference4Ideal Cert.Reference4Ideal.Gen Cert.Reference4Ideal.Value Idealize.ShloMosaic Idealize.ShloMosaic.TcCoe Idealize.SL.Sem

variable (V : Valuation τ sig (Elt Ideal))

/-- The gate's masked weights. -/
def causal : IVec S128x128 1 :=
  cmpi .sge (broadcastInDim S128x128 ![0, 1] bcast_S128x1_S128x128_0_1 (select (andi (cmpi .ne (signi (res_main_v89 V)) (broadcastInDim S128x1 ![] bcast_S_S128x1 (signi (res_main_call4_v0 V)))) (cmpi .ne (Host.remsi (res_main_v89 V) (broadcastInDim S128x1 ![] bcast_S_S128x1 (res_main_call4_v0 V))) (broadcastInDim S128x1 ![] bcast_S_S128x1 (constantI S_ 32 0#32)))) (subi (res_main_call4_v2 V) (broadcastInDim S128x1 ![] bcast_S_S128x1 (constantI S_ 32 1#32))) (res_main_call4_v2 V))) (broadcastInDim S128x128 ![0, 1] bcast_S1x128_S128x128_0_1 (select (andi (cmpi .ne (signi (res_main_v91 V)) (broadcastInDim S1x128 ![] bcast_S_S1x128 (signi (res_main_call5_v0 V)))) (cmpi .ne (Host.remsi (res_main_v91 V) (broadcastInDim S1x128 ![] bcast_S_S1x128 (res_main_call5_v0 V))) (broadcastInDim S1x128 ![] bcast_S_S1x128 (constantI S_ 32 0#32)))) (subi (res_main_call5_v2 V) (broadcastInDim S1x128 ![] bcast_S_S1x128 (constantI S_ 32 1#32))) (res_main_call5_v2 V)))

/-- The floor of a position by 64, as the words compute it. -/
def chunkW (w : BitVec 32) : BitVec 32 :=
  Scalar.select
    (IntOp.andi
      (IntOp.cmpi .ne (if w = 0 then (0 : BitVec 32) else if w.msb = true then -1 else 1)
        (if (64#32 : BitVec 32) = 0 then 0 else if (64#32 : BitVec 32).msb = true then -1 else 1))
      (IntOp.cmpi .ne (IntOp.remsi .host w 64#32) 0#32))
    (IntOp.subi (IntOp.divsi .host w 64#32) 1#32) (IntOp.divsi .host w 64#32)

theorem chunkW_eq : ∀ a : Fin 128, chunkW (BitVec.ofNat 32 a.val) = BitVec.ofNat 32 (a.val / 64) := by
  decide +kernel

theorem later_eq : ∀ p q : Fin 2, IntOp.cmpi .sge (BitVec.ofNat 32 p.val) (BitVec.ofNat 32 q.val) = if q.val ≤ p.val then 1#1 else 0#1 := by
  decide +kernel

theorem causal_at (a t : Fin 128) : causal V (ix2 a t) = if t.val / 64 ≤ a.val / 64 then 1#1 else 0#1 := by
  pointwise [causal, res_main_v89, res_main_v91, res_main_call4_v0, res_main_call5_v0, res_main_call4_v2, res_main_call5_v2]
  show IntOp.cmpi .sge (chunkW (BitVec.ofNat 32 a.val)) (chunkW (BitVec.ofNat 32 t.val)) = _
  rw [chunkW_eq, chunkW_eq]
  exact later_eq ⟨a.val / 64, by omega⟩ ⟨t.val / 64, by omega⟩

end Cert.Reference4Ideal.Mix

end
-- ==== Proof.Mix.RefGated.lean ====
module

public import proofs.«01_k».proof.Proof.Mix.RefGate

/-! The reference's gated columns. -/

@[expose] public section

set_option maxRecDepth 16384

noncomputable section

namespace Cert.Reference4Ideal.Mix

open Cert.Reference4Ideal Cert.Reference4Ideal.Gen Cert.Reference4Ideal.Value Idealize.ShloMosaic Idealize.ShloMosaic.TcCoe Idealize.SL.Sem

variable (V : Valuation τ sig (Elt Ideal))

theorem gated_eq : res_main_v106 V
    = mulf (extractStridedSlice S1x16384x1024 ![0, 0, 3072] (res_main_v1 V) slices_S1x16384x5120_S1x16384x1024_0_0_3072) (shapeCast _ (addf (transpose S1x128x128x8x128 [1, 2, 4, 0, 3] (Host.dotGeneral (φ₁ := .f32) dot_S1x128x128x8x128_S8x128x128_S8x1x128x128x128_2_2_014_1_3_0 none (shapeCast _ (extractStridedSlice S1x16384x1024 ![0, 0, 4096] (res_main_v1 V) slices_S1x16384x5120_S1x16384x1024_0_0_4096) shapeCasts_S1x16384x1024_S1x128x128x8x128) (select (broadcastInDim S8x128x128 ![0, 1, 2] bcast_S1x128x128_S8x128x128_0_1_2 (broadcastInDim S1x128x128 ![1, 2] bcast_S128x128_S1x128x128_1_2 (causal V))) (shapeCast _ (extractStridedSlice S1x8x128x128 ![1, 0, 0, 0] (V (Proc.devRef .tc main_arg3)) slices_S2x8x128x128_S1x8x128x128_1_0_0_0) shapeCasts_S1x8x128x128_S8x128x128) (broadcastInDim S8x128x128 ![] bcast_S_S8x128x128 (constant S_ .f32 0x00000000#32)))) transposes_S8x1x128x128x128_S1x128x128x8x128_1_2_4_0_3) (broadcastInDim S1x128x128x8x128 ![0, 1, 2, 3, 4] bcast_S1x1x128x8x1_S1x128x128x8x128_0_1_2_3_4 (broadcastInDim S1x1x128x8x1 ![2, 3] bcast_S128x8_S1x1x128x8x1_2_3 (transpose S128x8 [1, 0] (shapeCast _ (extractStridedSlice S1x8x128 ![1, 0, 0] (V (Proc.devRef .tc main_arg4)) slices_S2x8x128_S1x8x128_1_0_0) shapeCasts_S1x8x128_S8x128) transposes_S8x128_S128x8_1_0)))) shapeCasts_S1x128x128x8x128_S1x16384x1024) := rfl

def weightOf (g : Fin 8) (a t : Fin 128) : EReal := V (Proc.devRef .tc main_arg3) (ix4 1 g a t)
def offsetOf (g : Fin 8) (a : Fin 128) : EReal := V (Proc.devRef .tc main_arg4) (ix3 1 g a)

theorem gated_at (hc : ∀ a t : Fin 128, causal V (ix2 a t) = if t.val / 64 ≤ a.val / 64 then 1#1 else 0#1) (R : Fin 16384) (f : Fin 1024) :
    res_main_v106 V (ix3 0 R f) = Cert.Mix.gated (zOf V) (weightOf V) (offsetOf V) R f := by
  rw [gated_eq]
  unfold Cert.Mix.gated Cert.Mix.gate weightOf offsetOf
  pointwise [z_at, hc]
  refine congrArg (_ * ·) (congrArg (· + _) (Finset.sum_congr rfl fun x _ => ?_))
  have er : (⟨R.val / 128 * 128 + x.val, by omega⟩ : Fin 16384) = ⟨128 * (R.val / 128) + x.val, by omega⟩ := Fin.ext (by
    show R.val / 128 * 128 + x.val = 128 * (R.val / 128) + x.val; omega)
  rw [er]
  by_cases hx : x.val / 64 ≤ R.val % 128 / 64
  · rw [if_pos hx, if_pos hx]
    exact (if_pos rfl).trans (mul_comm _ _)
  · rw [if_neg hx, if_neg hx, zero_mul]
    exact if_neg (by decide)

end Cert.Reference4Ideal.Mix

end
-- ==== Proof.Mix.RefOut.lean ====
module

public import proofs.«01_k».proof.Proof.Mix.RefMask
public import proofs.«01_k».proof.Proof.Mix.RefExp
public import proofs.«01_k».proof.Proof.Mix.RefAtt
public import proofs.«01_k».proof.Proof.Mix.RefGated

/-! The reference's result, read at an index. -/

@[expose] public section

set_option maxRecDepth 16384

noncomputable section

namespace Cert.Reference4Ideal.Mix

open Cert.Reference4Ideal Cert.Reference4Ideal.Gen Cert.Reference4Ideal.Value Idealize.ShloMosaic Idealize.ShloMosaic.TcCoe Idealize.SL.Sem

variable (V : Valuation τ sig (Elt Ideal))

/-- The residual, the two gains and the projection. -/
def residual (R : Fin 16384) (j : Fin 2048) : EReal := V (Proc.devRef .tc main_arg0) (ix3 0 R j)
def gainA (k : Fin 1024) : EReal := V (Proc.devRef .tc main_arg5) (ix2 1 k)
def gainB (k : Fin 1024) : EReal := V (Proc.devRef .tc main_arg6) (ix2 1 k)
def project (k j : Fin 2048) : EReal := V (Proc.devRef .tc main_arg7) (ix3 1 k j)

/-- Rows divided by the root of their mean square and scaled. -/
def normed (x : FVec Ideal S1x16384x1024 .f32) (g : FVec Ideal S2x1024 .f32) : FVec Ideal S1x16384x1024 .f32 :=
  mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (shapeCast _ (extractStridedSlice S1x1024 ![1, 0] g slices_S2x1024_S1x1024_1_0) shapeCasts_S1x1024_S1024)))

theorem normed_at (x : FVec Ideal S1x16384x1024 .f32) (g : FVec Ideal S2x1024 .f32) (R : Fin 16384) (f : Fin 1024) :
    normed x g (ix3 0 R f) = Cert.Mix.normed (fun k => x (ix3 0 R k)) (fun k => g (ix2 1 k)) f := by
  pointwise [normed, Cert.Mix.normed]

/-- The two sides' columns, projected, added. -/
def added (a b : FVec Ideal S1x16384x1024 .f32) : FVec Ideal S16384x2048 .f32 :=
  shapeCast _ (addf (V (Proc.devRef .tc main_arg0)) (Host.dotGeneral (φ₁ := .f32) (φ₂ := .f32) dot_S1x16384x2048_S2048x2048_S1x16384x2048_2_0_01_1_n_n none (concatenate S1x16384x2048 2 [⟨S1x16384x1024, a⟩, ⟨S1x16384x1024, b⟩] concatenates_S1x16384x1024_S1x16384x1024_S1x16384x2048_d2) (shapeCast _ (extractStridedSlice S1x2048x2048 ![1, 0, 0] (V (Proc.devRef .tc main_arg7)) slices_S2x2048x2048_S1x2048x2048_1_0_0) shapeCasts_S1x2048x2048_S2048x2048))) shapeCasts_S1x16384x2048_S16384x2048

theorem added_at (a b : FVec Ideal S1x16384x1024 .f32) (R : Fin 16384) (j : Fin 2048) :
    added V a b (ix2 R j) = residual V R j + ∑ k : Fin 2048, Cert.Mix.sides (fun f => a (ix3 0 R f)) (fun f => b (ix3 0 R f)) k * project V k j := by
  unfold residual project Cert.Mix.sides
  pointwise [added]

/-- The layer's output. -/
def out : FVec Ideal S16384x2048 .f32 :=
  added V (normed (res_main_v82 V) (V (Proc.devRef .tc main_arg5))) (normed (res_main_v106 V) (V (Proc.devRef .tc main_arg6)))

theorem out_at (hz : ∀ R f, f.val < 2048 → Cert.Mem.IsReal (zOf V R f)) (hT : ∀ h e, Cert.Mem.IsReal (tableOf V h e)) (R : Fin 16384) (j : Fin 2048) :
    out V (ix2 R j) = residual V R j
      + ∑ k : Fin 2048, Cert.Mix.sides (Cert.Mix.normed (Cert.Mix.attended (zOf V) (tableOf V) R) (gainA V))
          (Cert.Mix.normed (Cert.Mix.gated (zOf V) (weightOf V) (offsetOf V) R) (gainB V)) k * project V k j := by
  unfold out
  rw [added_at]
  simp only [normed_at, attended_at V hz hT (exps_at V (masked_at V)), gated_at V (causal_at V)]
  rfl

end Cert.Reference4Ideal.Mix

end
-- ==== Proof.Mix.Run.lean ====
module

public import proofs.«01_k».proof.Proof.Mix.Point
public import proofs.«01_k».proof.Proof.Mix.Finite
public import proofs.«01_k».proof.Proof.Mix.RefOut

/-! The mixing layer's launch run, and its result against the reference's. -/

@[expose] public section

set_option maxRecDepth 16384

noncomputable section

namespace Cert.Kernel4Ideal.Mix

open Cert.Kernel4Ideal Cert.Kernel4Ideal.Gen Idealize.ShloMosaic Idealize.ShloMosaic.TcCoe Idealize.SL.Sem

variable (m : (ℓ : Loc nD τ sig) → Buf (Elt Ideal) ℓ)

/-- The program run, with the queries, the keys and the table real: its result array holds the mixed rows, its arguments are unchanged. -/
theorem run (hf : ∀ c, Finite m c) (ρ : Dev nD → PrngReg) :
    θ_run (defs (F := Ideal)) (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 14).trans (array_eq m c (hf c)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 9).trans (((dats m 0 c).arrAt_in 9 rfl _).trans ((A_eq m c 9).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

/-- The mixed rows are the reference's, of arguments that agree. -/
theorem result_eq (c : Dev nD) (hf : Finite m c) (V : Valuation Cert.Reference4Ideal.τ Cert.Reference4Ideal.sig (Elt Ideal))
    (h0 : V (Proc.devRef .tc Cert.Reference4Ideal.main_arg0) = m ((c : Thread nD τ).loc main_arg0))
    (h1 : V (Proc.devRef .tc Cert.Reference4Ideal.main_arg1) = m ((c : Thread nD τ).loc main_arg1))
    (h2 : V (Proc.devRef .tc Cert.Reference4Ideal.main_arg2) = m ((c : Thread nD τ).loc main_arg2))
    (h3 : V (Proc.devRef .tc Cert.Reference4Ideal.main_arg3) = m ((c : Thread nD τ).loc main_arg3))
    (h4 : V (Proc.devRef .tc Cert.Reference4Ideal.main_arg4) = m ((c : Thread nD τ).loc main_arg4))
    (h5 : V (Proc.devRef .tc Cert.Reference4Ideal.main_arg5) = m ((c : Thread nD τ).loc main_arg5))
    (h6 : V (Proc.devRef .tc Cert.Reference4Ideal.main_arg6) = m ((c : Thread nD τ).loc main_arg6))
    (h7 : V (Proc.devRef .tc Cert.Reference4Ideal.main_arg7) = m ((c : Thread nD τ).loc main_arg7)) :
    Cert.Reference4Ideal.Mix.out V = result m c := by
  have ez : Cert.Reference4Ideal.Mix.zOf V = zAt m c := funext fun R => funext fun f => congrFun h1 (ix2 R f)
  have eT : Cert.Reference4Ideal.Mix.tableOf V = table m c := funext fun h => funext fun e => congrFun h2 (ix3 1 h e)
  have ew : Cert.Reference4Ideal.Mix.weightOf V = weights m c := funext fun g => funext fun a => funext fun t => congrFun h3 (ix4 1 g a t)
  have eo : Cert.Reference4Ideal.Mix.offsetOf V = offsets m c := funext fun g => funext fun a => congrFun h4 (ix3 1 g a)
  have er : Cert.Reference4Ideal.Mix.residual V = residual m c := funext fun R => funext fun j => congrFun h0 (ix3 0 R j)
  have ea : Cert.Reference4Ideal.Mix.gainA V = gainA m c := funext fun k => congrFun h5 (ix2 1 k)
  have eb : Cert.Reference4Ideal.Mix.gainB V = gainB m c := funext fun k => congrFun h6 (ix2 1 k)
  have ep : Cert.Reference4Ideal.Mix.project V = project m c := funext fun k => funext fun j => congrFun h7 (ix3 1 k j)
  funext i
  idx_vars i
  refine (Cert.Reference4Ideal.Mix.out_at V (by rw [ez]; exact hf.1) (by rw [eT]; exact hf.2) i0 i1).trans ?_
  rw [ez, eT, ew, eo, er, ea, eb, ep]
  rfl

end Cert.Kernel4Ideal.Mix

end
-- ==== Proof.lean ====
/- The claims of the feed-forward layer, of the memory attention, of the input projection and of the mixing layer, assembled
from the modules under Proof/Ffn, Proof/Mem, Proof/InProj and Proof/Mix. -/
module

public import proofs.«01_k».proof.Defs
public import proofs.«01_k».proof.Proof.Gen.Kernel.Frame
public import proofs.«01_k».proof.Proof.Gen.ReferenceIdeal.Run
public import proofs.«01_k».proof.Proof.Ffn.Run
public import proofs.«01_k».proof.Proof.InProj.Run
public import proofs.«01_k».proof.Proof.Gen.Kernel2.Frame
public import proofs.«01_k».proof.Proof.Gen.Kernel2Ideal.Frame
public import proofs.«01_k».proof.Proof.Mem.Run
public import proofs.«01_k».proof.Proof.Gen.Reference2Ideal.Run
public import proofs.«01_k».proof.Proof.Gen.Kernel3.Frame
public import proofs.«01_k».proof.Proof.Gen.Pre_finite4
public import proofs.«01_k».proof.Proof.Mix.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel3Ideal.Frame
public import proofs.«01_k».proof.Proof.Gen.Reference3Ideal.Run
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Ffn.run m ρ, ?_⟩
  refine (θ_run Cert.ReferenceIdeal.defs _ _).mono (fun _ h c => ⟨?_, (h c).2⟩) (Cert.ReferenceIdeal.Value.run (F := Ideal) m' ρ')
  rw [(h c).1, Cert.KernelIdeal.Ffn.result_eq]
  refine (Cert.ReferenceIdeal.Ffn.out_eq m' c).trans ?_
  simp only [hagree c]

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal_pre_finite : algebraic_Kernel2Ideal_Reference2Ideal_pre_finite := by
  intro m ρ m' ρ' hpre hagree
  refine ⟨_, Cert.Kernel2Ideal.Mem.run m ρ, ?_⟩
  refine (θ_run Cert.Reference2Ideal.defs _ _).mono (fun _ h c => ⟨?_, (h c).2⟩) (Cert.Reference2Ideal.Value.run (F := Ideal) m' ρ')
  rw [(h c).1, Cert.Kernel2Ideal.Mem.result_eq m c hpre]
  refine (Cert.Reference2Ideal.Mem.out_eq m' c).trans ?_
  simp only [hagree c]

theorem quiescent_Reference3Ideal : quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, _, Cert.Kernel3Ideal.InProj.run m ρ, ?_⟩
  refine (θ_run Cert.Reference3Ideal.defs _ _).mono (fun _ h c => ⟨?_, ?_, (h c).2.2⟩)
    (Cert.Reference3Ideal.Value.run (F := Ideal) m' ρ')
  · rw [(h c).1, Cert.Kernel3Ideal.InProj.result_eq]
    refine (Cert.Reference3Ideal.InProj.out_eq m' c).trans ?_
    simp only [hagree c]
  · rw [(h c).2.1, Cert.Kernel3Ideal.InProj.cast_slab]
    simp only [hagree c]

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves_Kernel4_Kernel4Ideal : preserves_Kernel4_Kernel4Ideal :=
  IdealRules.named_const.statement Cert.Kernel4Ideal.κ "mask" .f32 0xF149F2CA#32 ⊥ rfl

theorem algebraic_Kernel4Ideal_Reference4Ideal_pre_finite4 : algebraic_Kernel4Ideal_Reference4Ideal_pre_finite4 := by
  intro m ρ m' ρ' hpre hagree
  refine ⟨_, Cert.Kernel4Ideal.Mix.run m (fun c => Cert.Kernel4Ideal.Mix.finite m c hpre) ρ, ?_⟩
  refine (θ_run Cert.Reference4Ideal.defs _ _).mono (fun _ h c => ⟨?_, (h c).2⟩) (Cert.Reference4Ideal.Value.run (F := Ideal) m' ρ')
  obtain ⟨a0, a1, a2, a3, a4, a5, a6, a7⟩ := hagree c
  exact (h c).1.trans (Cert.Kernel4Ideal.Mix.result_eq m c (Cert.Kernel4Ideal.Mix.finite m c hpre) (StableHlo.launchContents m' c) a0 a1 a2 a3 a4 a5 a6 a7)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.Gen.facts, Cert.Pre_finite4.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ,
  fun m ρ _ => Cert.Kernel2Ideal.Gen.frame m ρ, quiescent_Reference2Ideal, fun m ρ _ => quiescent_Reference2Ideal m ρ trivial,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ,
  fun m ρ _ => Cert.Kernel4Ideal.Gen.frame m ρ, quiescent_Reference4Ideal, fun m ρ _ => quiescent_Reference4Ideal m ρ trivial,
  (trivial : preserves_Kernel_KernelIdeal), algebraic_KernelIdeal_ReferenceIdeal,
  (trivial : preserves_Kernel2_Kernel2Ideal), algebraic_Kernel2Ideal_Reference2Ideal_pre_finite,
  (trivial : preserves_Kernel3_Kernel3Ideal), algebraic_Kernel3Ideal_Reference3Ideal,
  preserves_Kernel4_Kernel4Ideal, algebraic_Kernel4Ideal_Reference4Ideal_pre_finite4⟩

end Cert.Proof

end
